-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S100000x128 : Shape := ⟨2, ![100000, 128]⟩
abbrev S100000 : Shape := ⟨1, ![100000]⟩
abbrev S128x1 : Shape := ⟨2, ![128, 1]⟩
abbrev S1 : Shape := ⟨1, ![1]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : IVec S100000 32) (main_arg2 : FVec F S128x1 .f32) (main_arg3 : FVec F S1 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 4096#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Kernel.lean ====
abbrev S100000x128 : Shape := ⟨2, ![100000, 128]⟩
abbrev S100000 : Shape := ⟨1, ![100000]⟩
abbrev S128x1 : Shape := ⟨2, ![128, 1]⟩
abbrev S1 : Shape := ⟨1, ![1]⟩
abbrev S1x128 : Shape := ⟨2, ![1, 128]⟩
abbrev S4x1x12544 : Shape := ⟨3, ![4, 1, 12544]⟩
abbrev S12544x128 : Shape := ⟨2, ![12544, 128]⟩
abbrev S1x1x12544 : Shape := ⟨3, ![1, 1, 12544]⟩
abbrev S1x12544 : Shape := ⟨2, ![1, 12544]⟩
abbrev S50176 : Shape := ⟨1, ![50176]⟩
abbrev S4096 : Shape := ⟨1, ![4096]⟩
abbrev S3136 : Shape := ⟨1, ![3136]⟩
abbrev S16x256 : Shape := ⟨2, ![16, 256]⟩
abbrev S256 : Shape := ⟨1, ![256]⟩
abbrev S_ : Shape := ⟨0, ![]⟩
abbrev S16x4096 : Shape := ⟨2, ![16, 4096]⟩
abbrev S16 : Shape := ⟨1, ![16]⟩
abbrev S1x4096 : Shape := ⟨2, ![1, 4096]⟩
abbrev S1x16 : Shape := ⟨2, ![1, 16]⟩
abbrev S2784 : Shape := ⟨1, ![2784]⟩

abbrev nBuf : Table → Nat
  | .hbm => 11
  | .local .tc .vmem => 10
  | .local .tc .smem => 2
  | .shared => 2
  | .local .scVector .vmem => 12
  | _ => 0

abbrev bufTy : (tb : Table) → Fin (nBuf tb) → BufTy
  | .hbm, ⟨0, _⟩ => ⟨S100000x128, .f32⟩
  | .hbm, ⟨1, _⟩ => ⟨S100000, .i32⟩
  | .hbm, ⟨2, _⟩ => ⟨S128x1, .f32⟩
  | .hbm, ⟨3, _⟩ => ⟨S1, .f32⟩
  | .hbm, ⟨4, _⟩ => ⟨S1x128, .f32⟩
  | .hbm, ⟨5, _⟩ => ⟨S4x1x12544, .f32⟩
  | .hbm, ⟨6, _⟩ => ⟨S50176, .f32⟩
  | .hbm, ⟨7, _⟩ => ⟨S4096, .f32⟩
  | .hbm, ⟨8, _⟩ => ⟨S4x1x12544, .f32⟩
  | .hbm, ⟨9, _⟩ => ⟨S50176, .f32⟩
  | .hbm, ⟨10, _⟩ => ⟨S4096, .f32⟩
  | .local .tc .vmem, ⟨0, _⟩ => ⟨S12544x128, .f32⟩
  | .local .tc .vmem, ⟨1, _⟩ => ⟨S12544x128, .f32⟩
  | .local .tc .vmem, ⟨2, _⟩ => ⟨S1x128, .f32⟩
  | .local .tc .vmem, ⟨3, _⟩ => ⟨S1x1x12544, .f32⟩
  | .local .tc .vmem, ⟨4, _⟩ => ⟨S1x1x12544, .f32⟩
  | .local .tc .vmem, ⟨5, _⟩ => ⟨S12544x128, .f32⟩
  | .local .tc .vmem, ⟨6, _⟩ => ⟨S12544x128, .f32⟩
  | .local .tc .vmem, ⟨7, _⟩ => ⟨S1x128, .f32⟩
  | .local .tc .vmem, ⟨8, _⟩ => ⟨S1x1x12544, .f32⟩
  | .local .tc .vmem, ⟨9, _⟩ => ⟨S1x1x12544, .f32⟩
  | .local .tc .smem, ⟨0, _⟩ => ⟨S1, .f32⟩
  | .local .tc .smem, ⟨1, _⟩ => ⟨S1, .f32⟩
  | .shared, ⟨0, _⟩ => ⟨S16x4096, .f32⟩
  | .shared, ⟨1, _⟩ => ⟨S16x4096, .f32⟩
  | .local .scVector .vmem, ⟨0, _⟩ => ⟨S3136, .f32⟩
  | .local .scVector .vmem, ⟨1, _⟩ => ⟨S3136, .i32⟩
  | .local .scVector .vmem, ⟨2, _⟩ => ⟨S4096, .f32⟩
  | .local .scVector .vmem, ⟨3, _⟩ => ⟨S16x256, .f32⟩
  | .local .scVector .vmem, ⟨4, _⟩ => ⟨S256, .f32⟩
  | .local .scVector .vmem, ⟨5, _⟩ => ⟨S256, .f32⟩
  | .local .scVector .vmem, ⟨6, _⟩ => ⟨S3136, .f32⟩
  | .local .scVector .vmem, ⟨7, _⟩ => ⟨S3136, .i32⟩
  | .local .scVector .vmem, ⟨8, _⟩ => ⟨S4096, .f32⟩
  | .local .scVector .vmem, ⟨9, _⟩ => ⟨S16x256, .f32⟩
  | .local .scVector .vmem, ⟨10, _⟩ => ⟨S256, .f32⟩
  | .local .scVector .vmem, ⟨11, _⟩ => ⟨S256, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => false
  | ⟨19, _⟩ => false
  | ⟨20, _⟩ => false
  | ⟨21, _⟩ => false
  | ⟨22, _⟩ => false
  | ⟨23, _⟩ => false
  | ⟨24, _⟩ => false
  | _ => false

abbrev sig : RefSig :=
  ofTables nBuf rfl bufTy 5 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v2_scv : Ref sig .scVector := ⟨.hbm, 6, rfl⟩
abbrev main_arg1_scv : Ref sig .scVector := ⟨.hbm, 1, rfl⟩
abbrev main_v3_scv : Ref sig .scVector := ⟨.hbm, 7, rfl⟩
abbrev main_v5_scv : Ref sig .scVector := ⟨.hbm, 9, rfl⟩
abbrev main_v6_scv : Ref sig .scVector := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg3_1 : Ref sig .tc := ⟨.vmem, 4, rfl⟩
abbrev cc2_stg0_0 : Ref sig .tc := ⟨.vmem, 5, rfl⟩
abbrev cc2_stg0_1 : Ref sig .tc := ⟨.vmem, 6, rfl⟩
abbrev cc2_stg1_0 : Ref sig .tc := ⟨.vmem, 7, rfl⟩
abbrev cc2_stg3_0 : Ref sig .tc := ⟨.vmem, 8, rfl⟩
abbrev cc2_stg3_1 : Ref sig .tc := ⟨.vmem, 9, rfl⟩
abbrev cc0_stg2_0 : Ref sig .tc := ⟨.smem, 0, rfl⟩
abbrev cc2_stg2_0 : Ref sig .tc := ⟨.smem, 1, rfl⟩
abbrev cc1_scratch7 : Ref sig .scVector := ⟨.shared, 0, rfl⟩
abbrev cc3_scratch7 : Ref sig .scVector := ⟨.shared, 1, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc3_scratch0 : Ref sig .scVector := ⟨.vmem, 6, rfl⟩
abbrev cc3_scratch1 : Ref sig .scVector := ⟨.vmem, 7, rfl⟩
abbrev cc3_scratch2 : Ref sig .scVector := ⟨.vmem, 8, rfl⟩
abbrev cc3_scratch3 : Ref sig .scVector := ⟨.vmem, 9, rfl⟩
abbrev cc3_scratch4 : Ref sig .scVector := ⟨.vmem, 10, rfl⟩
abbrev cc3_scratch5 : Ref sig .scVector := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S12544x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x12544 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![1, 16], ![false, false]⟩

def k1_off1 (i : grid1.Coords) : Fin 1 → Nat :=
  let arg1 : BitVec 32 := BitVec.ofNat 32 (i 1).val
  let c3136_i32 : BitVec 32 := 3136#32
  let v0 : BitVec 32 := Scalar.muli arg1 c3136_i32
  ![v0.toNat]
def k1_cond1 (i : grid1.Coords) : BitVec 1 :=
  let arg1 : BitVec 32 := BitVec.ofNat 32 (i 1).val
  let c15_i32 : BitVec 32 := 15#32
  let v4 : BitVec 1 := Scalar.cmpi .slt arg1 c15_i32
  let v5 : BitVec 32 := Scalar.extui v4
  let c0_i32_0 : BitVec 32 := 0#32
  let v6 : BitVec 1 := Scalar.cmpi .ne v5 c0_i32_0
  v6

def k1_off2 (i : grid1.Coords) : Fin 1 → Nat :=
  let c0_i32 : BitVec 32 := 0#32
  let arg1 : BitVec 32 := BitVec.ofNat 32 (i 1).val
  let c3136_i32 : BitVec 32 := 3136#32
  let v0 : BitVec 32 := Scalar.muli arg1 c3136_i32
  let v1 : BitVec 32 := Scalar.addi c0_i32 v0
  ![v1.toNat]
def k1_cond2 (i : grid1.Coords) : BitVec 1 :=
  let arg1 : BitVec 32 := BitVec.ofNat 32 (i 1).val
  let c15_i32_1 : BitVec 32 := 15#32
  let v7 : BitVec 1 := Scalar.cmpi .eq arg1 c15_i32_1
  let v8 : BitVec 32 := Scalar.extui v7
  let c0_i32_2 : BitVec 32 := 0#32
  let v9 : BitVec 1 := Scalar.cmpi .ne v8 c0_i32_2
  v9

def k1_off3 (i : grid1.Coords) : Fin 1 → Nat :=
  let c0_i32 : BitVec 32 := 0#32
  let arg1 : BitVec 32 := BitVec.ofNat 32 (i 1).val
  let c3136_i32 : BitVec 32 := 3136#32
  let v0 : BitVec 32 := Scalar.muli arg1 c3136_i32
  let v1 : BitVec 32 := Scalar.addi c0_i32 v0
  ![v1.toNat]
@[reducible] def k1_t1_loop : Scf.Loop 32 :=
  let c0_i32_4 : BitVec 32 := 0#32
  let c32_i32 : BitVec 32 := 32#32
  let v11 : BitVec 32 := Scalar.addi c0_i32_4 c32_i32
  let c1_i32 : BitVec 32 := 1#32
  ⟨c0_i32_4, v11, c1_i32⟩
def k1_off4 (k1_t1 : Fin k1_t1_loop.trips) (c0_i32_15 : BitVec 32) : Fin 1 → Nat :=
  let c0_i32_4 : BitVec 32 := 0#32
  let c1_i32 : BitVec 32 := 1#32
  let arg13 : BitVec 32 := Scf.iv c0_i32_4 c1_i32 k1_t1
  let c128_i32 : BitVec 32 := 128#32
  let v18 : BitVec 32 := Scalar.muli arg13 c128_i32
  let v19 : BitVec 32 := Scalar.addi v18 c0_i32_15
  let v20 : Index := Scalar.indexCast v19
  ![v20.toNat]
@[reducible] def k1_t2_loop : Scf.Loop 32 :=
  let c0_i32_7 : BitVec 32 := 0#32
  let c49_i32 : BitVec 32 := 49#32
  let v14 : BitVec 32 := Scalar.addi c0_i32_7 c49_i32
  let c1_i32_8 : BitVec 32 := 1#32
  ⟨c0_i32_7, v14, c1_i32_8⟩
def k1_off5 (k1_t2 : Fin k1_t2_loop.trips) : Fin 1 → Nat :=
  let c0_i32_7 : BitVec 32 := 0#32
  let c1_i32_8 : BitVec 32 := 1#32
  let arg13 : BitVec 32 := Scf.iv c0_i32_7 c1_i32_8 k1_t2
  let c64_i32 : BitVec 32 := 64#32
  let v18 : BitVec 32 := Scalar.muli arg13 c64_i32
  let c0_i32_15 : BitVec 32 := 0#32
  let v19 : BitVec 32 := Scalar.addi v18 c0_i32_15
  let v20 : Index := Scalar.indexCast v19
  ![v20.toNat]

def k1_chk1 (v21 : IVec S16 32) : Prop :=
  (∀ a x, ((![v21] : Fin 1 → IVec S16 32) a x).toNat < S4096.size a)
theorem k1_idx1_inb : ∀ (v21 : IVec S16 32) (k1_hw1 : k1_chk1 v21), ∀ a x, ((![v21] : Fin 1 → IVec S16 32) a x).toNat < S4096.size a := fun v21 k1_hw1 => k1_hw1
def k1_off6 (k1_t2 : Fin k1_t2_loop.trips) : Fin 1 → Nat :=
  let c0_i32_7 : BitVec 32 := 0#32
  let c1_i32_8 : BitVec 32 := 1#32
  let arg13 : BitVec 32 := Scf.iv c0_i32_7 c1_i32_8 k1_t2
  let c64_i32_16 : BitVec 32 := 64#32
  let v24 : BitVec 32 := Scalar.muli arg13 c64_i32_16
  let c16_i32_17 : BitVec 32 := 16#32
  let v25 : BitVec 32 := Scalar.addi v24 c16_i32_17
  let v26 : Index := Scalar.indexCast v25
  ![v26.toNat]

def k1_chk2 (v27 : IVec S16 32) : Prop :=
  (∀ a x, ((![v27] : Fin 1 → IVec S16 32) a x).toNat < S4096.size a)
theorem k1_idx2_inb : ∀ (v27 : IVec S16 32) (k1_hw2 : k1_chk2 v27), ∀ a x, ((![v27] : Fin 1 → IVec S16 32) a x).toNat < S4096.size a := fun v27 k1_hw2 => k1_hw2
def k1_off7 (k1_t2 : Fin k1_t2_loop.trips) : Fin 1 → Nat :=
  let c0_i32_7 : BitVec 32 := 0#32
  let c1_i32_8 : BitVec 32 := 1#32
  let arg13 : BitVec 32 := Scf.iv c0_i32_7 c1_i32_8 k1_t2
  let c64_i32_18 : BitVec 32 := 64#32
  let v30 : BitVec 32 := Scalar.muli arg13 c64_i32_18
  let c32_i32_19 : BitVec 32 := 32#32
  let v31 : BitVec 32 := Scalar.addi v30 c32_i32_19
  let v32 : Index := Scalar.indexCast v31
  ![v32.toNat]

def k1_chk3 (v33 : IVec S16 32) : Prop :=
  (∀ a x, ((![v33] : Fin 1 → IVec S16 32) a x).toNat < S4096.size a)
theorem k1_idx3_inb : ∀ (v33 : IVec S16 32) (k1_hw3 : k1_chk3 v33), ∀ a x, ((![v33] : Fin 1 → IVec S16 32) a x).toNat < S4096.size a := fun v33 k1_hw3 => k1_hw3
def k1_off8 (k1_t2 : Fin k1_t2_loop.trips) : Fin 1 → Nat :=
  let c0_i32_7 : BitVec 32 := 0#32
  let c1_i32_8 : BitVec 32 := 1#32
  let arg13 : BitVec 32 := Scf.iv c0_i32_7 c1_i32_8 k1_t2
  let c64_i32_20 : BitVec 32 := 64#32
  let v36 : BitVec 32 := Scalar.muli arg13 c64_i32_20
  let c48_i32 : BitVec 32 := 48#32
  let v37 : BitVec 32 := Scalar.addi v36 c48_i32
  let v38 : Index := Scalar.indexCast v37
  ![v38.toNat]

def k1_chk4 (v39 : IVec S16 32) : Prop :=
  (∀ a x, ((![v39] : Fin 1 → IVec S16 32) a x).toNat < S4096.size a)
theorem k1_idx4_inb : ∀ (v39 : IVec S16 32) (k1_hw4 : k1_chk4 v39), ∀ a x, ((![v39] : Fin 1 → IVec S16 32) a x).toNat < S4096.size a := fun v39 k1_hw4 => k1_hw4
def k1_off9 (i : grid1.Coords) : Fin 2 → Nat :=
  let arg1 : BitVec 32 := BitVec.ofNat 32 (i 1).val
  let c0_i32_15_r2 : BitVec 32 := 0#32
  ![arg1.toNat, 0]
def k1_off10 (i : grid1.Coords) : Fin 2 → Nat :=
  let c0_i32_15_r3 : BitVec 32 := 0#32
  let arg1 : BitVec 32 := BitVec.ofNat 32 (i 1).val
  let c256_i32 : BitVec 32 := 256#32
  let v15 : BitVec 32 := Scalar.muli arg1 c256_i32
  ![0, v15.toNat]
@[reducible] def k1_t3_loop : Scf.Loop 32 :=
  let c0_i32_11 : BitVec 32 := 0#32
  let c16_i32 : BitVec 32 := 16#32
  let v16 : BitVec 32 := Scalar.addi c0_i32_11 c16_i32
  let c1_i32_12 : BitVec 32 := 1#32
  ⟨c0_i32_11, v16, c1_i32_12⟩
def k1_off11 (k1_t3 : Fin k1_t3_loop.trips) : Fin 2 → Nat :=
  let c0_i32_16 : BitVec 32 := 0#32
  let v19 : Index := Scalar.indexCast c0_i32_16
  let c0_i32_11 : BitVec 32 := 0#32
  let c1_i32_12 : BitVec 32 := 1#32
  let arg13 : BitVec 32 := Scf.iv c0_i32_11 c1_i32_12 k1_t3
  let c16_i32_15 : BitVec 32 := 16#32
  let v18 : BitVec 32 := Scalar.muli arg13 c16_i32_15
  let v20 : Index := Scalar.indexCast v18
  ![0, v20.toNat]
def k1_off12 (k1_t3 : Fin k1_t3_loop.trips) : Fin 2 → Nat :=
  let c1_i32_18 : BitVec 32 := 1#32
  let v23 : Index := Scalar.indexCast c1_i32_18
  let c0_i32_11 : BitVec 32 := 0#32
  let c1_i32_12 : BitVec 32 := 1#32
  let arg13 : BitVec 32 := Scf.iv c0_i32_11 c1_i32_12 k1_t3
  let c16_i32_17 : BitVec 32 := 16#32
  let v22 : BitVec 32 := Scalar.muli arg13 c16_i32_17
  let v24 : Index := Scalar.indexCast v22
  ![1, v24.toNat]
def k1_off13 (k1_t3 : Fin k1_t3_loop.trips) : Fin 2 → Nat :=
  let c2_i32 : BitVec 32 := 2#32
  let v28 : Index := Scalar.indexCast c2_i32
  let c0_i32_11 : BitVec 32 := 0#32
  let c1_i32_12 : BitVec 32 := 1#32
  let arg13 : BitVec 32 := Scf.iv c0_i32_11 c1_i32_12 k1_t3
  let c16_i32_19 : BitVec 32 := 16#32
  let v27 : BitVec 32 := Scalar.muli arg13 c16_i32_19
  let v29 : Index := Scalar.indexCast v27
  ![2, v29.toNat]
def k1_off14 (k1_t3 : Fin k1_t3_loop.trips) : Fin 2 → Nat :=
  let c3_i32 : BitVec 32 := 3#32
  let v33 : Index := Scalar.indexCast c3_i32
  let c0_i32_11 : BitVec 32 := 0#32
  let c1_i32_12 : BitVec 32 := 1#32
  let arg13 : BitVec 32 := Scf.iv c0_i32_11 c1_i32_12 k1_t3
  let c16_i32_20 : BitVec 32 := 16#32
  let v32 : BitVec 32 := Scalar.muli arg13 c16_i32_20
  let v34 : Index := Scalar.indexCast v32
  ![3, v34.toNat]
def k1_off15 (k1_t3 : Fin k1_t3_loop.trips) : Fin 2 → Nat :=
  let c4_i32 : BitVec 32 := 4#32
  let v38 : Index := Scalar.indexCast c4_i32
  let c0_i32_11 : BitVec 32 := 0#32
  let c1_i32_12 : BitVec 32 := 1#32
  let arg13 : BitVec 32 := Scf.iv c0_i32_11 c1_i32_12 k1_t3
  let c16_i32_21 : BitVec 32 := 16#32
  let v37 : BitVec 32 := Scalar.muli arg13 c16_i32_21
  let v39 : Index := Scalar.indexCast v37
  ![4, v39.toNat]
def k1_off16 (k1_t3 : Fin k1_t3_loop.trips) : Fin 2 → Nat :=
  let c5_i32 : BitVec 32 := 5#32
  let v43 : Index := Scalar.indexCast c5_i32
  let c0_i32_11 : BitVec 32 := 0#32
  let c1_i32_12 : BitVec 32 := 1#32
  let arg13 : BitVec 32 := Scf.iv c0_i32_11 c1_i32_12 k1_t3
  let c16_i32_22 : BitVec 32 := 16#32
  let v42 : BitVec 32 := Scalar.muli arg13 c16_i32_22
  let v44 : Index := Scalar.indexCast v42
  ![5, v44.toNat]
def k1_off17 (k1_t3 : Fin k1_t3_loop.trips) : Fin 2 → Nat :=
  let c6_i32 : BitVec 32 := 6#32
  let v48 : Index := Scalar.indexCast c6_i32
  let c0_i32_11 : BitVec 32 := 0#32
  let c1_i32_12 : BitVec 32 := 1#32
  let arg13 : BitVec 32 := Scf.iv c0_i32_11 c1_i32_12 k1_t3
  let c16_i32_23 : BitVec 32 := 16#32
  let v47 : BitVec 32 := Scalar.muli arg13 c16_i32_23
  let v49 : Index := Scalar.indexCast v47
  ![6, v49.toNat]
def k1_off18 (k1_t3 : Fin k1_t3_loop.trips) : Fin 2 → Nat :=
  let c7_i32 : BitVec 32 := 7#32
  let v53 : Index := Scalar.indexCast c7_i32
  let c0_i32_11 : BitVec 32 := 0#32
  let c1_i32_12 : BitVec 32 := 1#32
  let arg13 : BitVec 32 := Scf.iv c0_i32_11 c1_i32_12 k1_t3
  let c16_i32_24 : BitVec 32 := 16#32
  let v52 : BitVec 32 := Scalar.muli arg13 c16_i32_24
  let v54 : Index := Scalar.indexCast v52
  ![7, v54.toNat]
def k1_off19 (k1_t3 : Fin k1_t3_loop.trips) : Fin 2 → Nat :=
  let c8_i32 : BitVec 32 := 8#32
  let v58 : Index := Scalar.indexCast c8_i32
  let c0_i32_11 : BitVec 32 := 0#32
  let c1_i32_12 : BitVec 32 := 1#32
  let arg13 : BitVec 32 := Scf.iv c0_i32_11 c1_i32_12 k1_t3
  let c16_i32_25 : BitVec 32 := 16#32
  let v57 : BitVec 32 := Scalar.muli arg13 c16_i32_25
  let v59 : Index := Scalar.indexCast v57
  ![8, v59.toNat]
def k1_off20 (k1_t3 : Fin k1_t3_loop.trips) : Fin 2 → Nat :=
  let c9_i32 : BitVec 32 := 9#32
  let v63 : Index := Scalar.indexCast c9_i32
  let c0_i32_11 : BitVec 32 := 0#32
  let c1_i32_12 : BitVec 32 := 1#32
  let arg13 : BitVec 32 := Scf.iv c0_i32_11 c1_i32_12 k1_t3
  let c16_i32_26 : BitVec 32 := 16#32
  let v62 : BitVec 32 := Scalar.muli arg13 c16_i32_26
  let v64 : Index := Scalar.indexCast v62
  ![9, v64.toNat]
def k1_off21 (k1_t3 : Fin k1_t3_loop.trips) : Fin 2 → Nat :=
  let c10_i32 : BitVec 32 := 10#32
  let v68 : Index := Scalar.indexCast c10_i32
  let c0_i32_11 : BitVec 32 := 0#32
  let c1_i32_12 : BitVec 32 := 1#32
  let arg13 : BitVec 32 := Scf.iv c0_i32_11 c1_i32_12 k1_t3
  let c16_i32_27 : BitVec 32 := 16#32
  let v67 : BitVec 32 := Scalar.muli arg13 c16_i32_27
  let v69 : Index := Scalar.indexCast v67
  ![10, v69.toNat]
def k1_off22 (k1_t3 : Fin k1_t3_loop.trips) : Fin 2 → Nat :=
  let c11_i32 : BitVec 32 := 11#32
  let v73 : Index := Scalar.indexCast c11_i32
  let c0_i32_11 : BitVec 32 := 0#32
  let c1_i32_12 : BitVec 32 := 1#32
  let arg13 : BitVec 32 := Scf.iv c0_i32_11 c1_i32_12 k1_t3
  let c16_i32_28 : BitVec 32 := 16#32
  let v72 : BitVec 32 := Scalar.muli arg13 c16_i32_28
  let v74 : Index := Scalar.indexCast v72
  ![11, v74.toNat]
def k1_off23 (k1_t3 : Fin k1_t3_loop.trips) : Fin 2 → Nat :=
  let c12_i32 : BitVec 32 := 12#32
  let v78 : Index := Scalar.indexCast c12_i32
  let c0_i32_11 : BitVec 32 := 0#32
  let c1_i32_12 : BitVec 32 := 1#32
  let arg13 : BitVec 32 := Scf.iv c0_i32_11 c1_i32_12 k1_t3
  let c16_i32_29 : BitVec 32 := 16#32
  let v77 : BitVec 32 := Scalar.muli arg13 c16_i32_29
  let v79 : Index := Scalar.indexCast v77
  ![12, v79.toNat]
def k1_off24 (k1_t3 : Fin k1_t3_loop.trips) : Fin 2 → Nat :=
  let c13_i32 : BitVec 32 := 13#32
  let v83 : Index := Scalar.indexCast c13_i32
  let c0_i32_11 : BitVec 32 := 0#32
  let c1_i32_12 : BitVec 32 := 1#32
  let arg13 : BitVec 32 := Scf.iv c0_i32_11 c1_i32_12 k1_t3
  let c16_i32_30 : BitVec 32 := 16#32
  let v82 : BitVec 32 := Scalar.muli arg13 c16_i32_30
  let v84 : Index := Scalar.indexCast v82
  ![13, v84.toNat]
def k1_off25 (k1_t3 : Fin k1_t3_loop.trips) : Fin 2 → Nat :=
  let c14_i32 : BitVec 32 := 14#32
  let v88 : Index := Scalar.indexCast c14_i32
  let c0_i32_11 : BitVec 32 := 0#32
  let c1_i32_12 : BitVec 32 := 1#32
  let arg13 : BitVec 32 := Scf.iv c0_i32_11 c1_i32_12 k1_t3
  let c16_i32_31 : BitVec 32 := 16#32
  let v87 : BitVec 32 := Scalar.muli arg13 c16_i32_31
  let v89 : Index := Scalar.indexCast v87
  ![14, v89.toNat]
def k1_off26 (k1_t3 : Fin k1_t3_loop.trips) : Fin 2 → Nat :=
  let c15_i32_33 : BitVec 32 := 15#32
  let v93 : Index := Scalar.indexCast c15_i32_33
  let c0_i32_11 : BitVec 32 := 0#32
  let c1_i32_12 : BitVec 32 := 1#32
  let arg13 : BitVec 32 := Scf.iv c0_i32_11 c1_i32_12 k1_t3
  let c16_i32_32 : BitVec 32 := 16#32
  let v92 : BitVec 32 := Scalar.muli arg13 c16_i32_32
  let v94 : Index := Scalar.indexCast v92
  ![15, v94.toNat]
def k1_off27 (k1_t3 : Fin k1_t3_loop.trips) : Fin 1 → Nat :=
  let c0_i32_11 : BitVec 32 := 0#32
  let c1_i32_12 : BitVec 32 := 1#32
  let arg13 : BitVec 32 := Scf.iv c0_i32_11 c1_i32_12 k1_t3
  let c16_i32_34 : BitVec 32 := 16#32
  let v97 : BitVec 32 := Scalar.muli arg13 c16_i32_34
  let v98 : Index := Scalar.indexCast v97
  ![v98.toNat]
def k1_off28 (i : grid1.Coords) : Fin 1 → Nat :=
  let arg1 : BitVec 32 := BitVec.ofNat 32 (i 1).val
  let c256_i32_14 : BitVec 32 := 256#32
  let v17 : BitVec 32 := Scalar.muli arg1 c256_i32_14
  ![v17.toNat]
abbrev grid2 : Pipeline.Grid := ⟨1, ![4], ![false]⟩

def cc2_transform_0 (i : grid2.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S12544x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .smem S1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x1x12544 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![1, 16], ![false, false]⟩

def k3_off1 (i : grid3.Coords) : Fin 1 → Nat :=
  let arg1 : BitVec 32 := BitVec.ofNat 32 (i 1).val
  let c3136_i32 : BitVec 32 := 3136#32
  let v0 : BitVec 32 := Scalar.muli arg1 c3136_i32
  ![v0.toNat]
def k3_cond1 (i : grid3.Coords) : BitVec 1 :=
  let arg1 : BitVec 32 := BitVec.ofNat 32 (i 1).val
  let c15_i32 : BitVec 32 := 15#32
  let v4 : BitVec 1 := Scalar.cmpi .slt arg1 c15_i32
  let v5 : BitVec 32 := Scalar.extui v4
  let c0_i32 : BitVec 32 := 0#32
  let v6 : BitVec 1 := Scalar.cmpi .ne v5 c0_i32
  v6

def k3_off2 (i : grid3.Coords) : Fin 1 → Nat :=
  let c50176_i32 : BitVec 32 := 50176#32
  let arg1 : BitVec 32 := BitVec.ofNat 32 (i 1).val
  let c3136_i32 : BitVec 32 := 3136#32
  let v0 : BitVec 32 := Scalar.muli arg1 c3136_i32
  let v1 : BitVec 32 := Scalar.addi c50176_i32 v0
  ![v1.toNat]
def k3_cond2 (i : grid3.Coords) : BitVec 1 :=
  let arg1 : BitVec 32 := BitVec.ofNat 32 (i 1).val
  let c15_i32_0 : BitVec 32 := 15#32
  let v7 : BitVec 1 := Scalar.cmpi .eq arg1 c15_i32_0
  let v8 : BitVec 32 := Scalar.extui v7
  let c0_i32_1 : BitVec 32 := 0#32
  let v9 : BitVec 1 := Scalar.cmpi .ne v8 c0_i32_1
  v9

def k3_off3 (i : grid3.Coords) : Fin 1 → Nat :=
  let c50176_i32 : BitVec 32 := 50176#32
  let arg1 : BitVec 32 := BitVec.ofNat 32 (i 1).val
  let c3136_i32 : BitVec 32 := 3136#32
  let v0 : BitVec 32 := Scalar.muli arg1 c3136_i32
  let v1 : BitVec 32 := Scalar.addi c50176_i32 v0
  ![v1.toNat]
@[reducible] def k3_t1_loop : Scf.Loop 32 :=
  let c0_i32_16 : BitVec 32 := 0#32
  let c22_i32 : BitVec 32 := 22#32
  let v19 : BitVec 32 := Scalar.addi c0_i32_16 c22_i32
  let c1_i32_17 : BitVec 32 := 1#32
  ⟨c0_i32_16, v19, c1_i32_17⟩
def k3_off4 (k3_t1 : Fin k3_t1_loop.trips) : Fin 1 → Nat :=
  let c2784_i32 : BitVec 32 := 2784#32
  let c0_i32_16 : BitVec 32 := 0#32
  let c1_i32_17 : BitVec 32 := 1#32
  let arg14 : BitVec 32 := Scf.iv c0_i32_16 c1_i32_17 k3_t1
  let c16_i32_20 : BitVec 32 := 16#32
  let v21 : BitVec 32 := Scalar.muli arg14 c16_i32_20
  let v22 : BitVec 32 := Scalar.addi c2784_i32 v21
  let v23 : Index := Scalar.indexCast v22
  ![v23.toNat]
@[reducible] def k3_t2_loop : Scf.Loop 32 :=
  let c0_i32_3 : BitVec 32 := 0#32
  let c32_i32 : BitVec 32 := 32#32
  let v11 : BitVec 32 := Scalar.addi c0_i32_3 c32_i32
  let c1_i32 : BitVec 32 := 1#32
  ⟨c0_i32_3, v11, c1_i32⟩
def k3_off5 (k3_t2 : Fin k3_t2_loop.trips) (c0_i32_15 : BitVec 32) : Fin 1 → Nat :=
  let c0_i32_3 : BitVec 32 := 0#32
  let c1_i32 : BitVec 32 := 1#32
  let arg14 : BitVec 32 := Scf.iv c0_i32_3 c1_i32 k3_t2
  let c128_i32 : BitVec 32 := 128#32
  let v19 : BitVec 32 := Scalar.muli arg14 c128_i32
  let v20 : BitVec 32 := Scalar.addi v19 c0_i32_15
  let v21 : Index := Scalar.indexCast v20
  ![v21.toNat]
@[reducible] def k3_t3_loop : Scf.Loop 32 :=
  let c0_i32_6 : BitVec 32 := 0#32
  let c49_i32 : BitVec 32 := 49#32
  let v14 : BitVec 32 := Scalar.addi c0_i32_6 c49_i32
  let c1_i32_7 : BitVec 32 := 1#32
  ⟨c0_i32_6, v14, c1_i32_7⟩
def k3_off6 (k3_t3 : Fin k3_t3_loop.trips) : Fin 1 → Nat :=
  let c0_i32_6 : BitVec 32 := 0#32
  let c1_i32_7 : BitVec 32 := 1#32
  let arg14 : BitVec 32 := Scf.iv c0_i32_6 c1_i32_7 k3_t3
  let c64_i32 : BitVec 32 := 64#32
  let v19 : BitVec 32 := Scalar.muli arg14 c64_i32
  let c0_i32_15 : BitVec 32 := 0#32
  let v20 : BitVec 32 := Scalar.addi v19 c0_i32_15
  let v21 : Index := Scalar.indexCast v20
  ![v21.toNat]

def k3_chk1 (v22 : IVec S16 32) : Prop :=
  (∀ a x, ((![v22] : Fin 1 → IVec S16 32) a x).toNat < S4096.size a)
theorem k3_idx1_inb : ∀ (v22 : IVec S16 32) (k3_hw1 : k3_chk1 v22), ∀ a x, ((![v22] : Fin 1 → IVec S16 32) a x).toNat < S4096.size a := fun v22 k3_hw1 => k3_hw1
def k3_off7 (k3_t3 : Fin k3_t3_loop.trips) : Fin 1 → Nat :=
  let c0_i32_6 : BitVec 32 := 0#32
  let c1_i32_7 : BitVec 32 := 1#32
  let arg14 : BitVec 32 := Scf.iv c0_i32_6 c1_i32_7 k3_t3
  let c64_i32_16 : BitVec 32 := 64#32
  let v25 : BitVec 32 := Scalar.muli arg14 c64_i32_16
  let c16_i32_17 : BitVec 32 := 16#32
  let v26 : BitVec 32 := Scalar.addi v25 c16_i32_17
  let v27 : Index := Scalar.indexCast v26
  ![v27.toNat]

def k3_chk2 (v28 : IVec S16 32) : Prop :=
  (∀ a x, ((![v28] : Fin 1 → IVec S16 32) a x).toNat < S4096.size a)
theorem k3_idx2_inb : ∀ (v28 : IVec S16 32) (k3_hw2 : k3_chk2 v28), ∀ a x, ((![v28] : Fin 1 → IVec S16 32) a x).toNat < S4096.size a := fun v28 k3_hw2 => k3_hw2
def k3_off8 (k3_t3 : Fin k3_t3_loop.trips) : Fin 1 → Nat :=
  let c0_i32_6 : BitVec 32 := 0#32
  let c1_i32_7 : BitVec 32 := 1#32
  let arg14 : BitVec 32 := Scf.iv c0_i32_6 c1_i32_7 k3_t3
  let c64_i32_18 : BitVec 32 := 64#32
  let v31 : BitVec 32 := Scalar.muli arg14 c64_i32_18
  let c32_i32_19 : BitVec 32 := 32#32
  let v32 : BitVec 32 := Scalar.addi v31 c32_i32_19
  let v33 : Index := Scalar.indexCast v32
  ![v33.toNat]

def k3_chk3 (v34 : IVec S16 32) : Prop :=
  (∀ a x, ((![v34] : Fin 1 → IVec S16 32) a x).toNat < S4096.size a)
theorem k3_idx3_inb : ∀ (v34 : IVec S16 32) (k3_hw3 : k3_chk3 v34), ∀ a x, ((![v34] : Fin 1 → IVec S16 32) a x).toNat < S4096.size a := fun v34 k3_hw3 => k3_hw3
def k3_off9 (k3_t3 : Fin k3_t3_loop.trips) : Fin 1 → Nat :=
  let c0_i32_6 : BitVec 32 := 0#32
  let c1_i32_7 : BitVec 32 := 1#32
  let arg14 : BitVec 32 := Scf.iv c0_i32_6 c1_i32_7 k3_t3
  let c64_i32_20 : BitVec 32 := 64#32
  let v37 : BitVec 32 := Scalar.muli arg14 c64_i32_20
  let c48_i32 : BitVec 32 := 48#32
  let v38 : BitVec 32 := Scalar.addi v37 c48_i32
  let v39 : Index := Scalar.indexCast v38
  ![v39.toNat]

def k3_chk4 (v40 : IVec S16 32) : Prop :=
  (∀ a x, ((![v40] : Fin 1 → IVec S16 32) a x).toNat < S4096.size a)
theorem k3_idx4_inb : ∀ (v40 : IVec S16 32) (k3_hw4 : k3_chk4 v40), ∀ a x, ((![v40] : Fin 1 → IVec S16 32) a x).toNat < S4096.size a := fun v40 k3_hw4 => k3_hw4
def k3_off10 (i : grid3.Coords) : Fin 2 → Nat :=
  let arg1 : BitVec 32 := BitVec.ofNat 32 (i 1).val
  let c0_i32_15_r2 : BitVec 32 := 0#32
  ![arg1.toNat, 0]
def k3_off11 (i : grid3.Coords) : Fin 1 → Nat :=
  let arg1 : BitVec 32 := BitVec.ofNat 32 (i 1).val
  let c256_i32 : BitVec 32 := 256#32
  let v15 : BitVec 32 := Scalar.muli arg1 c256_i32
  ![v15.toNat]
def k3_off12 (i : grid3.Coords) : Fin 2 → Nat :=
  let c0_i32_15_r4 : BitVec 32 := 0#32
  let arg1 : BitVec 32 := BitVec.ofNat 32 (i 1).val
  let c256_i32_9 : BitVec 32 := 256#32
  let v16 : BitVec 32 := Scalar.muli arg1 c256_i32_9
  ![0, v16.toNat]
@[reducible] def k3_t4_loop : Scf.Loop 32 :=
  let c0_i32_11 : BitVec 32 := 0#32
  let c16_i32 : BitVec 32 := 16#32
  let v17 : BitVec 32 := Scalar.addi c0_i32_11 c16_i32
  let c1_i32_12 : BitVec 32 := 1#32
  ⟨c0_i32_11, v17, c1_i32_12⟩
def k3_off13 (k3_t4 : Fin k3_t4_loop.trips) : Fin 2 → Nat :=
  let c0_i32_16 : BitVec 32 := 0#32
  let v20 : Index := Scalar.indexCast c0_i32_16
  let c0_i32_11 : BitVec 32 := 0#32
  let c1_i32_12 : BitVec 32 := 1#32
  let arg14 : BitVec 32 := Scf.iv c0_i32_11 c1_i32_12 k3_t4
  let c16_i32_15 : BitVec 32 := 16#32
  let v19 : BitVec 32 := Scalar.muli arg14 c16_i32_15
  let v21 : Index := Scalar.indexCast v19
  ![0, v21.toNat]
def k3_off14 (k3_t4 : Fin k3_t4_loop.trips) : Fin 2 → Nat :=
  let c1_i32_18 : BitVec 32 := 1#32
  let v24 : Index := Scalar.indexCast c1_i32_18
  let c0_i32_11 : BitVec 32 := 0#32
  let c1_i32_12 : BitVec 32 := 1#32
  let arg14 : BitVec 32 := Scf.iv c0_i32_11 c1_i32_12 k3_t4
  let c16_i32_17 : BitVec 32 := 16#32
  let v23 : BitVec 32 := Scalar.muli arg14 c16_i32_17
  let v25 : Index := Scalar.indexCast v23
  ![1, v25.toNat]
def k3_off15 (k3_t4 : Fin k3_t4_loop.trips) : Fin 2 → Nat :=
  let c2_i32 : BitVec 32 := 2#32
  let v29 : Index := Scalar.indexCast c2_i32
  let c0_i32_11 : BitVec 32 := 0#32
  let c1_i32_12 : BitVec 32 := 1#32
  let arg14 : BitVec 32 := Scf.iv c0_i32_11 c1_i32_12 k3_t4
  let c16_i32_19 : BitVec 32 := 16#32
  let v28 : BitVec 32 := Scalar.muli arg14 c16_i32_19
  let v30 : Index := Scalar.indexCast v28
  ![2, v30.toNat]
def k3_off16 (k3_t4 : Fin k3_t4_loop.trips) : Fin 2 → Nat :=
  let c3_i32 : BitVec 32 := 3#32
  let v34 : Index := Scalar.indexCast c3_i32
  let c0_i32_11 : BitVec 32 := 0#32
  let c1_i32_12 : BitVec 32 := 1#32
  let arg14 : BitVec 32 := Scf.iv c0_i32_11 c1_i32_12 k3_t4
  let c16_i32_20 : BitVec 32 := 16#32
  let v33 : BitVec 32 := Scalar.muli arg14 c16_i32_20
  let v35 : Index := Scalar.indexCast v33
  ![3, v35.toNat]
def k3_off17 (k3_t4 : Fin k3_t4_loop.trips) : Fin 2 → Nat :=
  let c4_i32 : BitVec 32 := 4#32
  let v39 : Index := Scalar.indexCast c4_i32
  let c0_i32_11 : BitVec 32 := 0#32
  let c1_i32_12 : BitVec 32 := 1#32
  let arg14 : BitVec 32 := Scf.iv c0_i32_11 c1_i32_12 k3_t4
  let c16_i32_21 : BitVec 32 := 16#32
  let v38 : BitVec 32 := Scalar.muli arg14 c16_i32_21
  let v40 : Index := Scalar.indexCast v38
  ![4, v40.toNat]
def k3_off18 (k3_t4 : Fin k3_t4_loop.trips) : Fin 2 → Nat :=
  let c5_i32 : BitVec 32 := 5#32
  let v44 : Index := Scalar.indexCast c5_i32
  let c0_i32_11 : BitVec 32 := 0#32
  let c1_i32_12 : BitVec 32 := 1#32
  let arg14 : BitVec 32 := Scf.iv c0_i32_11 c1_i32_12 k3_t4
  let c16_i32_22 : BitVec 32 := 16#32
  let v43 : BitVec 32 := Scalar.muli arg14 c16_i32_22
  let v45 : Index := Scalar.indexCast v43
  ![5, v45.toNat]
def k3_off19 (k3_t4 : Fin k3_t4_loop.trips) : Fin 2 → Nat :=
  let c6_i32 : BitVec 32 := 6#32
  let v49 : Index := Scalar.indexCast c6_i32
  let c0_i32_11 : BitVec 32 := 0#32
  let c1_i32_12 : BitVec 32 := 1#32
  let arg14 : BitVec 32 := Scf.iv c0_i32_11 c1_i32_12 k3_t4
  let c16_i32_23 : BitVec 32 := 16#32
  let v48 : BitVec 32 := Scalar.muli arg14 c16_i32_23
  let v50 : Index := Scalar.indexCast v48
  ![6, v50.toNat]
def k3_off20 (k3_t4 : Fin k3_t4_loop.trips) : Fin 2 → Nat :=
  let c7_i32 : BitVec 32 := 7#32
  let v54 : Index := Scalar.indexCast c7_i32
  let c0_i32_11 : BitVec 32 := 0#32
  let c1_i32_12 : BitVec 32 := 1#32
  let arg14 : BitVec 32 := Scf.iv c0_i32_11 c1_i32_12 k3_t4
  let c16_i32_24 : BitVec 32 := 16#32
  let v53 : BitVec 32 := Scalar.muli arg14 c16_i32_24
  let v55 : Index := Scalar.indexCast v53
  ![7, v55.toNat]
def k3_off21 (k3_t4 : Fin k3_t4_loop.trips) : Fin 2 → Nat :=
  let c8_i32 : BitVec 32 := 8#32
  let v59 : Index := Scalar.indexCast c8_i32
  let c0_i32_11 : BitVec 32 := 0#32
  let c1_i32_12 : BitVec 32 := 1#32
  let arg14 : BitVec 32 := Scf.iv c0_i32_11 c1_i32_12 k3_t4
  let c16_i32_25 : BitVec 32 := 16#32
  let v58 : BitVec 32 := Scalar.muli arg14 c16_i32_25
  let v60 : Index := Scalar.indexCast v58
  ![8, v60.toNat]
def k3_off22 (k3_t4 : Fin k3_t4_loop.trips) : Fin 2 → Nat :=
  let c9_i32 : BitVec 32 := 9#32
  let v64 : Index := Scalar.indexCast c9_i32
  let c0_i32_11 : BitVec 32 := 0#32
  let c1_i32_12 : BitVec 32 := 1#32
  let arg14 : BitVec 32 := Scf.iv c0_i32_11 c1_i32_12 k3_t4
  let c16_i32_26 : BitVec 32 := 16#32
  let v63 : BitVec 32 := Scalar.muli arg14 c16_i32_26
  let v65 : Index := Scalar.indexCast v63
  ![9, v65.toNat]
def k3_off23 (k3_t4 : Fin k3_t4_loop.trips) : Fin 2 → Nat :=
  let c10_i32 : BitVec 32 := 10#32
  let v69 : Index := Scalar.indexCast c10_i32
  let c0_i32_11 : BitVec 32 := 0#32
  let c1_i32_12 : BitVec 32 := 1#32
  let arg14 : BitVec 32 := Scf.iv c0_i32_11 c1_i32_12 k3_t4
  let c16_i32_27 : BitVec 32 := 16#32
  let v68 : BitVec 32 := Scalar.muli arg14 c16_i32_27
  let v70 : Index := Scalar.indexCast v68
  ![10, v70.toNat]
def k3_off24 (k3_t4 : Fin k3_t4_loop.trips) : Fin 2 → Nat :=
  let c11_i32 : BitVec 32 := 11#32
  let v74 : Index := Scalar.indexCast c11_i32
  let c0_i32_11 : BitVec 32 := 0#32
  let c1_i32_12 : BitVec 32 := 1#32
  let arg14 : BitVec 32 := Scf.iv c0_i32_11 c1_i32_12 k3_t4
  let c16_i32_28 : BitVec 32 := 16#32
  let v73 : BitVec 32 := Scalar.muli arg14 c16_i32_28
  let v75 : Index := Scalar.indexCast v73
  ![11, v75.toNat]
def k3_off25 (k3_t4 : Fin k3_t4_loop.trips) : Fin 2 → Nat :=
  let c12_i32 : BitVec 32 := 12#32
  let v79 : Index := Scalar.indexCast c12_i32
  let c0_i32_11 : BitVec 32 := 0#32
  let c1_i32_12 : BitVec 32 := 1#32
  let arg14 : BitVec 32 := Scf.iv c0_i32_11 c1_i32_12 k3_t4
  let c16_i32_29 : BitVec 32 := 16#32
  let v78 : BitVec 32 := Scalar.muli arg14 c16_i32_29
  let v80 : Index := Scalar.indexCast v78
  ![12, v80.toNat]
def k3_off26 (k3_t4 : Fin k3_t4_loop.trips) : Fin 2 → Nat :=
  let c13_i32 : BitVec 32 := 13#32
  let v84 : Index := Scalar.indexCast c13_i32
  let c0_i32_11 : BitVec 32 := 0#32
  let c1_i32_12 : BitVec 32 := 1#32
  let arg14 : BitVec 32 := Scf.iv c0_i32_11 c1_i32_12 k3_t4
  let c16_i32_30 : BitVec 32 := 16#32
  let v83 : BitVec 32 := Scalar.muli arg14 c16_i32_30
  let v85 : Index := Scalar.indexCast v83
  ![13, v85.toNat]
def k3_off27 (k3_t4 : Fin k3_t4_loop.trips) : Fin 2 → Nat :=
  let c14_i32 : BitVec 32 := 14#32
  let v89 : Index := Scalar.indexCast c14_i32
  let c0_i32_11 : BitVec 32 := 0#32
  let c1_i32_12 : BitVec 32 := 1#32
  let arg14 : BitVec 32 := Scf.iv c0_i32_11 c1_i32_12 k3_t4
  let c16_i32_31 : BitVec 32 := 16#32
  let v88 : BitVec 32 := Scalar.muli arg14 c16_i32_31
  let v90 : Index := Scalar.indexCast v88
  ![14, v90.toNat]
def k3_off28 (k3_t4 : Fin k3_t4_loop.trips) : Fin 2 → Nat :=
  let c15_i32_33 : BitVec 32 := 15#32
  let v94 : Index := Scalar.indexCast c15_i32_33
  let c0_i32_11 : BitVec 32 := 0#32
  let c1_i32_12 : BitVec 32 := 1#32
  let arg14 : BitVec 32 := Scf.iv c0_i32_11 c1_i32_12 k3_t4
  let c16_i32_32 : BitVec 32 := 16#32
  let v93 : BitVec 32 := Scalar.muli arg14 c16_i32_32
  let v95 : Index := Scalar.indexCast v93
  ![15, v95.toNat]
def k3_off29 (k3_t4 : Fin k3_t4_loop.trips) : Fin 1 → Nat :=
  let c0_i32_11 : BitVec 32 := 0#32
  let c1_i32_12 : BitVec 32 := 1#32
  let arg14 : BitVec 32 := Scf.iv c0_i32_11 c1_i32_12 k3_t4
  let c16_i32_34 : BitVec 32 := 16#32
  let v98 : BitVec 32 := Scalar.muli arg14 c16_i32_34
  let v99 : Index := Scalar.indexCast v98
  ![v99.toNat]
abbrev scKind : Fin 2 → Kind := fun | 0 => .scVector | 1 => .scVector | ⟨_ + 2, h⟩ => absurd h (Nat.not_lt.2 (Nat.le_add_left _ _))
abbrev scNCore : Fin 2 → Nat := fun | 0 => 1 | 1 => 1 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S100000x128 : Shape := ⟨2, ![100000, 128]⟩
abbrev S100000 : Shape := ⟨1, ![100000]⟩
abbrev S128x1 : Shape := ⟨2, ![128, 1]⟩
abbrev S1 : Shape := ⟨1, ![1]⟩
abbrev S100000x1 : Shape := ⟨2, ![100000, 1]⟩
abbrev S1x1 : Shape := ⟨2, ![1, 1]⟩
abbrev S_ : Shape := ⟨0, ![]⟩
abbrev S4096x1 : Shape := ⟨2, ![4096, 1]⟩
abbrev S4096 : Shape := ⟨1, ![4096]⟩

abbrev nBuf : Space → Nat
  | .hbm => 13
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x1, .f32⟩
  | .hbm, ⟨3, _⟩ => ⟨S1, .f32⟩
  | .hbm, ⟨4, _⟩ => ⟨S100000x1, .f32⟩
  | .hbm, ⟨5, _⟩ => ⟨S1x1, .f32⟩
  | .hbm, ⟨6, _⟩ => ⟨S100000x1, .f32⟩
  | .hbm, ⟨7, _⟩ => ⟨S100000x1, .f32⟩
  | .hbm, ⟨8, _⟩ => ⟨S_, .f32⟩
  | .hbm, ⟨9, _⟩ => ⟨S4096x1, .f32⟩
  | .hbm, ⟨10, _⟩ => ⟨S100000x1, .i32⟩
  | .hbm, ⟨11, _⟩ => ⟨S4096x1, .f32⟩
  | .hbm, ⟨12, _⟩ => ⟨S4096, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.Setup.lean ====
/-
  The program as its two SparseCore calls and its two TensorCore pipelines see it: the launch configuration, the
  resource algebra, the buffers, and the values the segment sum goes through — a tile's accumulator as the groups of
  sixteen rows are added into it, and the sum over the tiles of one column.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.SegSum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch configuration -/

/-- The labels of the TensorCore pipelines, the signature the SparseCore calls extend. -/
abbrev ΛP : Labels := Pipeline.Sig Λ₀ (Fin 2) fun p => (pcfgs (F := F) p).Adm
/-- The two SparseCore calls. -/
abbrev K : SparseCore.Cfg τ sig (ΛP (F := F)) 2 := sc (F := F)
/-- The body table under the calls: the pipelines'. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The side conditions of the launch: the handshakes' semaphores are distinct and outlive a region. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra

The handshakes' rounds, the barrier cells' rounds, the pipelines' rounds, the transfers' counters. -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 2) (Elt F) ℕ UU ℕ

/-- The handshakes' rounds. -/
abbrev EH : Emb UH (MT nD τ sig (HIx 2) (Elt F) ℕ UU ℕ) := embL
/-- The barrier cells' rounds. -/
def EB : Emb UB (MT nD τ sig (HIx 2) (Elt F) ℕ UU ℕ) :=
  ((Emb.inl : Emb UB (UB × (UP × Counters))).trans (Emb.inr : Emb (UB × (UP × Counters)) UU)).trans
    (uEmb (nD := nD) (sig := sig) (Ix := HIx 2) (Val := Elt F) (Name := ℕ) (U := UU) (Lvl := ℕ)).toEmb
instance EB_landsIn : (EB : Emb UB 𝕄).LandsIn (upEmb : UEmb _ 𝕄) := by unfold EB; infer_instance
/-- The pipelines' rounds. -/
def EP : Emb UP (MT nD τ sig (HIx 2) (Elt F) ℕ UU ℕ) :=
  (((Emb.inl : Emb UP (UP × Counters)).trans (Emb.inr : Emb (UP × Counters) (UB × (UP × Counters)))).trans
    (Emb.inr : Emb (UB × (UP × Counters)) UU)).trans
    (uEmb (nD := nD) (sig := sig) (Ix := HIx 2) (Val := Elt F) (Name := ℕ) (U := UU) (Lvl := ℕ)).toEmb
instance EP_landsIn : (EP : Emb UP 𝕄).LandsIn (upEmb : UEmb _ 𝕄) := by unfold EP; infer_instance

/-! ## Values

`zf` the zero the accumulators start at. Group `n` of a chunk of 3136 rows is its rows `16 n … 16 n + 15`; adding it
into an accumulator of 4096 segments is one indexed store with `add`. -/

variable [FloatOps F]

/-- The zero the kernel stores. -/
def zf : Elt F .f32 := Scalar.ofBits .f32 0x00000000#32

omit [FloatOps F] in
/-- Row `16 n + x` of a chunk. -/
def gIdx (n : ℕ) (x : S16.Idx) : S3136.Idx := fun a => ⟨(16 * n + (x 0).val) % 3136, by fin_cases a; exact Nat.mod_lt _ (by decide)⟩

/-- Group `n` of the rows `y`, with segments `ic`, added into `f`: unchanged if a segment is out of range. -/
def accStep (y : S3136.Idx → Elt F .f32) (ic : S3136.Idx → BitVec 32) (n : ℕ) (f : Vec F S4096 .f32) : Vec F S4096 .f32 :=
  if h : ∀ a x, ((![fun x => ic (gIdx n x)] : Fin 1 → IVec S16 32) a x).toNat < S4096.size a then
    storeIdx f (![fun x => ic (gIdx n x)] : Fin 1 → IVec S16 32) (fun x => y (gIdx n x)) (fun _ => 1#1) true h
  else f

/-- The accumulator once the first `n` groups are in. -/
def accN (y : S3136.Idx → Elt F .f32) (ic : S3136.Idx → BitVec 32) : ℕ → Vec F S4096 .f32
  | 0 => fun _ => zf
  | n + 1 => accStep y ic n (accN y ic n)

@[simp] theorem accN_zero (y : S3136.Idx → Elt F .f32) (ic : S3136.Idx → BitVec 32) : accN y ic 0 = fun _ => zf := rfl
theorem accN_succ (y : S3136.Idx → Elt F .f32) (ic : S3136.Idx → BitVec 32) (n : ℕ) : accN y ic (n + 1) = accStep y ic n (accN y ic n) := rfl
attribute [irreducible] accN

/-- Two floats added, as a lane of the vector addition does. -/
def addE (a b : Elt F .f32) : Elt F .f32 := FloatOps.addf (F := F) (φ := .f32) a b

/-- The rows of a column added up, in order, from its first. -/
def colSum (r : Fin 16 → Elt F .f32) : Elt F .f32 :=
  addE (addE (addE (addE (addE (addE (addE (addE (addE (addE (addE (addE (addE (addE (addE (r 0) (r 1)) (r 2)) (r 3)) (r 4)) (r 5)) (r 6)) (r 7)) (r 8)) (r 9)) (r 10)) (r 11)) (r 12)) (r 13)) (r 14)) (r 15)

omit [FloatOps F] in
/-- Place `x` of the sixteen columns from `16 t` on, in row `r` of a slab of 16 rows and 256 columns. -/
def slIdx (r : Fin 16) (j : S256.Idx) : S16x256.Idx := fun a => match a with | 0 => r | 1 => j 0

omit [FloatOps F] in
/-- Column `16 t + x`. -/
def cIdx (t : ℕ) (x : S16.Idx) : S256.Idx := fun a => ⟨(16 * t + (x 0).val) % 256, by fin_cases a; exact Nat.mod_lt _ (by decide)⟩

/-! ## Stores of sixteen lanes -/

omit [FloatOps F] in
/-- A place of a vector lies in the run of sixteen starting at `o` when its coordinate does. -/
theorem mem_run16 {n : ℕ} {off : Fin 1 → ℕ} {h : ∀ a, off a + S16.size a ≤ (Shape.size ⟨1, ![n]⟩ a)} (o : ℕ) (ho : off 0 = o) (y : Shape.Idx ⟨1, ![n]⟩)
    (h1 : o ≤ (y 0).val) (h2 : (y 0).val < o + 16) : y ∈ (Rect.unit (s := ⟨1, ![n]⟩) off S16.size h).set := by
  refine Rect.mem_set_unit.mpr ?_
  intro a
  obtain rfl : a = 0 := Subsingleton.elim _ _
  exact ⟨ho.trans_le h1, h2.trans_eq (congrArg (· + 16) ho.symm)⟩

omit [FloatOps F] in
/-- A run of a vector, place by place. -/
theorem set_run {n c : ℕ} (off : Fin 1 → ℕ) (h : ∀ a, off a + (![c] : Fin 1 → ℕ) a ≤ (Shape.size ⟨1, ![n]⟩ a)) (lo : ℕ) (e : off 0 = lo) :
    (Rect.unit (s := ⟨1, ![n]⟩) off ![c] h).set = Finset.univ.filter fun i => lo ≤ (i 0).val ∧ (i 0).val < lo + c := by
  subst e
  ext i
  rw [Rect.mem_set_unit]
  simp only [Finset.mem_filter, Finset.mem_univ, true_and]
  exact ⟨fun h => h 0, fun h a => by obtain rfl : a = 0 := Subsingleton.elim _ _; exact h⟩

omit [FloatOps F] in
/-- A box of a matrix, place by place. -/
theorem set_box {n m p q : ℕ} (off : Fin 2 → ℕ) (h : ∀ a, off a + (![p, q] : Fin 2 → ℕ) a ≤ (Shape.size ⟨2, ![n, m]⟩ a)) (a b : ℕ) (e0 : off 0 = a) (e1 : off 1 = b) :
    (Rect.unit (s := ⟨2, ![n, m]⟩) off ![p, q] h).set
      = Finset.univ.filter fun i => (a ≤ (i 0).val ∧ (i 0).val < a + p) ∧ (b ≤ (i 1).val ∧ (i 1).val < b + q) := by
  subst e0 e1
  ext i
  rw [Rect.mem_set_unit]
  simp only [Finset.mem_filter, Finset.mem_univ, true_and]
  exact ⟨fun h => ⟨h 0, h 1⟩, fun h a => by fin_cases a; exacts [h.1, h.2]⟩

end Cert.Proof.SegSum
-- ==== Proof.Zero.lean ====
/-
  The first call's accumulator set to zero: thirty-two trips of eight stores of sixteen zeros.
-/
module

public import proofs.«01_k».proof.Proof.Setup

@[expose] public section

noncomputable section

namespace Cert.Proof.SegSum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The first call's tile: its thread and its buffers as it addresses them -/

section Tile

variable (d : Dev nD) (L : grid1.Coords)

abbrev cV1 (L : grid1.Coords) : Fin τ.nSC := (L 0).castLE hcore1
abbrev jV1 (L : grid1.Coords) : Fin τ.nSub := (L 1).castLE hsub1
abbrev th1 : Thread nD τ := V d (cV1 L) (jV1 L)

abbrev yV1 : Memref sig .scVector .hbm S50176 .f32 := Memref.whole main_v2_scv
abbrev bV1 : Memref sig .scVector .hbm S100000 .i32 := Memref.whole main_arg1_scv
abbrev oV1 : Memref sig .scVector .hbm S4096 .f32 := Memref.whole main_v3_scv
abbrev yc1 : Memref sig .scVector .vmem S3136 .f32 := Memref.whole cc1_scratch0
abbrev ic1 : Memref sig .scVector .vmem S3136 .i32 := Memref.whole cc1_scratch1
abbrev ac1 : Memref sig .scVector .vmem S4096 .f32 := Memref.whole cc1_scratch2
abbrev sl1 : Memref sig .scVector .vmem S16x256 .f32 := Memref.whole cc1_scratch3
abbrev ob1 : Memref sig .scVector .vmem S256 .f32 := Memref.whole cc1_scratch4
abbrev pv1 : Memref sig .scVector .vmem S256 .f32 := Memref.whole cc1_scratch5
abbrev sh1 : Memref sig .scVector .shared S16x4096 .f32 := Memref.whole cc1_scratch7

/-- The zeroing loop on a tile. -/
abbrev zeroLoop1 : Prog (TpuEff nD τ sig (Elt F) Λ₀ (.scVector (cV1 L) (jV1 L))) PUnit :=
  Scf.Loop.for k1_t1_loop k1_t1_ok ⟨⟩ (k1_t1_body L yV1 (Memref.isWhole_whole _) bV1 (Memref.isWhole_whole _) oV1 (Memref.isWhole_whole _)
    yc1 (Memref.isWhole_whole _) ic1 (Memref.isWhole_whole _) ac1 (Memref.isWhole_whole _) sl1 (Memref.isWhole_whole _) ob1 (Memref.isWhole_whole _)
    pv1 (Memref.isWhole_whole _) cc1_scratch6 sh1 (Memref.isWhole_whole _) cc1_scoped0 cc1_scoped1 cc1_scoped2 cc1_scoped3 cc1_scoped4)

omit [FloatOps F] in
/-- Stores that all write one value, read at a place: the value where one of them covers the place or where it was before. -/
theorem _root_.Idealize.ShloMosaic.View.read_writes_const {κ : Kind} {sp : Space} {s : Shape} {e : EltTy} (v : View sig κ sp s e)
    (f : v.ty.Contents (Elt F)) (c : Elt F e) (y : s.Idx) (L : List (View.Piece (Elt F) s e)) (hL : ∀ p ∈ L, ∀ x, p.2 x = c)
    (h : (∃ p ∈ L, y ∈ p.1.set) ∨ v.read (Elt F) f y = c) : v.read (Elt F) (v.writes (Elt F) f L) y = c := by
  by_cases hy : ∃ p ∈ L, y ∈ p.1.set
  · exact View.read_writes_apply_of_pieces v f (fun _ => c) L (fun p hp x => hL p hp x) y hy
  · rw [View.read_writes_apply_of_forall_not_mem v f y L fun p hp hm => hy ⟨p, hp, hm⟩]
    exact h.resolve_left hy

/-- Before trip `n` the first `128 n` segments are zero. -/
def zeroInv1 (n : ℕ) (_ : PUnit) : sProp 𝕄 :=
  iprop(∃ f : Buf (Elt F) ((th1 d L).loc cc1_scratch2), ⌜∀ j : S4096.Idx, (j 0).val < 128 * n → f j = zf (F := F)⌝
    ∗ ((ac1).view.loc (th1 d L) ↦[(ac1).view.set]{fullShare} f))

set_option maxHeartbeats 4000000 in
theorem zero_loop1 (f : Buf (Elt F) ((th1 d L).loc cc1_scratch2)) :
    ((ac1).view.loc (th1 d L) ↦[(ac1).view.set]{fullShare} f : sProp 𝕄)
      ⊢ wp frame (wpE (defs₀ (F := F)) 𝒱₀ (th1 d L) none) Set.univ (zeroLoop1 (F := F) L)
          fun _ => ((ac1).view.loc (th1 d L) ↦[(ac1).view.set]{fullShare} (fun _ => zf (F := F))) := by
  iintro H
  unfold zeroLoop1
  sl_for (zeroInv1 d L) $$ [H]
  case region =>
    intro k _
    unfold zeroInv1
    iintro ⟨%f, %hf, H⟩
    sl_exec
    rw [wp_ret]; imodintro
    iexists _
    isplitr [H]
    rotate_left
    · iexact H
    ipureintro
    intro j hj
    refine (congrFun (View.read_whole (κ := .scVector) cc1_scratch2 _) j).symm.trans ?_
    refine View.read_writes_const (ac1).view f (zf (F := F)) j _ ?_ ?_
    · simp only [List.forall_mem_cons, List.not_mem_nil, false_imp_iff, implies_true, and_true]
      exact ⟨fun _ => rfl, fun _ => rfl, fun _ => rfl, fun _ => rfl, fun _ => rfl, fun _ => rfl, fun _ => rfl, fun _ => rfl⟩
    · simp only [List.exists_mem_cons_iff]
      by_cases hlt : (j 0).val < 128 * k.val
      · exact .inr (hf j hlt)
      · left
        have off (r : Fin 8) := congrFun (k1_off4_eq k r) 0
        obtain ⟨r, h1, h2⟩ : ∃ r : Fin 8, 128 * k.val + 16 * r.val ≤ (j 0).val ∧ (j 0).val < 128 * k.val + 16 * r.val + 16 :=
          ⟨⟨((j 0).val - 128 * k.val) / 16, by omega⟩, by show _ + 16 * (((j 0).val - 128 * k.val) / 16) ≤ _; omega,
            by show _ < _ + 16 * (((j 0).val - 128 * k.val) / 16) + 16; omega⟩
        fin_cases r
        · exact .inr (.inr (.inr (.inr (.inr (.inr (.inr (.inl (mem_run16 _ (off 0) j h1 h2))))))))
        · exact .inr (.inr (.inr (.inr (.inr (.inr (.inl (mem_run16 _ (off 1) j h1 h2)))))))
        · exact .inr (.inr (.inr (.inr (.inr (.inl (mem_run16 _ (off 2) j h1 h2))))))
        · exact .inr (.inr (.inr (.inr (.inl (mem_run16 _ (off 3) j h1 h2)))))
        · exact .inr (.inr (.inr (.inl (mem_run16 _ (off 4) j h1 h2))))
        · exact .inr (.inr (.inl (mem_run16 _ (off 5) j h1 h2)))
        · exact .inr (.inl (mem_run16 _ (off 6) j h1 h2))
        · exact .inl (mem_run16 _ (off 7) j h1 h2)
  isplitl [H]
  · unfold zeroInv1
    iexists f; isplitr [H]
    · ipureintro; intro j hj; omega
    · iexact H
  iintro %_ HI
  unfold zeroInv1
  icases HI with ⟨%g, %hg, H⟩
  have e : g = fun _ => zf (F := F) := funext fun j => hg j (by have := (j 0).isLt; exact this)
  rw [e]; iexact H
end Tile

end Cert.Proof.SegSum
-- ==== Proof.Scatter.lean ====
/-
  The first call's rows added into the accumulator: forty-nine trips of four groups of sixteen rows.
-/
module

public import proofs.«01_k».proof.Proof.Zero

@[expose] public section

noncomputable section

namespace Cert.Proof.SegSum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid1.Coords)

/-- The loop that adds a tile's rows into its accumulator. -/
abbrev accLoop1 : Prog (TpuEff nD τ sig (Elt F) Λ₀ (.scVector (cV1 L) (jV1 L))) PUnit :=
  Scf.Loop.for k1_t2_loop k1_t2_ok ⟨⟩ (k1_t2_body L yV1 (Memref.isWhole_whole _) bV1 (Memref.isWhole_whole _) oV1 (Memref.isWhole_whole _)
    yc1 (Memref.isWhole_whole _) ic1 (Memref.isWhole_whole _) ac1 (Memref.isWhole_whole _) sl1 (Memref.isWhole_whole _) ob1 (Memref.isWhole_whole _)
    pv1 (Memref.isWhole_whole _) cc1_scratch6 sh1 (Memref.isWhole_whole _) cc1_scoped0 cc1_scoped1 cc1_scoped2 cc1_scoped3 cc1_scoped4)

/-- Before trip `n` the accumulator holds the first `4 n` groups. -/
def accInv1 (yv : S3136.Idx → Elt F .f32) (iv : S3136.Idx → BitVec 32) (n : ℕ) (_ : PUnit) : sProp 𝕄 :=
  iprop(((yc1).view.loc (th1 d L) ↦[(yc1).view.set]{fullShare} yv) ∗ ((ic1).view.loc (th1 d L) ↦[(ic1).view.set]{fullShare} iv)
    ∗ ((ac1).view.loc (th1 d L) ↦[(ac1).view.set]{fullShare} accN yv iv (4 * n)))

/-- The group of sixteen rows at `64 t + 16 g`, read by a load at that offset. -/
theorem load_group {e : EltTy} (f : S3136.Idx → Elt F e) (off : Fin 1 → ℕ) (h : ∀ a, off a + S16.size a ≤ S3136.size a) (n : ℕ) (ho : off 0 = 16 * n)
    (x : S16.Idx) : f ((Rect.unit (s := S3136) off S16.size h).idx x) = f (gIdx n x) := by
  refine congrArg f (funext fun a => Fin.ext ?_)
  obtain rfl : a = 0 := Subsingleton.elim _ _
  have h0 := h 0
  have hx : (x 0).val < 16 := (x 0).isLt
  change off 0 + 16 ≤ 3136 at h0
  show off 0 + 1 * (x 0).val = (16 * n + (x 0).val) % 3136
  rw [Nat.mod_eq_of_lt (by omega)]; omega

/-- One indexed store of group `n`'s rows by its segments: the accumulator with the group in. -/
theorem acc_store1 {α : Type} (yv : S3136.Idx → Elt F .f32) (iv : S3136.Idx → BitVec 32) (n : ℕ) {w : IVec S16 32} {v : Vec F S16 .f32}
    (hw : w = fun x => iv (gIdx n x)) (hv : v = fun x => yv (gIdx n x)) {h : ∀ a x, ((![w] : Fin 1 → IVec S16 32) a x).toNat < S4096.size a}
    {hs : ((ac1).access (.whole S4096)).Stores Finset.univ} {k : PUnit → Prog (TpuEff nD τ sig (Elt F) Λ₀ (.scVector (cV1 L) (jV1 L))) α} {Q : α → sProp 𝕄} :
    ((ac1).view.loc (th1 d L) ↦[(ac1).view.set]{fullShare} accN yv iv n : sProp 𝕄)
      ⊢ iprop((((ac1).view.loc (th1 d L) ↦[(ac1).view.set]{fullShare} accN yv iv (n + 1))
          -∗ wp frame (wpE (defs₀ (F := F)) 𝒱₀ (th1 d L) none) Set.univ (k ⟨⟩) Q)
        -∗ wp frame (wpE (defs₀ (F := F)) 𝒱₀ (th1 d L) none) Set.univ (SparseCore.vectorStoreIdx ac1 ![w] v (fun _ => 1#1) true h hs >>= k) Q) := by
  subst hw hv
  have e : accN yv iv (n + 1) = storeIdx (accN yv iv n) (![fun x => iv (gIdx n x)] : Fin 1 → IVec S16 32) (fun x => yv (gIdx n x)) (fun _ => 1#1) true h :=
    (accN_succ yv iv n).trans (dif_pos h)
  have eset : (ac1).view.set = ((ac1).access (.whole S4096)).set := (View.set_whole _).trans (Memref.set_access_whole (b := cc1_scratch2)).symm
  rw [e]
  iintro H Hk
  ihave H' := (Entails.of_eq (show ((ac1).view.loc (th1 d L) ↦[(ac1).view.set]{fullShare} accN yv iv n : sProp 𝕄)
    = (((ac1).access (.whole S4096)).loc (th1 d L) ↦[((ac1).access (.whole S4096)).set]{fullShare} accN yv iv n) from congrArg (fun S => ((ac1).view.loc (th1 d L) ↦[S]{fullShare} accN yv iv n : sProp 𝕄)) eset)) $$ H
  iapply (SparseCore.wp_vectorStoreIdx 𝒱₀ (th1 d L) none Set.univ (base := ac1)) $$ H'
  iintro H
  iapply Hk
  iapply (Entails.of_eq ?_) $$ H
  rw [eset]
  refine congrArg (fun f => (((ac1).access (.whole S4096)).loc (th1 d L) ↦[((ac1).access (.whole S4096)).set]{fullShare} f : sProp 𝕄)) ?_
  refine (Memref.write_access_whole_univ (Elt F) cc1_scratch2 _ _).trans ?_
  exact congrArg (fun f => storeIdx f (![fun x => iv (gIdx n x)] : Fin 1 → IVec S16 32) (fun x => yv (gIdx n x)) (fun _ => 1#1) true h)
    (Memref.read_access_whole (Elt F) cc1_scratch2 (accN yv iv n))

set_option maxHeartbeats 400000 in
/-- The loop adds the 196 groups of the chunk into the accumulator. -/
theorem acc_loop1 (yv : S3136.Idx → Elt F .f32) (iv : S3136.Idx → BitVec 32) (hv : ∀ i, (iv i).toNat < 4096) :
    iprop(((yc1).view.loc (th1 d L) ↦[(yc1).view.set]{fullShare} yv) ∗ ((ic1).view.loc (th1 d L) ↦[(ic1).view.set]{fullShare} iv)
        ∗ ((ac1).view.loc (th1 d L) ↦[(ac1).view.set]{fullShare} (fun _ => zf (F := F))) : sProp 𝕄)
      ⊢ wp frame (wpE (defs₀ (F := F)) 𝒱₀ (th1 d L) none) Set.univ (accLoop1 (F := F) L)
          fun _ => iprop(((yc1).view.loc (th1 d L) ↦[(yc1).view.set]{fullShare} yv) ∗ ((ic1).view.loc (th1 d L) ↦[(ic1).view.set]{fullShare} iv)
            ∗ ((ac1).view.loc (th1 d L) ↦[(ac1).view.set]{fullShare} accN yv iv 196)) := by
  iintro H
  unfold accLoop1
  sl_for (accInv1 d L yv iv) $$ [H]
  case region =>
    intro k _
    unfold accInv1
    iintro ⟨Hy, Hi, Ha⟩
    have chk (n : ℕ) : ∀ a x, ((![fun x => iv (gIdx n x)] : Fin 1 → IVec S16 32) a x).toNat < S4096.size a := by
      intro a x; obtain rfl : a = 0 := Subsingleton.elim _ _; exact hv _
    have o0 : k1_off5 k 0 = 16 * (4 * k.val) := by rw [k1_off5_eq]; show 64 * k.val = _; omega
    have hi0 : View.readAt (Elt F) ic1.view (Rect.unit (s := S3136) (k1_off5 k) S16.size (k1_off5_inb k)).toLoadRect iv = fun x => iv (gIdx (4 * k.val) x) :=
      funext fun x => load_group (e := .i32) (F := F) iv _ _ _ o0 x
    have hy0 : View.readAt (Elt F) yc1.view (Rect.unit (s := S3136) (k1_off5 k) S16.size (k1_off5_inb k)).toLoadRect yv = fun x => yv (gIdx (4 * k.val) x) :=
      funext fun x => load_group (e := .f32) (F := F) yv _ _ _ o0 x
    have o1 : k1_off6 k 0 = 16 * (4 * k.val + 1) := by rw [k1_off6_eq]; show 64 * k.val + 16 = _; omega
    have hi1 : View.readAt (Elt F) ic1.view (Rect.unit (s := S3136) (k1_off6 k) S16.size (k1_off6_inb k)).toLoadRect iv = fun x => iv (gIdx (4 * k.val + 1) x) :=
      funext fun x => load_group (e := .i32) (F := F) iv _ _ _ o1 x
    have hy1 : View.readAt (Elt F) yc1.view (Rect.unit (s := S3136) (k1_off6 k) S16.size (k1_off6_inb k)).toLoadRect yv = fun x => yv (gIdx (4 * k.val + 1) x) :=
      funext fun x => load_group (e := .f32) (F := F) yv _ _ _ o1 x
    have o2 : k1_off7 k 0 = 16 * (4 * k.val + 2) := by rw [k1_off7_eq]; show 64 * k.val + 32 = _; omega
    have hi2 : View.readAt (Elt F) ic1.view (Rect.unit (s := S3136) (k1_off7 k) S16.size (k1_off7_inb k)).toLoadRect iv = fun x => iv (gIdx (4 * k.val + 2) x) :=
      funext fun x => load_group (e := .i32) (F := F) iv _ _ _ o2 x
    have hy2 : View.readAt (Elt F) yc1.view (Rect.unit (s := S3136) (k1_off7 k) S16.size (k1_off7_inb k)).toLoadRect yv = fun x => yv (gIdx (4 * k.val + 2) x) :=
      funext fun x => load_group (e := .f32) (F := F) yv _ _ _ o2 x
    have o3 : k1_off8 k 0 = 16 * (4 * k.val + 3) := by rw [k1_off8_eq]; show 64 * k.val + 48 = _; omega
    have hi3 : View.readAt (Elt F) ic1.view (Rect.unit (s := S3136) (k1_off8 k) S16.size (k1_off8_inb k)).toLoadRect iv = fun x => iv (gIdx (4 * k.val + 3) x) :=
      funext fun x => load_group (e := .i32) (F := F) iv _ _ _ o3 x
    have hy3 : View.readAt (Elt F) yc1.view (Rect.unit (s := S3136) (k1_off8 k) S16.size (k1_off8_inb k)).toLoadRect yv = fun x => yv (gIdx (4 * k.val + 3) x) :=
      funext fun x => load_group (e := .f32) (F := F) yv _ _ _ o3 x
    sl_exec
    rw [wp_assume_of _ _ _ _ (show k1_chk1 _ from chk _)]
    sl_exec
    iapply (acc_store1 d L yv iv (4 * k.val) rfl rfl) $$ Ha
    iintro Ha
    sl_exec
    rw [wp_assume_of _ _ _ _ (show k1_chk2 _ from chk _)]
    sl_exec
    iapply (acc_store1 d L yv iv (4 * k.val + 1) rfl rfl) $$ Ha
    iintro Ha
    sl_exec
    rw [wp_assume_of _ _ _ _ (show k1_chk3 _ from chk _)]
    sl_exec
    iapply (acc_store1 d L yv iv (4 * k.val + 2) rfl rfl) $$ Ha
    iintro Ha
    sl_exec
    rw [wp_assume_of _ _ _ _ (show k1_chk4 _ from chk _)]
    sl_exec
    iapply (acc_store1 d L yv iv (4 * k.val + 3) rfl rfl) $$ Ha
    iintro Ha
    sl_exec
    rw [wp_ret]; imodintro
    isplitl [Hy]; · iexact Hy
    isplitl [Hi]; · iexact Hi
    iexact Ha
  isplitl [H]
  · unfold accInv1
    icases H with ⟨Hy, Hi, Ha⟩
    isplitl [Hy]; · iexact Hy
    isplitl [Hi]; · iexact Hi
    iapply (Entails.of_eq (congrArg (fun f => ((ac1).view.loc (th1 d L) ↦[(ac1).view.set]{fullShare} f : sProp 𝕄)) (accN_zero yv iv).symm)) $$ Ha
  iintro %_ HI
  unfold accInv1
  iexact HI

end Cert.Proof.SegSum
-- ==== Proof.Reduce.lean ====
/-
  The first call's reduction: sixteen trips, each adding the sixteen rows of sixteen columns.
-/
module

public import proofs.«01_k».proof.Proof.Scatter

@[expose] public section

noncomputable section

namespace Cert.Proof.SegSum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid1.Coords)

/-- The loop that adds the sixteen rows of a slab. -/
abbrev redLoop1 : Prog (TpuEff nD τ sig (Elt F) Λ₀ (.scVector (cV1 L) (jV1 L))) PUnit :=
  Scf.Loop.for k1_t3_loop k1_t3_ok ⟨⟩ (k1_t3_body L yV1 (Memref.isWhole_whole _) bV1 (Memref.isWhole_whole _) oV1 (Memref.isWhole_whole _)
    yc1 (Memref.isWhole_whole _) ic1 (Memref.isWhole_whole _) ac1 (Memref.isWhole_whole _) sl1 (Memref.isWhole_whole _) ob1 (Memref.isWhole_whole _)
    pv1 (Memref.isWhole_whole _) cc1_scratch6 sh1 (Memref.isWhole_whole _) cc1_scoped0 cc1_scoped1 cc1_scoped2 cc1_scoped3 cc1_scoped4)

/-- Sixteen lanes of a slab's row, loaded as a row and flattened. -/
theorem slab_row (f : S16x256.Idx → Elt F .f32) (off : Fin 2 → ℕ) (h : ∀ a, off a + S1x16.size a ≤ S16x256.size a) (r : Fin 16) (t : ℕ)
    (h0 : off 0 = r.val) (h1 : off 1 = 16 * t) (hc : S1x16.ShapeCasts S16) (x : S16.Idx) :
    shapeCast S16 (fun y : S1x16.Idx => f ((Rect.unit (s := S16x256) off S1x16.size h).idx y)) hc x = f (slIdx r (cIdx t x)) := by
  refine (shapeCast_dropUnit_apply (n := 1) ![16] _ hc x).trans ?_
  have hx : (x 0).val < 16 := (x 0).isLt
  have hh := h 1
  change off 1 + 16 ≤ 256 at hh
  refine congrArg f (funext fun a => Fin.ext ?_)
  fin_cases a
  · show off 0 + 1 * 0 = r.val; omega
  · show off 1 + 1 * (x 0).val = (16 * t + (x 0).val) % 256
    rw [Nat.mod_eq_of_lt (by omega)]; omega

/-- Before trip `n` the first `16 n` columns are summed. -/
def redInv1 (slv : S16x256.Idx → Elt F .f32) (n : ℕ) (_ : PUnit) : sProp 𝕄 :=
  iprop(((sl1).view.loc (th1 d L) ↦[(sl1).view.set]{fullShare} slv)
    ∗ ∃ f : S256.Idx → Elt F .f32, ⌜∀ j : S256.Idx, (j 0).val < 16 * n → f j = colSum fun r => slv (slIdx r j)⌝
      ∗ ((ob1).view.loc (th1 d L) ↦[(ob1).view.set]{fullShare} f))

set_option maxHeartbeats 400000 in
/-- The loop leaves each column's sum. -/
theorem red_loop1 (slv : S16x256.Idx → Elt F .f32) (f : S256.Idx → Elt F .f32) :
    iprop(((sl1).view.loc (th1 d L) ↦[(sl1).view.set]{fullShare} slv) ∗ ((ob1).view.loc (th1 d L) ↦[(ob1).view.set]{fullShare} f) : sProp 𝕄)
      ⊢ wp frame (wpE (defs₀ (F := F)) 𝒱₀ (th1 d L) none) Set.univ (redLoop1 (F := F) L)
          fun _ => iprop(((sl1).view.loc (th1 d L) ↦[(sl1).view.set]{fullShare} slv)
            ∗ ((ob1).view.loc (th1 d L) ↦[(ob1).view.set]{fullShare} fun j => colSum fun r => slv (slIdx r j))) := by
  iintro H
  unfold redLoop1
  sl_for (redInv1 d L slv) $$ [H]
  case region =>
    intro k _
    unfold redInv1
    iintro ⟨Hs, %g, %hg, Ho⟩
    sl_exec
    rw [wp_ret]; imodintro
    isplitl [Hs]; · iexact Hs
    iexists _
    isplitr [Ho]
    rotate_left
    · iexact Ho
    ipureintro
    intro j hj
    have ho := congrFun (k1_off27_eq k) 0
    change k1_off27 k 0 = 16 * k.val at ho
    refine (congrFun (View.read_whole (κ := .scVector) cc1_scratch4 _) j).symm.trans ?_
    by_cases hlt : (j 0).val < 16 * k.val
    · refine (View.read_writes_cons_miss_of_axis (ob1).view g _ [] j 0 (16 * k.val) 16 ho rfl rfl (.inl hlt)).trans ?_
      exact hg j hlt
    · have hkt : k.val < 16 := k.isLt
      have hj2 : (j 0).val < 256 := (j 0).isLt
      refine (View.read_writes_cons_hit_of_coords (ob1).view g _ _ [] (fun a => ⟨(j 0).val - 16 * k.val, by obtain rfl : a = 0 := Subsingleton.elim _ _; show _ < 16; omega⟩) j ?_).trans ?_
      · intro a
        obtain rfl : a = 0 := Subsingleton.elim _ _
        show (j 0).val = k1_off27 k 0 + 1 * ((j 0).val - 16 * k.val)
        omega
      · generalize hx : (fun a => ⟨(j 0).val - 16 * k.val, _⟩ : S16.Idx) = x
        have hjx : cIdx k.val x = j := by
          subst hx
          funext a
          obtain rfl : a = 0 := Subsingleton.elim _ _
          refine Fin.ext ?_
          show (16 * k.val + ((j 0).val - 16 * k.val)) % 256 = (j 0).val
          rw [Nat.mod_eq_of_lt (by omega)]; omega
        rw [← hjx]
        exact (congrArg₂ addE (congrArg₂ addE (congrArg₂ addE (congrArg₂ addE (congrArg₂ addE (congrArg₂ addE (congrArg₂ addE (congrArg₂ addE (congrArg₂ addE (congrArg₂ addE (congrArg₂ addE (congrArg₂ addE (congrArg₂ addE (congrArg₂ addE (congrArg₂ addE (slab_row slv (k1_off11 k) (k1_off11_inb k) 0 k.val (congrFun (k1_off11_eq k) 0) (congrFun (k1_off11_eq k) 1) shapeCasts_S1x16_S16 x)
        (slab_row slv (k1_off12 k) (k1_off12_inb k) 1 k.val (congrFun (k1_off12_eq k) 0) (congrFun (k1_off12_eq k) 1) shapeCasts_S1x16_S16 x))
        (slab_row slv (k1_off13 k) (k1_off13_inb k) 2 k.val (congrFun (k1_off13_eq k) 0) (congrFun (k1_off13_eq k) 1) shapeCasts_S1x16_S16 x))
        (slab_row slv (k1_off14 k) (k1_off14_inb k) 3 k.val (congrFun (k1_off14_eq k) 0) (congrFun (k1_off14_eq k) 1) shapeCasts_S1x16_S16 x))
        (slab_row slv (k1_off15 k) (k1_off15_inb k) 4 k.val (congrFun (k1_off15_eq k) 0) (congrFun (k1_off15_eq k) 1) shapeCasts_S1x16_S16 x))
        (slab_row slv (k1_off16 k) (k1_off16_inb k) 5 k.val (congrFun (k1_off16_eq k) 0) (congrFun (k1_off16_eq k) 1) shapeCasts_S1x16_S16 x))
        (slab_row slv (k1_off17 k) (k1_off17_inb k) 6 k.val (congrFun (k1_off17_eq k) 0) (congrFun (k1_off17_eq k) 1) shapeCasts_S1x16_S16 x))
        (slab_row slv (k1_off18 k) (k1_off18_inb k) 7 k.val (congrFun (k1_off18_eq k) 0) (congrFun (k1_off18_eq k) 1) shapeCasts_S1x16_S16 x))
        (slab_row slv (k1_off19 k) (k1_off19_inb k) 8 k.val (congrFun (k1_off19_eq k) 0) (congrFun (k1_off19_eq k) 1) shapeCasts_S1x16_S16 x))
        (slab_row slv (k1_off20 k) (k1_off20_inb k) 9 k.val (congrFun (k1_off20_eq k) 0) (congrFun (k1_off20_eq k) 1) shapeCasts_S1x16_S16 x))
        (slab_row slv (k1_off21 k) (k1_off21_inb k) 10 k.val (congrFun (k1_off21_eq k) 0) (congrFun (k1_off21_eq k) 1) shapeCasts_S1x16_S16 x))
        (slab_row slv (k1_off22 k) (k1_off22_inb k) 11 k.val (congrFun (k1_off22_eq k) 0) (congrFun (k1_off22_eq k) 1) shapeCasts_S1x16_S16 x))
        (slab_row slv (k1_off23 k) (k1_off23_inb k) 12 k.val (congrFun (k1_off23_eq k) 0) (congrFun (k1_off23_eq k) 1) shapeCasts_S1x16_S16 x))
        (slab_row slv (k1_off24 k) (k1_off24_inb k) 13 k.val (congrFun (k1_off24_eq k) 0) (congrFun (k1_off24_eq k) 1) shapeCasts_S1x16_S16 x))
        (slab_row slv (k1_off25 k) (k1_off25_inb k) 14 k.val (congrFun (k1_off25_eq k) 0) (congrFun (k1_off25_eq k) 1) shapeCasts_S1x16_S16 x))
        (slab_row slv (k1_off26 k) (k1_off26_inb k) 15 k.val (congrFun (k1_off26_eq k) 0) (congrFun (k1_off26_eq k) 1) shapeCasts_S1x16_S16 x))
  isplitl [H]
  · unfold redInv1
    icases H with ⟨Hs, Ho⟩
    isplitl [Hs]; · iexact Hs
    iexists f
    isplitr [Ho]
    · ipureintro; intro j hj; omega
    · iexact Ho
  iintro %_ HI
  unfold redInv1
  icases HI with ⟨Hs, %g, %hg, Ho⟩
  have e : g = fun j => colSum fun r => slv (slIdx r j) := funext fun j => hg j (by have := (j 0).isLt; exact this)
  rw [e]
  isplitl [Hs]; · iexact Hs
  iexact Ho

end Cert.Proof.SegSum
-- ==== Proof.Barrier.lean ====
/-
  What the two SparseCore calls hand round: the pieces of the arrays a tile works on, the values the pieces may hold,
  and the schedule of the barrier the sixteen tiles meet at once in each call.
-/
module

public import proofs.«01_k».proof.Proof.Reduce

@[expose] public section

noncomputable section

namespace Cert.Proof.SegSum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The arrays -/

abbrev xLoc (d : Dev nD) : Loc nD τ sig := (SparseCore.T d).loc main_arg0
abbrev bLoc (d : Dev nD) : Loc nD τ sig := (SparseCore.T d).loc main_arg1
abbrev wLoc (d : Dev nD) : Loc nD τ sig := (SparseCore.T d).loc main_arg2
abbrev cLoc (d : Dev nD) : Loc nD τ sig := (SparseCore.T d).loc main_arg3
/-- The first call's rows, its result; the second call's rows, the result. -/
abbrev yLoc0 (d : Dev nD) : Loc nD τ sig := (SparseCore.T d).loc main_v2
abbrev oLoc0 (d : Dev nD) : Loc nD τ sig := (SparseCore.T d).loc main_v3
abbrev yLoc1 (d : Dev nD) : Loc nD τ sig := (SparseCore.T d).loc main_v5
abbrev oLoc1 (d : Dev nD) : Loc nD τ sig := (SparseCore.T d).loc main_v6
/-- The shared scratch of each call, on SparseCore `c`. -/
abbrev shRef0 (c : Fin τ.nSC) : DevRef τ sig := ⟨.shared, ⟨0, by decide⟩, c⟩
abbrev shLoc0 (d : Dev nD) (c : Fin τ.nSC) : Loc nD τ sig := (d, shRef0 c)
abbrev shRef1 (c : Fin τ.nSC) : DevRef τ sig := ⟨.shared, ⟨1, by decide⟩, c⟩
abbrev shLoc1 (d : Dev nD) (c : Fin τ.nSC) : Loc nD τ sig := (d, shRef1 c)

/-! ## The pieces -/

/-- Rows `3136 s … ` of a call's rows. -/
def ySet (s : ℕ) : Finset S50176.Idx := Finset.univ.filter fun i => 3136 * s ≤ (i 0).val ∧ (i 0).val < 3136 * s + 3136
/-- The segment numbers from `lo` to before `hi`. -/
def bSet (lo hi : ℕ) : Finset S100000.Idx := Finset.univ.filter fun i => lo ≤ (i 0).val ∧ (i 0).val < hi
/-- Segments `256 s …` of a result. -/
def oSet (s : ℕ) : Finset S4096.Idx := Finset.univ.filter fun i => 256 * s ≤ (i 0).val ∧ (i 0).val < 256 * s + 256
/-- Row `s` of the shared scratch. -/
def rowS (s : ℕ) : Finset S16x4096.Idx := Finset.univ.filter fun i => (i 0).val = s
/-- Columns `256 j …` of the shared scratch. -/
def colS (j : ℕ) : Finset S16x4096.Idx := Finset.univ.filter fun i => 256 * j ≤ (i 1).val ∧ (i 1).val < 256 * j + 256
/-- Columns `256 j …` of row `s`. -/
def cellS (s j : ℕ) : Finset S16x4096.Idx := Finset.univ.filter fun i => (i 0).val = s ∧ 256 * j ≤ (i 1).val ∧ (i 1).val < 256 * j + 256

/-- A place of the shared scratch's column, as a segment. -/
def colOf (i : S16x4096.Idx) : S4096.Idx := fun a => match a with | 0 => i 1

/-! ## The values

`bt` the segment numbers; `yOK q` what the rows of call `q` may be. -/

/-- Tile `s`'s chunk of the rows `y`. -/
def yChunk (s : ℕ) (y : S50176.Idx → Elt F .f32) : S3136.Idx → Elt F .f32 :=
  fun i => y fun a => ⟨(3136 * s + (i 0).val) % 50176, by fin_cases a; exact Nat.mod_lt _ (by decide)⟩

/-- Tile `s`'s segment numbers in call `q`: of row `50176 q + 3136 s + i`, and `0` past the last row. -/
def iChunk (bt : S100000.Idx → BitVec 32) (q s : ℕ) : S3136.Idx → BitVec 32 :=
  fun i => if h : 50176 * q + 3136 * s + (i 0).val < 100000 then bt fun a => ⟨50176 * q + 3136 * s + (i 0).val, by fin_cases a; exact h⟩ else 0#32

theorem iChunk_lt (bt : S100000.Idx → BitVec 32) (hb : ∀ i, (bt i).toNat < 4096) (q s : ℕ) (i : S3136.Idx) : (iChunk bt q s i).toNat < 4096 := by
  unfold iChunk; split
  · exact hb _
  · decide

/-- The values the launch is proved over: the segment numbers of a device, and what the rows of each call may be. -/
structure Vals (F : FTy → Type) where
  bt : Dev nD → S100000.Idx → BitVec 32
  yOK : ℕ → Dev nD → (S50176.Idx → Elt F .f32) → Prop

variable (Λv : Vals F)

/-- What tile `s`'s accumulator may hold once its rows of call `q` are in. -/
def ROW (d : Dev nD) (q s : ℕ) (row : S4096.Idx → Elt F .f32) : Prop :=
  ∃ y, Λv.yOK q d y ∧ row = accN (yChunk s y) (iChunk (Λv.bt d) q s) 196

/-- What the sum of the tiles' accumulators at segment `k` may be in call `q`. -/
def SUMk (d : Dev nD) (q : ℕ) (k : S4096.Idx) (v : Elt F .f32) : Prop :=
  ∃ rows : ℕ → S4096.Idx → Elt F .f32, (∀ s : Fin 16, ROW Λv d q s.val (rows s.val)) ∧ v = colSum fun r => rows r.val k

/-- What the result may hold at segment `k` once both calls are over. -/
def OUTk (d : Dev nD) (k : S4096.Idx) (v : Elt F .f32) : Prop :=
  ∃ u p, SUMk Λv d 1 k u ∧ SUMk Λv d 0 k p ∧ v = addE u p

/-! ## The barrier -/

theorem nSub_eq : τ.nSub = 16 := rfl
theorem h16 : 16 ≤ τ.nSub := le_refl _

/-- Tile `j`'s barrier cell. -/
abbrev bcell (d : Dev nD) (c : Fin τ.nSC) (j : Fin τ.nSub) : GSem nD τ sig := (V d c j, .reg sc_bar0)

theorem sc_bar0_ne_go : (sc_bar0 : Sem sig) ≠ sc_go := by decide

/-- Whether a cell is a tile's barrier cell. -/
def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- A piece of the first call's shared scratch that every row-holder filled from `row`. -/
abbrev shPts0 (d : Dev nD) (c : Fin τ.nSC) (I : Finset S16x4096.Idx) (f : S16x4096.Idx → Elt F .f32) : sProp 𝕄 :=
  (shLoc0 d c ↦[I]{fullShare} f)
abbrev shPts1 (d : Dev nD) (c : Fin τ.nSC) (I : Finset S16x4096.Idx) (f : S16x4096.Idx → Elt F .f32) : sProp 𝕄 :=
  (shLoc1 d c ↦[I]{fullShare} f)

/-- What tile `n`'s arrival hands tile `j`: its row's columns `256 j …`, at what its accumulator held. -/
def bPay (g : GSem nD τ sig) (r n : ℕ) : sProp 𝕄 :=
  match g with
  | ((d, .scVector c j), _) =>
    if r = 0 then iprop(∃ row : S4096.Idx → Elt F .f32, ⌜ROW Λv d 0 n row⌝ ∗ shPts0 d c (cellS n j.val) (fun i => row (colOf i)))
    else iprop(∃ row : S4096.Idx → Elt F .f32, ⌜ROW Λv d 1 n row⌝ ∗ shPts1 d c (cellS n j.val) (fun i => row (colOf i)))
  | _ => iprop(emp)

/-- The barrier cells' schedule: two rounds on each, one per call, of one unit duty per tile (named by its number). -/
def bRd : Rounds.Schedule (GSem nD τ sig) ℕ 𝕄 where
  duties g r := if isBar g ∧ r < 2 then (Finset.univ : Finset (Fin τ.nSub)).image Fin.val else ∅
  amount _ _ _ := 1
  payload g r n := bPay Λv g r n
  amount_pos _ _ _ _ := Nat.one_pos

instance bRd_payload_storable (g : GSem nD τ sig) (r n : ℕ) : BI.Storable (upEmb : UEmb _ 𝕄) ((bRd Λv).payload g r n) := by
  show BI.Storable upEmb (bPay Λv g r n)
  unfold bPay
  rcases g with ⟨⟨d, _ | c | ⟨c, i⟩⟩, sm⟩ <;> dsimp only <;> (repeat' split) <;> infer_instance

theorem bRd_duties (d : Dev nD) (c : Fin τ.nSC) (j : Fin τ.nSub) (r : ℕ) (hr : r < 2) :
    (bRd Λv).duties (bcell d c j) r = (Finset.univ : Finset (Fin τ.nSub)).image Fin.val := by
  exact if_pos ⟨isBar_bcell d c j, hr⟩
theorem bRd_duties_succ (g : GSem nD τ sig) (r : ℕ) (hr : 2 ≤ r) : (bRd Λv).duties g r = ∅ :=
  if_neg fun h => absurd h.2 (by omega)
theorem bRd_mem (d : Dev nD) (c : Fin τ.nSC) (j i : Fin τ.nSub) (r : ℕ) (hr : r < 2) : i.val ∈ (bRd Λv).duties (bcell d c j) r := by
  rw [bRd_duties Λv d c j r hr]; exact Finset.mem_image_of_mem _ (Finset.mem_univ i)
theorem bRd_expect (d : Dev nD) (c : Fin τ.nSC) (j : Fin τ.nSub) (r : ℕ) (hr : r < 2) : 0 + 16 = (bRd Λv).expect (bcell d c j) r := by
  unfold Rounds.Schedule.expect; rw [bRd_duties Λv d c j r hr]
  show 0 + 16 = ∑ x ∈ (Finset.univ : Finset (Fin 16)).image Fin.val, 1
  rw [Finset.sum_const, Finset.card_image_of_injective _ Fin.val_injective]; rfl

/-- What a tile owes for the barrier of call `q`: a unit on every tile's cell, at the call's index. -/
def oxV (d : Dev nD) (c : Fin τ.nSC) (q : Fin 2) : CellTallies nD τ sig (HIx 2) := ∑ j : Fin 16, tallyAt (bcell d c (j.castLE h16)) (some q) 1

theorem oxV_none (d : Dev nD) (c : Fin τ.nSC) (q : Fin 2) (g : GSem nD τ sig) : oxV d c q g none = 0 := by
  unfold oxV
  rw [Finset.sum_apply, Finsupp.finsetSum_apply]
  exact Finset.sum_eq_zero fun j _ => by rw [tallyAt_apply, if_neg (fun e => nomatch e.2)]

theorem oxV_apply_pos {d : Dev nD} {c : Fin τ.nSC} {q : Fin 2} {g : GSem nD τ sig} {ι : HIx 2} (h : 0 < oxV d c q g ι) :
    ∃ j : Fin 16, g = bcell d c (j.castLE h16) ∧ ι = some q := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- The barrier cells' invariants of a SparseCore, under names of the launch's choosing. -/
def cellInvs (d : Dev nD) (c : Fin τ.nSC) : sProp 𝕄 :=
  iprop(∃ κ : GSem nD τ sig → ℕ, bigSep Finset.univ fun j : Fin 16 =>
    cellInv EB (bRd Λv) (κ (bcell d c (j.castLE h16))) (bcell d c (j.castLE h16)))
/-- Tile `i`'s barrier kit for call `q`: the invariants, its duty tokens in every tile's round and the credit for the sixteen units of its own. -/
def bkit (q : Fin 2) (d : Dev nD) (c : Fin τ.nSC) (i : Fin τ.nSub) : sProp 𝕄 :=
  iprop(cellInvs Λv d c
    ∗ (bigSep Finset.univ fun j : Fin 16 => dutyTok EB (bcell d c (j.castLE h16)) q.val i.val)
    ∗ cred (tallyAt (bcell d c i) (some q) 16))
/-- That every tile's cell has reached round `r`. -/
def reachedAll (d : Dev nD) (c : Fin τ.nSC) (r : ℕ) : sProp 𝕄 :=
  bigSep Finset.univ fun j : Fin 16 => reached EB (bcell d c (j.castLE h16)) r

/-! ## What a tile of the first call is handed, and what it brings back -/

/-- The segment numbers of a tile in call `q`. -/
abbrev bPts (q s : ℕ) (d : Dev nD) : sProp 𝕄 :=
  (bLoc d ↦[bSet (50176 * q + 3136 * s) (50176 * q + 3136 * s + 3136)]{fullShare} (Λv.bt d))

/-- Its rows, its segment numbers, its block of the result, its row of the shared scratch. -/
def go0 (d : Dev nD) (c : Fin τ.nSC) (s : ℕ) : sProp 𝕄 :=
  iprop((∃ y : S50176.Idx → Elt F .f32, ⌜Λv.yOK 0 d y⌝ ∗ (yLoc0 d ↦[ySet s]{fullShare} y)) ∗ bPts Λv 0 s d
    ∗ (∃ f : S4096.Idx → Elt F .f32, (oLoc0 d ↦[oSet s]{fullShare} f)) ∗ ∃ f, shPts0 d c (rowS s) f)

/-- Its segment numbers, its block of the result at the sums, its columns of the shared scratch, and that its barrier cell is past round 0. -/
def td0 (d : Dev nD) (c : Fin τ.nSC) (j : Fin τ.nSub) : sProp 𝕄 :=
  iprop(bPts Λv 0 j.val d
    ∗ (∃ f : S4096.Idx → Elt F .f32, ⌜∀ k ∈ oSet j.val, SUMk Λv d 0 k (f k)⌝ ∗ (oLoc0 d ↦[oSet j.val]{fullShare} f))
    ∗ (∃ f, shPts0 d c (colS j.val) f)
    ∗ atPos EB (bcell d c j) 1 ∅ 0 ∗ reached EB (bcell d c j) 1)

end Cert.Proof.SegSum
-- ==== Proof.Pieces.lean ====
/-
  The pieces of the arrays a tile of the first call addresses are the ones the call hands round.
-/
module

public import proofs.«01_k».proof.Proof.Barrier

@[expose] public section

noncomputable section

namespace Cert.Proof.SegSum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (Λv : Vals F) (d : Dev nD) (L : grid1.Coords)

/-! ## The pieces a tile of the first call addresses -/

/-- The tile's number. -/
abbrev tn1 : ℕ := (L 1).val

abbrev yK1 : Memref sig .scVector .hbm S3136 .f32 := (yV1).slice (Rect.unit (s := S50176) (k1_off1 L) S3136.size (k1_off1_inb L)) (fun _ => rfl)
abbrev bK1a (h : k1_cond1 L = 1#1) : Memref sig .scVector .hbm S3136 .i32 := (bV1).slice (Rect.unit (s := S100000) (k1_off2 L) S3136.size (k1_off2_inb L h)) (fun _ => rfl)
abbrev bK1b (h : k1_cond2 L = 1#1) : Memref sig .scVector .hbm S3136 .i32 := (bV1).slice (Rect.unit (s := S100000) (k1_off3 L) S3136.size (k1_off3_inb L h)) (fun _ => rfl)
abbrev oK1 : Memref sig .scVector .hbm S256 .f32 := (oV1).slice (Rect.unit (s := S4096) (k1_off28 L) S256.size (k1_off28_inb L)) (fun _ => rfl)
abbrev rK1 : Memref sig .scVector .shared S4096 .f32 :=
  ((sh1).slice (Rect.unit (s := S16x4096) (k1_off9 L) S1x4096.size (k1_off9_inb L)) (fun _ => rfl)).squeeze S4096 squeezes_S1x4096_S4096
abbrev cK1 : Memref sig .scVector .shared S16x256 .f32 := (sh1).slice (Rect.unit (s := S16x4096) (k1_off10 L) S16x256.size (k1_off10_inb L)) (fun _ => rfl)

theorem cond1_iff : ∀ L : grid1.Coords, (k1_cond1 L = 1#1) ↔ (L 1).val < 15 := by decide +kernel
theorem cond2_iff : ∀ L : grid1.Coords, (k1_cond2 L = 1#1) ↔ ¬ (L 1).val < 15 := by decide +kernel

theorem set_yK1 : (yK1 L).view.set = ySet (tn1 L) :=
  (View.set_slice_whole _ _).trans (set_run (k1_off1 L) (k1_off1_inb L) (3136 * tn1 L) (congrFun (k1_off1_eq L) 0))
theorem set_bK1a (h : k1_cond1 L = 1#1) : (bK1a L h).view.set = bSet (3136 * tn1 L) (3136 * tn1 L + 3136) :=
  (View.set_slice_whole _ _).trans (set_run (k1_off2 L) (k1_off2_inb L h) (3136 * tn1 L) (congrFun (k1_off2_eq L) 0))
theorem set_bK1b (h : k1_cond2 L = 1#1) : (bK1b L h).view.set = bSet (3136 * tn1 L) (3136 * tn1 L + 3136) :=
  (View.set_slice_whole _ _).trans (set_run (k1_off3 L) (k1_off3_inb L h) (3136 * tn1 L) (congrFun (k1_off3_eq L) 0))
theorem set_oK1 : (oK1 L).view.set = oSet (tn1 L) :=
  (View.set_slice_whole _ _).trans (set_run (k1_off28 L) (k1_off28_inb L) (256 * tn1 L) (congrFun (k1_off28_eq L) 0))
theorem set_cK1 : (cK1 L).view.set = colS (tn1 L) := by
  refine (View.set_slice_whole _ _).trans ((set_box (k1_off10 L) (k1_off10_inb L) 0 (256 * tn1 L) (congrFun (k1_off10_eq L) 0) (congrFun (k1_off10_eq L) 1)).trans ?_)
  ext i
  have h0 : (i 0).val < 16 := (i 0).isLt
  simp only [colS, Finset.mem_filter, Finset.mem_univ, true_and]
  exact ⟨fun h => h.2, fun h => ⟨⟨Nat.zero_le _, by omega⟩, h⟩⟩
theorem set_rK1 : (rK1 L).view.set = rowS (tn1 L) := by
  refine (View.set_reshape _ _).trans ((View.set_slice_whole _ _).trans ((set_box (k1_off9 L) (k1_off9_inb L) (tn1 L) 0 (congrFun (k1_off9_eq L) 0) (congrFun (k1_off9_eq L) 1)).trans ?_))
  ext i
  have h1 : (i 1).val < 4096 := (i 1).isLt
  simp only [rowS, Finset.mem_filter, Finset.mem_univ, true_and]
  omega

theorem pts_yK1 (f : S50176.Idx → Elt F .f32) : ((yK1 L).view.loc (th1 d L) ↦[(yK1 L).view.set]{fullShare} f : sProp 𝕄) = (yLoc0 d ↦[ySet (tn1 L)]{fullShare} f) := by
  rw [set_yK1]
theorem pts_bK1a (h : k1_cond1 L = 1#1) (f : S100000.Idx → BitVec 32) :
    ((bK1a L h).view.loc (th1 d L) ↦[(bK1a L h).view.set]{fullShare} f : sProp 𝕄) = (bLoc d ↦[bSet (3136 * tn1 L) (3136 * tn1 L + 3136)]{fullShare} f) := by
  rw [set_bK1a]
theorem pts_bK1b (h : k1_cond2 L = 1#1) (f : S100000.Idx → BitVec 32) :
    ((bK1b L h).view.loc (th1 d L) ↦[(bK1b L h).view.set]{fullShare} f : sProp 𝕄) = (bLoc d ↦[bSet (3136 * tn1 L) (3136 * tn1 L + 3136)]{fullShare} f) := by
  rw [set_bK1b]
theorem pts_oK1 (f : S4096.Idx → Elt F .f32) : ((oK1 L).view.loc (th1 d L) ↦[(oK1 L).view.set]{fullShare} f : sProp 𝕄) = (oLoc0 d ↦[oSet (tn1 L)]{fullShare} f) := by
  rw [set_oK1]
theorem pts_cK1 (f : S16x4096.Idx → Elt F .f32) : ((cK1 L).view.loc (th1 d L) ↦[(cK1 L).view.set]{fullShare} f : sProp 𝕄) = shPts0 d (cV1 L) (colS (tn1 L)) f := by
  rw [set_cK1]; rfl
theorem pts_rK1 (f : S16x4096.Idx → Elt F .f32) : ((rK1 L).view.loc (th1 d L) ↦[(rK1 L).view.set]{fullShare} f : sProp 𝕄) = shPts0 d (cV1 L) (rowS (tn1 L)) f := by
  rw [set_rK1]; rfl

end Cert.Proof.SegSum
-- ==== Proof.Own.lean ====
/-
  A tile's own buffers and semaphores in the first call: the ones the call uses, and the rest.
-/
module

public import proofs.«01_k».proof.Proof.Pieces

@[expose] public section

noncomputable section

namespace Cert.Proof.SegSum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (Λv : Vals F) (d : Dev nD) (L : grid1.Coords)

/-! ## The tile's own buffers and semaphores -/

abbrev scell1_0 (d : Dev nD) (c : Fin τ.nSC) (i : Fin τ.nSub) : GSem nD τ sig := (V d c i, .dma cc1_scratch6.sem)
abbrev scell1_1 (d : Dev nD) (c : Fin τ.nSC) (i : Fin τ.nSub) : GSem nD τ sig := (V d c i, .dma cc1_scoped0.sem)
abbrev scell1_2 (d : Dev nD) (c : Fin τ.nSC) (i : Fin τ.nSub) : GSem nD τ sig := (V d c i, .dma cc1_scoped1.sem)
abbrev scell1_3 (d : Dev nD) (c : Fin τ.nSC) (i : Fin τ.nSub) : GSem nD τ sig := (V d c i, .dma cc1_scoped2.sem)
abbrev scell1_4 (d : Dev nD) (c : Fin τ.nSC) (i : Fin τ.nSub) : GSem nD τ sig := (V d c i, .dma cc1_scoped3.sem)
abbrev scell1_5 (d : Dev nD) (c : Fin τ.nSC) (i : Fin τ.nSub) : GSem nD τ sig := (V d c i, .dma cc1_scoped4.sem)

/-- The tile's other semaphores. -/
abbrev semRest1 : sProp 𝕄 := bigSep (((((((ownCells (th1 d L)).erase (scell1_0 d (cV1 L) (jV1 L))).erase (scell1_1 d (cV1 L) (jV1 L))).erase (scell1_2 d (cV1 L) (jV1 L))).erase (scell1_3 d (cV1 L) (jV1 L))).erase (scell1_4 d (cV1 L) (jV1 L))).erase (scell1_5 d (cV1 L) (jV1 L))) fun g => semVal g 0

/-- The tile's own semaphores: the ones the call's transfers signal, and the rest. -/
theorem ownSems1 : (ownSems0 (th1 d L) : sProp 𝕄)
    = iprop(semVal (scell1_0 d (cV1 L) (jV1 L)) 0 ∗ semVal (scell1_1 d (cV1 L) (jV1 L)) 0 ∗ semVal (scell1_2 d (cV1 L) (jV1 L)) 0 ∗ semVal (scell1_3 d (cV1 L) (jV1 L)) 0 ∗ semVal (scell1_4 d (cV1 L) (jV1 L)) 0 ∗ semVal (scell1_5 d (cV1 L) (jV1 L)) 0 ∗ semRest1 d L) := by
  unfold SparseCore.Cfg.ownSems0 semRest1
  rw [SparseCore.bigSep_erase' ((mem_ownCells (g := (scell1_0 d (cV1 L) (jV1 L)))).mpr ⟨rfl, by show (SemLoc.dma cc1_scratch6.sem : SemLoc sig).isScoped .scVector = true; decide⟩),
    SparseCore.bigSep_erase' (Finset.mem_erase.mpr ⟨fun e => absurd (congrArg Prod.snd e) (show (SemLoc.dma cc1_scoped0.sem : SemLoc sig) ≠ .dma cc1_scratch6.sem by decide), (mem_ownCells (g := (scell1_1 d (cV1 L) (jV1 L)))).mpr ⟨rfl, by show (SemLoc.dma cc1_scoped0.sem : SemLoc sig).isScoped .scVector = true; decide⟩⟩),
    SparseCore.bigSep_erase' (Finset.mem_erase.mpr ⟨fun e => absurd (congrArg Prod.snd e) (show (SemLoc.dma cc1_scoped1.sem : SemLoc sig) ≠ .dma cc1_scoped0.sem by decide), Finset.mem_erase.mpr ⟨fun e => absurd (congrArg Prod.snd e) (show (SemLoc.dma cc1_scoped1.sem : SemLoc sig) ≠ .dma cc1_scratch6.sem by decide), (mem_ownCells (g := (scell1_2 d (cV1 L) (jV1 L)))).mpr ⟨rfl, by show (SemLoc.dma cc1_scoped1.sem : SemLoc sig).isScoped .scVector = true; decide⟩⟩⟩),
    SparseCore.bigSep_erase' (Finset.mem_erase.mpr ⟨fun e => absurd (congrArg Prod.snd e) (show (SemLoc.dma cc1_scoped2.sem : SemLoc sig) ≠ .dma cc1_scoped1.sem by decide), Finset.mem_erase.mpr ⟨fun e => absurd (congrArg Prod.snd e) (show (SemLoc.dma cc1_scoped2.sem : SemLoc sig) ≠ .dma cc1_scoped0.sem by decide), Finset.mem_erase.mpr ⟨fun e => absurd (congrArg Prod.snd e) (show (SemLoc.dma cc1_scoped2.sem : SemLoc sig) ≠ .dma cc1_scratch6.sem by decide), (mem_ownCells (g := (scell1_3 d (cV1 L) (jV1 L)))).mpr ⟨rfl, by show (SemLoc.dma cc1_scoped2.sem : SemLoc sig).isScoped .scVector = true; decide⟩⟩⟩⟩),
    SparseCore.bigSep_erase' (Finset.mem_erase.mpr ⟨fun e => absurd (congrArg Prod.snd e) (show (SemLoc.dma cc1_scoped3.sem : SemLoc sig) ≠ .dma cc1_scoped2.sem by decide), Finset.mem_erase.mpr ⟨fun e => absurd (congrArg Prod.snd e) (show (SemLoc.dma cc1_scoped3.sem : SemLoc sig) ≠ .dma cc1_scoped1.sem by decide), Finset.mem_erase.mpr ⟨fun e => absurd (congrArg Prod.snd e) (show (SemLoc.dma cc1_scoped3.sem : SemLoc sig) ≠ .dma cc1_scoped0.sem by decide), Finset.mem_erase.mpr ⟨fun e => absurd (congrArg Prod.snd e) (show (SemLoc.dma cc1_scoped3.sem : SemLoc sig) ≠ .dma cc1_scratch6.sem by decide), (mem_ownCells (g := (scell1_4 d (cV1 L) (jV1 L)))).mpr ⟨rfl, by show (SemLoc.dma cc1_scoped3.sem : SemLoc sig).isScoped .scVector = true; decide⟩⟩⟩⟩⟩),
    SparseCore.bigSep_erase' (Finset.mem_erase.mpr ⟨fun e => absurd (congrArg Prod.snd e) (show (SemLoc.dma cc1_scoped4.sem : SemLoc sig) ≠ .dma cc1_scoped3.sem by decide), Finset.mem_erase.mpr ⟨fun e => absurd (congrArg Prod.snd e) (show (SemLoc.dma cc1_scoped4.sem : SemLoc sig) ≠ .dma cc1_scoped2.sem by decide), Finset.mem_erase.mpr ⟨fun e => absurd (congrArg Prod.snd e) (show (SemLoc.dma cc1_scoped4.sem : SemLoc sig) ≠ .dma cc1_scoped1.sem by decide), Finset.mem_erase.mpr ⟨fun e => absurd (congrArg Prod.snd e) (show (SemLoc.dma cc1_scoped4.sem : SemLoc sig) ≠ .dma cc1_scoped0.sem by decide), Finset.mem_erase.mpr ⟨fun e => absurd (congrArg Prod.snd e) (show (SemLoc.dma cc1_scoped4.sem : SemLoc sig) ≠ .dma cc1_scratch6.sem by decide), (mem_ownCells (g := (scell1_5 d (cV1 L) (jV1 L)))).mpr ⟨rfl, by show (SemLoc.dma cc1_scoped4.sem : SemLoc sig).isScoped .scVector = true; decide⟩⟩⟩⟩⟩⟩)]

/-- The tile's other buffers. -/
abbrev bufRest1 : sProp 𝕄 := bigSep ((((((ownRefs (τ := τ) (.scVector (cV1 L) (jV1 L))).erase ((Proc.scVector (cV1 L) (jV1 L)).devRef cc1_scratch0)).erase ((Proc.scVector (cV1 L) (jV1 L)).devRef cc1_scratch1)).erase ((Proc.scVector (cV1 L) (jV1 L)).devRef cc1_scratch2)).erase ((Proc.scVector (cV1 L) (jV1 L)).devRef cc1_scratch3)).erase ((Proc.scVector (cV1 L) (jV1 L)).devRef cc1_scratch4)) fun b => iprop(∃ f, ((d, b) : Loc nD τ sig) ↦{fullShare} f)

/-- The tile's own buffers: the call's scratch, each at some contents, and the rest. -/
theorem ownBufs1 : (ownBufs (th1 d L) : sProp 𝕄)
    = iprop((∃ f, (th1 d L).loc cc1_scratch0 ↦{fullShare} f) ∗ (∃ f, (th1 d L).loc cc1_scratch1 ↦{fullShare} f) ∗ (∃ f, (th1 d L).loc cc1_scratch2 ↦{fullShare} f) ∗ (∃ f, (th1 d L).loc cc1_scratch3 ↦{fullShare} f) ∗ (∃ f, (th1 d L).loc cc1_scratch4 ↦{fullShare} f) ∗ bufRest1 d L) := by
  unfold SparseCore.Cfg.ownBufs bufRest1
  rw [SparseCore.bigSep_erase' (SparseCore.Cfg.mem_ownRefs_of_owner (p := Proc.scVector (cV1 L) (jV1 L)) (b := (Proc.scVector (cV1 L) (jV1 L)).devRef cc1_scratch0) rfl),
    SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV1 L) (jV1 L)) (b := (Proc.scVector (cV1 L) (jV1 L)).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV1 L) (jV1 L)) (b := (Proc.scVector (cV1 L) (jV1 L)).devRef cc1_scratch2) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV1 L) (jV1 L)) (b := (Proc.scVector (cV1 L) (jV1 L)).devRef cc1_scratch3) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector (cV1 L) (jV1 L)) (b := (Proc.scVector (cV1 L) (jV1 L)).devRef cc1_scratch4) rfl⟩⟩⟩⟩)]

end Cert.Proof.SegSum
-- ==== Proof.Pays.lean ====
/-
  What the first call's barrier carries.
-/
module

public import proofs.«01_k».proof.Proof.Own

@[expose] public section

noncomputable section

namespace Cert.Proof.SegSum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (Λv : Vals F) (d : Dev nD) (L : grid1.Coords)

/-! ## What the barrier carries -/

theorem mem_rowS {s : ℕ} {i : S16x4096.Idx} : i ∈ rowS s ↔ (i 0).val = s := by simp [rowS]
theorem mem_colS {j : ℕ} {i : S16x4096.Idx} : i ∈ colS j ↔ 256 * j ≤ (i 1).val ∧ (i 1).val < 256 * j + 256 := by simp [colS]
theorem mem_cellS {s j : ℕ} {i : S16x4096.Idx} : i ∈ cellS s j ↔ (i 0).val = s ∧ 256 * j ≤ (i 1).val ∧ (i 1).val < 256 * j + 256 := by simp [cellS]

theorem rowS_cells (s : ℕ) : (Finset.univ : Finset (Fin 16)).biUnion (fun j => cellS s j.val) = rowS s := by
  ext i
  simp only [Finset.mem_biUnion, Finset.mem_univ, true_and, mem_cellS, mem_rowS]
  have h1 : (i 1).val < 4096 := (i 1).isLt
  exact ⟨fun ⟨_, h⟩ => h.1, fun h => ⟨⟨(i 1).val / 256, by omega⟩, h, by dsimp only; omega, by dsimp only; omega⟩⟩
theorem rowS_disj (s : ℕ) : ∀ t ∈ (Finset.univ : Finset (Fin 16)), ∀ t' ∈ (Finset.univ : Finset (Fin 16)), t ≠ t' → Disjoint (cellS s t.val) (cellS s t'.val) := by
  intro t _ t' _ h
  rw [Finset.disjoint_left]; intro i hi hi'
  rw [mem_cellS] at hi hi'
  exact h (Fin.ext (by omega))
theorem colS_cells (j : ℕ) : (Finset.univ : Finset (Fin 16)).biUnion (fun s => cellS s.val j) = colS j := by
  ext i
  simp only [Finset.mem_biUnion, Finset.mem_univ, true_and, mem_cellS, mem_colS]
  exact ⟨fun ⟨_, h⟩ => h.2, fun h => ⟨i 0, rfl, h⟩⟩
theorem colS_disj (j : ℕ) : ∀ t ∈ (Finset.univ : Finset (Fin 16)), ∀ t' ∈ (Finset.univ : Finset (Fin 16)), t ≠ t' → Disjoint (cellS t.val j) (cellS t'.val j) := by
  intro t _ t' _ h
  rw [Finset.disjoint_left]; intro i hi hi'
  rw [mem_cellS] at hi hi'
  exact h (Fin.ext (by omega))

/-- A tile's row of the shared scratch, at an accumulator's contents, is what its arrivals hand the sixteen tiles. -/
theorem pays_intro0 (c : Fin τ.nSC) (n : Fin 16) (row : S4096.Idx → Elt F .f32) (f : S16x4096.Idx → Elt F .f32) (hr : ROW Λv d 0 n.val row) (hf : ∀ i ∈ rowS n.val, f i = row (colOf i)) :
    shPts0 d c (rowS n.val) f ⊢ (bigSep Finset.univ fun j : Fin 16 => (bRd Λv).payload (bcell d c (j.castLE h16)) 0 n.val : sProp 𝕄) := by
  rw [← rowS_cells]
  refine (Entails.of_eq (pointsTo_biUnion (ℓ := shLoc0 d c) (Finset.univ : Finset (Fin 16)) (fun j => cellS n.val j.val) (rowS_disj n.val))).trans ?_
  refine bigSep_mono fun j _ => ?_
  show _ ⊢ bPay Λv (bcell d c (j.castLE h16)) 0 n.val
  unfold bPay; dsimp only; rw [if_pos rfl]
  iintro H; iexists row; isplitr; · ipureintro; exact hr
  iapply (Entails.of_eq (pointsTo_congr (ℓ := shLoc0 d c) fun i hi => hf i (mem_rowS.mpr (mem_cellS.mp hi).1))) $$ H

/-- What a tile's round collects is its columns of the shared scratch, each row at an accumulator's contents. -/
theorem pays_elim0 (c : Fin τ.nSC) (j : Fin 16) :
    (bigSep ((bRd Λv).duties (bcell d c (j.castLE h16)) 0 \ ∅) fun n => (bRd Λv).payload (bcell d c (j.castLE h16)) 0 n)
      ⊢ (iprop(∃ rows : ℕ → S4096.Idx → Elt F .f32, ⌜∀ s : Fin 16, ROW Λv d 0 s.val (rows s.val)⌝
          ∗ shPts0 d c (colS j.val) fun i => rows (i 0).val (colOf i)) : sProp 𝕄) := by
  rw [Finset.sdiff_empty, bRd_duties Λv d c _ 0 (by decide)]
  refine (Entails.of_eq (SparseCore.bigSep_image_of_injOn (fun a _ b _ h => Fin.ext h) _)).trans ?_
  show (bigSep (Finset.univ : Finset (Fin 16)) fun n : Fin 16 => bPay Λv (bcell d c (j.castLE h16)) 0 n.val) ⊢ _
  unfold bPay; dsimp only; simp only [if_pos]
  haveI : Nonempty (S4096.Idx → Elt F .f32) := ⟨fun _ => zf⟩
  refine (bigSep_exists_pi (Finset.univ : Finset (Fin 16)) (fun n (row : S4096.Idx → Elt F .f32) =>
    (iprop(⌜ROW Λv d 0 n.val row⌝ ∗ shPts0 d c (cellS n.val j.val) fun i => row (colOf i)) : sProp 𝕄))).trans ?_
  iintro ⟨%rows, H⟩
  ihave H := (bigSep_pure_sep (Finset.univ : Finset (Fin 16)) (fun n => ROW Λv d 0 n.val (rows n)) _) $$ H
  icases H with ⟨%hr, H⟩
  ihave H := (pointsTo_biUnion_join (ℓ := shLoc0 d c) (Finset.univ : Finset (Fin 16)) (fun n => cellS n.val j.val) (fun n i => rows n (colOf i)) (fun _ => zf) (colS_disj j.val)) $$ H
  icases H with ⟨%g, %hg, H⟩
  iexists (fun n => rows ⟨n % 16, Nat.mod_lt _ (by decide)⟩)
  isplitr
  · ipureintro; intro s
    have hs : (⟨s.val % 16, Nat.mod_lt _ (by decide)⟩ : Fin 16) = s := Fin.ext (Nat.mod_eq_of_lt s.isLt)
    show ROW Λv d 0 s.val (rows ⟨s.val % 16, _⟩)
    rw [hs]; exact hr s (Finset.mem_univ _)
  rw [← colS_cells]
  iapply (Entails.of_eq (pointsTo_congr (ℓ := shLoc0 d c) fun i hi => by
    obtain ⟨n, -, hn⟩ := Finset.mem_biUnion.mp hi
    rw [hg n (Finset.mem_univ _) i hn]
    have h0 := (mem_cellS.mp hn).1
    have hs : (⟨(i 0).val % 16, Nat.mod_lt _ (by decide)⟩ : Fin 16) = n := Fin.ext (by rw [h0]; exact Nat.mod_eq_of_lt n.isLt)
    show rows n (colOf i) = rows ⟨(i 0).val % 16, _⟩ (colOf i)
    rw [hs])) $$ H

end Cert.Proof.SegSum
-- ==== Proof.Reads.lean ====
/-
  What the copies of the first call read and leave, element by element.
-/
module

public import proofs.«01_k».proof.Proof.Pays

@[expose] public section

noncomputable section

namespace Cert.Proof.SegSum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (Λv : Vals F) (d : Dev nD) (L : grid1.Coords)

theorem tn1_lt : tn1 L < 16 := (L 1).isLt

/-- The chunk of the rows that the tile copies in. -/
theorem read_yK1 (y : S50176.Idx → Elt F .f32) : (yK1 L).view.read (Elt F) y = yChunk (tn1 L) y := by
  funext j
  refine congrArg y (funext fun a => Fin.ext ?_)
  match a with
  | 0 =>
    have h := tn1_lt L
    have hj : (j 0).val < 3136 := (j 0).isLt
    show k1_off1 L 0 + 1 * (j 0).val = (3136 * tn1 L + (j 0).val) % 50176
    rw [show k1_off1 L 0 = 3136 * tn1 L from congrFun (k1_off1_eq L) 0, Nat.mod_eq_of_lt (by omega), Nat.one_mul]

theorem iChunk_read (q : ℕ) (bt : S100000.Idx → BitVec 32) (j : S3136.Idx) (k : S100000.Idx) (h : (k 0).val = 50176 * q + 3136 * tn1 L + (j 0).val) :
    bt k = iChunk bt q (tn1 L) j := by
  have hk : (k 0).val < 100000 := (k 0).isLt
  unfold iChunk
  rw [dif_pos (by omega)]
  exact congrArg bt (funext fun a => Fin.ext (by match a with | 0 => exact h))

/-- The segment numbers that the tile copies in. -/
theorem read_bK1a (h : k1_cond1 L = 1#1) (bt : S100000.Idx → BitVec 32) : (bK1a L h).view.read (Elt F) bt = iChunk bt 0 (tn1 L) := by
  funext j
  refine iChunk_read L 0 bt j _ ?_
  show k1_off2 L 0 + 1 * (j 0).val = _
  rw [show k1_off2 L 0 = 3136 * tn1 L from congrFun (k1_off2_eq L) 0]; omega
theorem read_bK1b (h : k1_cond2 L = 1#1) (bt : S100000.Idx → BitVec 32) : (bK1b L h).view.read (Elt F) bt = iChunk bt 0 (tn1 L) := by
  funext j
  refine iChunk_read L 0 bt j _ ?_
  show k1_off3 L 0 + 1 * (j 0).val = _
  rw [show k1_off3 L 0 = 3136 * tn1 L from congrFun (k1_off3_eq L) 0]; omega

/-- The tile's row of the shared scratch after the accumulator is copied into it. -/
theorem write_rK1 (f : S16x4096.Idx → Elt F .f32) (row : S4096.Idx → Elt F .f32) (i : S16x4096.Idx) (hi : i ∈ rowS (tn1 L)) :
    (rK1 L).view.write (Elt F) f row Finset.univ i = row (colOf i) := by
  rw [← set_rK1] at hi
  obtain ⟨x, -, rfl⟩ := Finset.mem_map.mp hi
  rw [View.write_emb_of_mem _ _ (Finset.mem_univ _)]
  refine congrArg row (funext fun a => Fin.ext ?_)
  match a with
  | 0 =>
    show (x 0).val = k1_off9 L 1 + 1 * (Shape.reshapeEquiv (squeezes_S1x4096_S4096).numel_eq x 1).val
    rw [show k1_off9 L 1 = 0 from congrFun (k1_off9_eq L) 1]
    have e : Shape.reshapeEquiv (squeezes_S1x4096_S4096).numel_eq x = Fin.cons ⟨0, Nat.one_pos⟩ x := Shape.reshapeEquiv_cons_one _ x
    rw [e, Nat.zero_add, Nat.one_mul]; rfl

/-- Row `r`, column `j` of the slab the tile copies in. -/
theorem read_cK1 (f : ℕ → S4096.Idx → Elt F .f32) (r : Fin 16) (j : S256.Idx) :
    (cK1 L).view.read (Elt F) (fun i => f (i 0).val (colOf i)) (slIdx r j) = f r.val ((oK1 L).view.emb j) := by
  show f (k1_off10 L 0 + 1 * r.val) _ = _
  rw [show k1_off10 L 0 = 0 from congrFun (k1_off10_eq L) 0, Nat.zero_add, Nat.one_mul]
  refine congrArg (f r.val) (funext fun a => Fin.ext ?_)
  match a with
  | 0 =>
    show k1_off10 L 1 + 1 * (j 0).val = k1_off28 L 0 + 1 * (j 0).val
    rw [show k1_off10 L 1 = 256 * tn1 L from congrFun (k1_off10_eq L) 1, show k1_off28 L 0 = 256 * tn1 L from congrFun (k1_off28_eq L) 0]

/-- The tile's block of the result after the sums are copied into it. -/
theorem out_K1 (rows : ℕ → S4096.Idx → Elt F .f32) (hr : ∀ s : Fin 16, ROW Λv d 0 s.val (rows s.val)) (f : S4096.Idx → Elt F .f32) :
    ∀ k ∈ oSet (tn1 L), SUMk Λv d 0 k ((oK1 L).view.write (Elt F) f
      (fun j => colSum fun r => (cK1 L).view.read (Elt F) (fun i => rows (i 0).val (colOf i)) (slIdx r j)) Finset.univ k) := by
  intro k hk
  rw [← set_oK1] at hk
  obtain ⟨x, -, rfl⟩ := Finset.mem_map.mp hk
  refine ⟨rows, hr, ?_⟩
  rw [View.write_emb_of_mem _ _ (Finset.mem_univ _)]
  refine (cast_eq _ _).trans ?_
  exact congrArg colSum (funext fun r => read_cK1 L rows r x)

end Cert.Proof.SegSum
-- ==== Proof.Tile.lean ====
/-
  The first call on a tile.
-/
module

public import proofs.«01_k».proof.Proof.Reads

@[expose] public section

noncomputable section

namespace Cert.Proof.SegSum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (Λv : Vals F) (d : Dev nD) (L : grid1.Coords)

theorem bPts0_eq : (bLoc d ↦[bSet (3136 * tn1 L) (3136 * tn1 L + 3136)]{fullShare} (Λv.bt d) : sProp 𝕄) = bPts Λv 0 (tn1 L) d := by
  unfold bPts; rw [Nat.mul_zero, Nat.zero_add]

/-- A buffer written whole holds what was written. -/
theorem pts_whole (b : Ref sig .scVector) (f w w' : b.ty.Contents (Elt F)) (h : w = w') :
    ((Memref.whole b).view.loc (th1 d L) ↦{fullShare} (Memref.whole b).view.write (Elt F) f w Finset.univ : sProp 𝕄)
      = ((Memref.whole b).view.loc (th1 d L) ↦[(Memref.whole b).view.set]{fullShare} w') := by
  subst h
  rw [View.set_whole]
  exact congrArg (fun g => ((Memref.whole b).view.loc (th1 d L) ↦{fullShare} g : sProp 𝕄)) (View.write_whole_univ (Val := Elt F) b f w)
/-- A buffer held whole, as its view's elements. -/
theorem pts_set (b : Ref sig .scVector) (f : b.ty.Contents (Elt F)) :
    ((Memref.whole b).view.loc (th1 d L) ↦{fullShare} f : sProp 𝕄) = ((Memref.whole b).view.loc (th1 d L) ↦[(Memref.whole b).view.set]{fullShare} f) := by
  rw [View.set_whole]

/-- The tile's row of the shared scratch, once its accumulator is copied in, is what its arrival at the barrier hands over. -/
theorem pays_tile1 (y : S50176.Idx → Elt F .f32) (hy : Λv.yOK 0 d y) (f : S16x4096.Idx → Elt F .f32) (w : S4096.Idx → Elt F .f32)
    (hw : w = accN (yChunk (tn1 L) y) (iChunk (Λv.bt d) 0 (tn1 L)) 196) :
    ((rK1 L).view.loc (th1 d L) ↦[(rK1 L).view.set]{fullShare} (rK1 L).view.writes (Elt F) f [⟨Rect.whole S4096, w⟩] : sProp 𝕄)
      ⊢ bigSep Finset.univ fun j : Fin (grid1.bound 1) => (bRd Λv).payload (bcell d (cV1 L) (j.castLE hsub1)) (0 : Fin 2).val (jV1 L).val := by
  refine (Entails.of_eq (pts_rK1 (F := F) d L _)).trans ?_
  refine pays_intro0 Λv d (cV1 L) (L 1) w _ ⟨y, hy, hw⟩ fun i hi => ?_
  refine Eq.trans ?_ (write_rK1 (F := F) L f w i hi)
  exact congrFun (View.write_univ_eq_writes_whole (rK1 L).view f [] w).symm i

theorem out_tile1 (rows : ℕ → S4096.Idx → Elt F .f32) (hr : ∀ s : Fin 16, ROW Λv d 0 s.val (rows s.val)) (f : S4096.Idx → Elt F .f32) (w : S256.Idx → Elt F .f32)
    (hw : w = fun j => colSum fun r => (cK1 L).view.read (Elt F) (fun i => rows (i 0).val (colOf i)) (slIdx r j)) :
    ∀ k ∈ oSet (tn1 L), SUMk Λv d 0 k ((oK1 L).view.writes (Elt F) f [⟨Rect.whole S256, w⟩] k) := by
  subst hw
  intro k hk
  have h := out_K1 Λv d L rows hr f k hk
  rwa [show (oK1 L).view.write (Elt F) f _ Finset.univ k = _ from congrFun (View.write_univ_eq_writes_whole (oK1 L).view f [] _) k] at h

set_option maxHeartbeats 1000000 in
/-- The task of the first call on a tile. -/
theorem tile_body1 (hb : ∀ i, (Λv.bt d i).toNat < 4096) (hF : (K (F := F)).Facts) (O : CellTallies nD τ sig (HIx 2)) (W : Waits sig (HIx 2)) (hO : ∀ g, O g none = 0)
    (hOlev : ∀ g ι, 0 < O g ι → 8 * (0 : Fin 2).val + 6 ≤ (K (F := F)).lev g ι) :
    iprop(levAts (K (F := F)).L (K (F := F)).lev
        ∗ (bkit Λv 0 d (cV1 L) (jV1 L) ∗ reachedAll d (cV1 L) 0 ∗ atPos EB (bcell d (cV1 L) (jV1 L)) 0 ∅ 0)
        ∗ go0 Λv d (cV1 L) (tn1 L)
        ∗ scopedBufs (th1 d L) ∗ scopedSems0 (th1 d L) ∗ owes (th1 d L) (O + oxV d (cV1 L) 0) W)
      ⊢ wp frame (wpE (defs₀ (F := F)) 𝒱₀ (th1 d L) none) Set.univ
          (cc1_body L yV1 (Memref.isWhole_whole _) bV1 (Memref.isWhole_whole _) oV1 (Memref.isWhole_whole _)
            yc1 (Memref.isWhole_whole _) ic1 (Memref.isWhole_whole _) ac1 (Memref.isWhole_whole _) sl1 (Memref.isWhole_whole _) ob1 (Memref.isWhole_whole _)
            pv1 (Memref.isWhole_whole _) cc1_scratch6 sh1 (Memref.isWhole_whole _) cc1_scoped0 cc1_scoped1 cc1_scoped2 cc1_scoped3 cc1_scoped4)
          fun _ => iprop(td0 Λv d (cV1 L) (jV1 L)
            ∗ scopedBufs (th1 d L) ∗ scopedSems0 (th1 d L)
            ∗ ∃ W', ⌜∀ p ∈ W', p ∈ W ∨ p.2 = none ∨ p.2 = some (0 : Fin 2)⌝ ∗ owes (th1 d L) O W') := by
  simp only [cc1_body_eq_skeleton]; unfold cc1_body_skel
  rw [(K (F := F)).scopedBufs_V hF d (cV1 L) (jV1 L), SparseCore.Cfg.scopedSems0_V (Val := Elt F) d (cV1 L) (jV1 L), ownSems1, ownBufs1]
  unfold bkit cellInvs reachedAll go0 td0
  iintro ⟨#Hlv, ⟨⟨⟨%κ, #Hinv⟩, Htoks, Hcred⟩, #Hrch, Hat⟩, ⟨⟨%y, %hy, Hy⟩, Hb, ⟨%fo, Ho⟩, %fsh, Hsh⟩, ⟨⟨%f0, H0⟩, ⟨%f1, H1⟩, ⟨%f2, H2⟩, ⟨%f3, H3⟩, ⟨%f4, H4⟩, Hbufs⟩,
    ⟨HS6, HS0, HS1, HS2, HS3, HS4, Hsems⟩, HO⟩
  have hO' : ∀ g, (O + oxV d (cV1 L) 0) g none = 0 := fun g => by rw [Pi.add_apply, Finsupp.add_apply, hO g, oxV_none]
  ihave Hmw1 := (show levAts (K (F := F)).L (K (F := F)).lev ⊢ Transfers.MayWaits (th1 d L) (default : HIx 2) (O + oxV d (cV1 L) 0) from
    (K (F := F)).mayWaits_none (thr := th1 d L) hO') $$ Hlv
  ihave Hmw2 := (show levAts (K (F := F)).L (K (F := F)).lev ⊢ Transfers.MayWaits (th1 d L) (default : HIx 2) O from
    (K (F := F)).mayWaits_none (thr := th1 d L) hO) $$ Hlv
  ihave Hy' := (Entails.of_eq (pts_yK1 (F := F) d L _).symm) $$ Hy
  ihave Ho' := (Entails.of_eq (pts_oK1 (F := F) d L _).symm) $$ Ho
  ihave Hsh' := (Entails.of_eq (pts_rK1 (F := F) d L _).symm) $$ Hsh
  ihave H0' := (Entails.of_eq (show ((th1 d L).loc cc1_scratch0 ↦{fullShare} f0 : sProp 𝕄) = ((yc1).view.loc (th1 d L) ↦{fullShare} f0) from rfl)) $$ H0
  ihave H1' := (Entails.of_eq (show ((th1 d L).loc cc1_scratch1 ↦{fullShare} f1 : sProp 𝕄) = ((ic1).view.loc (th1 d L) ↦{fullShare} f1) from rfl)) $$ H1
  ihave H2' := (Entails.of_eq (show ((th1 d L).loc cc1_scratch2 ↦{fullShare} f2 : sProp 𝕄) = ((ac1).view.loc (th1 d L) ↦{fullShare} f2) from rfl)) $$ H2
  ihave H3' := (Entails.of_eq (show ((th1 d L).loc cc1_scratch3 ↦{fullShare} f3 : sProp 𝕄) = ((sl1).view.loc (th1 d L) ↦{fullShare} f3) from rfl)) $$ H3
  ihave H4' := (Entails.of_eq (show ((th1 d L).loc cc1_scratch4 ↦{fullShare} f4 : sProp 𝕄) = ((ob1).view.loc (th1 d L) ↦{fullShare} f4) from rfl)) $$ H4
  -- either way of copying the segment numbers in, up to the zeroing of the accumulator
  by_cases hs : (L 1).val < 15
  case' pos =>
    have k1_h1 : k1_cond1 L = 1#1 := (cond1_iff L).mpr hs
    have k1_h2 : ¬ k1_cond2 L = 1#1 := fun h => (cond2_iff L).mp h hs
    ihave Hb' := (Entails.of_eq ((pts_bK1a (F := F) d L k1_h1 (Λv.bt d)).trans (bPts0_eq Λv d L)).symm) $$ Hb
    sl_exec
    ihave Hb := (Entails.of_eq ((pts_bK1a (F := F) d L k1_h1 (Λv.bt d)).trans (bPts0_eq Λv d L))) $$ Hb'
    ihave H1 := (Entails.of_eq (pts_whole (F := F) d L cc1_scratch1 f1 (tile_body1.sl.dma0_1 Λv d L k1_h1) _ (read_bK1a L k1_h1 (Λv.bt d)))) $$ H1'
  case' neg =>
    have k1_h1 : ¬ k1_cond1 L = 1#1 := fun h => hs ((cond1_iff L).mp h)
    have k1_h2 : k1_cond2 L = 1#1 := (cond2_iff L).mpr hs
    ihave Hb' := (Entails.of_eq ((pts_bK1b (F := F) d L k1_h2 (Λv.bt d)).trans (bPts0_eq Λv d L)).symm) $$ Hb
    sl_exec
    ihave Hb := (Entails.of_eq ((pts_bK1b (F := F) d L k1_h2 (Λv.bt d)).trans (bPts0_eq Λv d L))) $$ Hb'
    ihave H1 := (Entails.of_eq (pts_whole (F := F) d L cc1_scratch1 f1 (tile_body1.sl.dma0_3 Λv d L k1_h2) _ (read_bK1b L k1_h2 (Λv.bt d)))) $$ H1'
  all_goals
    -- the accumulator zeroed
    ihave Hz := (zero_loop1 (F := F) d L f2) $$ [H2']
    · iapply (Entails.of_eq (pts_set (F := F) d L cc1_scratch2 f2)) $$ H2'
    rw [wp_bind]
    iapply (wp_wand_r _ _ _); isplitl [Hz]; · iexact Hz
    iintro %_ H2
    -- the rows waited for
    sl_exec
    first
    | ihave H0 := (Entails.of_eq (pts_whole (F := F) d L cc1_scratch0 f0 (tile_body1.sl.dma0 L y) _ (read_yK1 (F := F) L y))) $$ H0'
    | ihave H0 := (Entails.of_eq (pts_whole (F := F) d L cc1_scratch0 f0 (tile_body1.sl.dma0_2 L y) _ (read_yK1 (F := F) L y))) $$ H0'
    -- the rows added in at their segments
    ihave Hz := (acc_loop1 (F := F) d L (yChunk (tn1 L) y) (iChunk (Λv.bt d) 0 (tn1 L)) (iChunk_lt _ hb 0 _)) $$ [H0 H1 H2]
    · isplitl [H0]; · iexact H0
      isplitl [H1]; · iexact H1
      iexact H2
    rw [wp_bind]
    iapply (wp_wand_r _ _ _); isplitl [Hz]; · iexact Hz
    iintro %_ ⟨H0, H1, H2⟩
    -- the accumulator into the tile's row of the shared scratch
    sl_exec
    first
    | ihave Hpays := (pays_tile1 Λv d L y hy fsh (tile_body1.sl.dma0_4 Λv d L y) rfl) $$ Hsh'
    | ihave Hpays := (pays_tile1 Λv d L y hy fsh (tile_body1.sl.dma0_5 Λv d L y) rfl) $$ Hsh'
    | ihave Hpays := (pays_tile1 Λv d L y hy fsh (tile_body1.sl.dma0_6 Λv d L y) rfl) $$ Hsh'
    | ihave Hpays := (pays_tile1 Λv d L y hy fsh (tile_body1.sl.dma0_7 Λv d L y) rfl) $$ Hsh'
    | ihave Hpays := (pays_tile1 Λv d L y hy fsh (tile_body1.sl.dma0_8 Λv d L y) rfl) $$ Hsh'
    -- the barrier
    iapply (SparseCore.wp_subcoreBarrier 𝒱₀ none EB (bRd Λv) d (sc := cV1 L) (i := jV1 L) sc_bar0 (grid1.bound 1) hsub1 (L 1) rfl κ (fun _ => (0 : Fin 2).val) (jV1 L).val
        (fun j => bRd_mem Λv d _ _ _ 0 (by decide)) (fun _ => rfl) (bRd_expect Λv d _ _ 0 (by decide)) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := th1 d L) 3 (fun p hp => by
          rw [Finset.mem_singleton] at hp; subst hp
          show (K (F := F)).lev (bcell d (cV1 L) (jV1 L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, Hreached, Hgot⟩
    ihave Hcol := (show (bigSep ((bRd Λv).duties (bcell d (cV1 L) (jV1 L)) (0 : Fin 2).val \ ∅) fun m => (bRd Λv).payload (bcell d (cV1 L) (jV1 L)) (0 : Fin 2).val m) ⊢ _ from
      pays_elim0 Λv d (cV1 L) (L 1)) $$ Hgot
    icases Hcol with ⟨%rows, %hrows, Hcol⟩
    ihave Hcol' := (Entails.of_eq (pts_cK1 (F := F) d L _).symm) $$ Hcol
    -- the tile's columns into the slab
    sl_exec
    first
    | ihave H3 := (Entails.of_eq (pts_whole (F := F) d L cc1_scratch3 f3 (tile_body1.sl.dma0_4 L rows) _ rfl)) $$ H3'
    | ihave H3 := (Entails.of_eq (pts_whole (F := F) d L cc1_scratch3 f3 (tile_body1.sl.dma0_5 L rows) _ rfl)) $$ H3'
    | ihave H3 := (Entails.of_eq (pts_whole (F := F) d L cc1_scratch3 f3 (tile_body1.sl.dma0_6 L rows) _ rfl)) $$ H3'
    | ihave H3 := (Entails.of_eq (pts_whole (F := F) d L cc1_scratch3 f3 (tile_body1.sl.dma0_7 L rows) _ rfl)) $$ H3'
    | ihave H3 := (Entails.of_eq (pts_whole (F := F) d L cc1_scratch3 f3 (tile_body1.sl.dma0_8 L rows) _ rfl)) $$ H3'
    -- the columns added up
    ihave Hz := (red_loop1 (F := F) d L ((cK1 L).view.read (Elt F) fun i => rows (i 0).val (colOf i)) f4) $$ [H3 H4']
    · isplitl [H3]; · iexact H3
      iapply (Entails.of_eq (pts_set (F := F) d L cc1_scratch4 f4)) $$ H4'
    rw [wp_bind]
    iapply (wp_wand_r _ _ _); isplitl [Hz]; · iexact Hz
    iintro %_ ⟨H3, H4⟩
    -- the sums out to the tile's block of the result
    sl_exec
    rw [wp_ret]; imodintro
    isplitl [Hb Ho' Hcol' Hat Hreached]
    · isplitl [Hb]; · iexact Hb
      isplitl [Ho']
      · iexists _
        isplitr [Ho']
        rotate_left
        · iapply (Entails.of_eq (pts_oK1 (F := F) d L _)); iexact Ho'
        ipureintro
        exact out_tile1 Λv d L rows hrows fo _ rfl
      isplitl [Hcol']
      · iexists _; iapply (Entails.of_eq (pts_cK1 (F := F) d L _)); iexact Hcol'
      isplitl [Hat]; · iexact Hat
      iexact Hreached
    isplitl [H0 H1 H2 H3 H4 Hbufs]
    · isplitl [H0]; · iexists _; iapply (Entails.of_eq (pts_set (F := F) d L cc1_scratch0 _).symm); iexact H0
      isplitl [H1]; · iexists _; iapply (Entails.of_eq (pts_set (F := F) d L cc1_scratch1 _).symm); iexact H1
      isplitl [H2]; · iexists _; iapply (Entails.of_eq (pts_set (F := F) d L cc1_scratch2 _).symm); iexact H2
      isplitl [H3]; · iexists _; iapply (Entails.of_eq (pts_set (F := F) d L cc1_scratch3 _).symm); iexact H3
      isplitl [H4]; · iexists _; iapply (Entails.of_eq (pts_set (F := F) d L cc1_scratch4 _).symm); iexact H4
      iexact Hbufs
    isplitl [HS6 HS0 HS1 HS2 HS3 HS4 Hsems]
    · isplitl [HS6]; · iexact HS6
      isplitl [HS0]; · iexact HS0
      isplitl [HS1]; · iexact HS1
      isplitl [HS2]; · iexact HS2
      isplitl [HS3]; · iexact HS3
      isplitl [HS4]; · iexact HS4
      iexact Hsems
    iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inr (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact .inl hp

end Cert.Proof.SegSum
-- ==== Proof.Zero2.lean ====
/-
  The second call's accumulator set to zero: thirty-two trips of eight stores of sixteen zeros.
-/
module

public import proofs.«01_k».proof.Proof.Tile

@[expose] public section

noncomputable section

namespace Cert.Proof.SegSum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The second call's tile: its thread and its buffers as it addresses them -/

section Tile

variable (d : Dev nD) (L : grid3.Coords)

abbrev cV3 (L : grid3.Coords) : Fin τ.nSC := (L 0).castLE hcore3
abbrev jV3 (L : grid3.Coords) : Fin τ.nSub := (L 1).castLE hsub3
abbrev th3 : Thread nD τ := V d (cV3 L) (jV3 L)

abbrev yV3 : Memref sig .scVector .hbm S50176 .f32 := Memref.whole main_v5_scv
abbrev bV3 : Memref sig .scVector .hbm S100000 .i32 := Memref.whole main_arg1_scv
abbrev qV3 : Memref sig .scVector .hbm S4096 .f32 := Memref.whole main_v3_scv
abbrev oV3 : Memref sig .scVector .hbm S4096 .f32 := Memref.whole main_v6_scv
abbrev yc3 : Memref sig .scVector .vmem S3136 .f32 := Memref.whole cc3_scratch0
abbrev ic3 : Memref sig .scVector .vmem S3136 .i32 := Memref.whole cc3_scratch1
abbrev ac3 : Memref sig .scVector .vmem S4096 .f32 := Memref.whole cc3_scratch2
abbrev sl3 : Memref sig .scVector .vmem S16x256 .f32 := Memref.whole cc3_scratch3
abbrev ob3 : Memref sig .scVector .vmem S256 .f32 := Memref.whole cc3_scratch4
abbrev pv3 : Memref sig .scVector .vmem S256 .f32 := Memref.whole cc3_scratch5
abbrev sh3 : Memref sig .scVector .shared S16x4096 .f32 := Memref.whole cc3_scratch7

/-- The zeroing loop on a tile. -/
abbrev zeroLoop3 : Prog (TpuEff nD τ sig (Elt F) Λ₀ (.scVector (cV3 L) (jV3 L))) PUnit :=
  Scf.Loop.for k3_t2_loop k3_t2_ok ⟨⟩ (k3_t2_body L yV3 (Memref.isWhole_whole _) bV3 (Memref.isWhole_whole _) qV3 (Memref.isWhole_whole _) oV3 (Memref.isWhole_whole _)
    yc3 (Memref.isWhole_whole _) ic3 (Memref.isWhole_whole _) ac3 (Memref.isWhole_whole _) sl3 (Memref.isWhole_whole _) ob3 (Memref.isWhole_whole _)
    pv3 (Memref.isWhole_whole _) cc3_scratch6 sh3 (Memref.isWhole_whole _) cc3_scoped0 cc3_scoped1 cc3_scoped2 cc3_scoped3 cc3_scoped4 cc3_scoped5)

/-- Before trip `n` the first `128 n` segments are zero. -/
def zeroInv3 (n : ℕ) (_ : PUnit) : sProp 𝕄 :=
  iprop(∃ f : Buf (Elt F) ((th3 d L).loc cc3_scratch2), ⌜∀ j : S4096.Idx, (j 0).val < 128 * n → f j = zf (F := F)⌝
    ∗ ((ac3).view.loc (th3 d L) ↦[(ac3).view.set]{fullShare} f))

set_option maxHeartbeats 4000000 in
theorem zero_loop3 (f : Buf (Elt F) ((th3 d L).loc cc3_scratch2)) :
    ((ac3).view.loc (th3 d L) ↦[(ac3).view.set]{fullShare} f : sProp 𝕄)
      ⊢ wp frame (wpE (defs₀ (F := F)) 𝒱₀ (th3 d L) none) Set.univ (zeroLoop3 (F := F) L)
          fun _ => ((ac3).view.loc (th3 d L) ↦[(ac3).view.set]{fullShare} (fun _ => zf (F := F))) := by
  iintro H
  unfold zeroLoop3
  sl_for (zeroInv3 d L) $$ [H]
  case region =>
    intro k _
    unfold zeroInv3
    iintro ⟨%f, %hf, H⟩
    sl_exec
    rw [wp_ret]; imodintro
    iexists _
    isplitr [H]
    rotate_left
    · iexact H
    ipureintro
    intro j hj
    refine (congrFun (View.read_whole (κ := .scVector) cc3_scratch2 _) j).symm.trans ?_
    refine View.read_writes_const (ac3).view f (zf (F := F)) j _ ?_ ?_
    · simp only [List.forall_mem_cons, List.not_mem_nil, false_imp_iff, implies_true, and_true]
      exact ⟨fun _ => rfl, fun _ => rfl, fun _ => rfl, fun _ => rfl, fun _ => rfl, fun _ => rfl, fun _ => rfl, fun _ => rfl⟩
    · simp only [List.exists_mem_cons_iff]
      by_cases hlt : (j 0).val < 128 * k.val
      · exact .inr (hf j hlt)
      · left
        have off (r : Fin 8) := congrFun (k3_off5_eq k r) 0
        obtain ⟨r, h1, h2⟩ : ∃ r : Fin 8, 128 * k.val + 16 * r.val ≤ (j 0).val ∧ (j 0).val < 128 * k.val + 16 * r.val + 16 :=
          ⟨⟨((j 0).val - 128 * k.val) / 16, by omega⟩, by show _ + 16 * (((j 0).val - 128 * k.val) / 16) ≤ _; omega,
            by show _ < _ + 16 * (((j 0).val - 128 * k.val) / 16) + 16; omega⟩
        fin_cases r
        · exact .inr (.inr (.inr (.inr (.inr (.inr (.inr (.inl (mem_run16 _ (off 0) j h1 h2))))))))
        · exact .inr (.inr (.inr (.inr (.inr (.inr (.inl (mem_run16 _ (off 1) j h1 h2)))))))
        · exact .inr (.inr (.inr (.inr (.inr (.inl (mem_run16 _ (off 2) j h1 h2))))))
        · exact .inr (.inr (.inr (.inr (.inl (mem_run16 _ (off 3) j h1 h2)))))
        · exact .inr (.inr (.inr (.inl (mem_run16 _ (off 4) j h1 h2))))
        · exact .inr (.inr (.inl (mem_run16 _ (off 5) j h1 h2)))
        · exact .inr (.inl (mem_run16 _ (off 6) j h1 h2))
        · exact .inl (mem_run16 _ (off 7) j h1 h2)
  isplitl [H]
  · unfold zeroInv3
    iexists f; isplitr [H]
    · ipureintro; intro j hj; omega
    · iexact H
  iintro %_ HI
  unfold zeroInv3
  icases HI with ⟨%g, %hg, H⟩
  have e : g = fun _ => zf (F := F) := funext fun j => hg j (by have := (j 0).isLt; exact this)
  rw [e]; iexact H
end Tile

end Cert.Proof.SegSum
-- ==== Proof.Scatter2.lean ====
/-
  The second call's rows added into the accumulator: forty-nine trips of four groups of sixteen rows.
-/
module

public import proofs.«01_k».proof.Proof.Zero2

@[expose] public section

noncomputable section

namespace Cert.Proof.SegSum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid3.Coords)

/-- The loop that adds a tile's rows into its accumulator. -/
abbrev accLoop3 : Prog (TpuEff nD τ sig (Elt F) Λ₀ (.scVector (cV3 L) (jV3 L))) PUnit :=
  Scf.Loop.for k3_t3_loop k3_t3_ok ⟨⟩ (k3_t3_body L yV3 (Memref.isWhole_whole _) bV3 (Memref.isWhole_whole _) qV3 (Memref.isWhole_whole _) oV3 (Memref.isWhole_whole _)
    yc3 (Memref.isWhole_whole _) ic3 (Memref.isWhole_whole _) ac3 (Memref.isWhole_whole _) sl3 (Memref.isWhole_whole _) ob3 (Memref.isWhole_whole _)
    pv3 (Memref.isWhole_whole _) cc3_scratch6 sh3 (Memref.isWhole_whole _) cc3_scoped0 cc3_scoped1 cc3_scoped2 cc3_scoped3 cc3_scoped4 cc3_scoped5)

/-- Before trip `n` the accumulator holds the first `4 n` groups. -/
def accInv3 (yv : S3136.Idx → Elt F .f32) (iv : S3136.Idx → BitVec 32) (n : ℕ) (_ : PUnit) : sProp 𝕄 :=
  iprop(((yc3).view.loc (th3 d L) ↦[(yc3).view.set]{fullShare} yv) ∗ ((ic3).view.loc (th3 d L) ↦[(ic3).view.set]{fullShare} iv)
    ∗ ((ac3).view.loc (th3 d L) ↦[(ac3).view.set]{fullShare} accN yv iv (4 * n)))

/-- One indexed store of group `n`'s rows by its segments: the accumulator with the group in. -/
theorem acc_store3 {α : Type} (yv : S3136.Idx → Elt F .f32) (iv : S3136.Idx → BitVec 32) (n : ℕ) {w : IVec S16 32} {v : Vec F S16 .f32}
    (hw : w = fun x => iv (gIdx n x)) (hv : v = fun x => yv (gIdx n x)) {h : ∀ a x, ((![w] : Fin 1 → IVec S16 32) a x).toNat < S4096.size a}
    {hs : ((ac3).access (.whole S4096)).Stores Finset.univ} {k : PUnit → Prog (TpuEff nD τ sig (Elt F) Λ₀ (.scVector (cV3 L) (jV3 L))) α} {Q : α → sProp 𝕄} :
    ((ac3).view.loc (th3 d L) ↦[(ac3).view.set]{fullShare} accN yv iv n : sProp 𝕄)
      ⊢ iprop((((ac3).view.loc (th3 d L) ↦[(ac3).view.set]{fullShare} accN yv iv (n + 1))
          -∗ wp frame (wpE (defs₀ (F := F)) 𝒱₀ (th3 d L) none) Set.univ (k ⟨⟩) Q)
        -∗ wp frame (wpE (defs₀ (F := F)) 𝒱₀ (th3 d L) none) Set.univ (SparseCore.vectorStoreIdx ac3 ![w] v (fun _ => 1#1) true h hs >>= k) Q) := by
  subst hw hv
  have e : accN yv iv (n + 1) = storeIdx (accN yv iv n) (![fun x => iv (gIdx n x)] : Fin 1 → IVec S16 32) (fun x => yv (gIdx n x)) (fun _ => 1#1) true h :=
    (accN_succ yv iv n).trans (dif_pos h)
  have eset : (ac3).view.set = ((ac3).access (.whole S4096)).set := (View.set_whole _).trans (Memref.set_access_whole (b := cc3_scratch2)).symm
  rw [e]
  iintro H Hk
  ihave H' := (Entails.of_eq (show ((ac3).view.loc (th3 d L) ↦[(ac3).view.set]{fullShare} accN yv iv n : sProp 𝕄)
    = (((ac3).access (.whole S4096)).loc (th3 d L) ↦[((ac3).access (.whole S4096)).set]{fullShare} accN yv iv n) from congrArg (fun S => ((ac3).view.loc (th3 d L) ↦[S]{fullShare} accN yv iv n : sProp 𝕄)) eset)) $$ H
  iapply (SparseCore.wp_vectorStoreIdx 𝒱₀ (th3 d L) none Set.univ (base := ac3)) $$ H'
  iintro H
  iapply Hk
  iapply (Entails.of_eq ?_) $$ H
  rw [eset]
  refine congrArg (fun f => (((ac3).access (.whole S4096)).loc (th3 d L) ↦[((ac3).access (.whole S4096)).set]{fullShare} f : sProp 𝕄)) ?_
  refine (Memref.write_access_whole_univ (Elt F) cc3_scratch2 _ _).trans ?_
  exact congrArg (fun f => storeIdx f (![fun x => iv (gIdx n x)] : Fin 1 → IVec S16 32) (fun x => yv (gIdx n x)) (fun _ => 1#1) true h)
    (Memref.read_access_whole (Elt F) cc3_scratch2 (accN yv iv n))

set_option maxHeartbeats 400000 in
/-- The loop adds the 196 groups of the chunk into the accumulator. -/
theorem acc_loop3 (yv : S3136.Idx → Elt F .f32) (iv : S3136.Idx → BitVec 32) (hv : ∀ i, (iv i).toNat < 4096) :
    iprop(((yc3).view.loc (th3 d L) ↦[(yc3).view.set]{fullShare} yv) ∗ ((ic3).view.loc (th3 d L) ↦[(ic3).view.set]{fullShare} iv)
        ∗ ((ac3).view.loc (th3 d L) ↦[(ac3).view.set]{fullShare} (fun _ => zf (F := F))) : sProp 𝕄)
      ⊢ wp frame (wpE (defs₀ (F := F)) 𝒱₀ (th3 d L) none) Set.univ (accLoop3 (F := F) L)
          fun _ => iprop(((yc3).view.loc (th3 d L) ↦[(yc3).view.set]{fullShare} yv) ∗ ((ic3).view.loc (th3 d L) ↦[(ic3).view.set]{fullShare} iv)
            ∗ ((ac3).view.loc (th3 d L) ↦[(ac3).view.set]{fullShare} accN yv iv 196)) := by
  iintro H
  unfold accLoop3
  sl_for (accInv3 d L yv iv) $$ [H]
  case region =>
    intro k _
    unfold accInv3
    iintro ⟨Hy, Hi, Ha⟩
    have chk (n : ℕ) : ∀ a x, ((![fun x => iv (gIdx n x)] : Fin 1 → IVec S16 32) a x).toNat < S4096.size a := by
      intro a x; obtain rfl : a = 0 := Subsingleton.elim _ _; exact hv _
    have o0 : k3_off6 k 0 = 16 * (4 * k.val) := by rw [k3_off6_eq]; show 64 * k.val = _; omega
    have hi0 : View.readAt (Elt F) ic3.view (Rect.unit (s := S3136) (k3_off6 k) S16.size (k3_off6_inb k)).toLoadRect iv = fun x => iv (gIdx (4 * k.val) x) :=
      funext fun x => load_group (e := .i32) (F := F) iv _ _ _ o0 x
    have hy0 : View.readAt (Elt F) yc3.view (Rect.unit (s := S3136) (k3_off6 k) S16.size (k3_off6_inb k)).toLoadRect yv = fun x => yv (gIdx (4 * k.val) x) :=
      funext fun x => load_group (e := .f32) (F := F) yv _ _ _ o0 x
    have o1 : k3_off7 k 0 = 16 * (4 * k.val + 1) := by rw [k3_off7_eq]; show 64 * k.val + 16 = _; omega
    have hi1 : View.readAt (Elt F) ic3.view (Rect.unit (s := S3136) (k3_off7 k) S16.size (k3_off7_inb k)).toLoadRect iv = fun x => iv (gIdx (4 * k.val + 1) x) :=
      funext fun x => load_group (e := .i32) (F := F) iv _ _ _ o1 x
    have hy1 : View.readAt (Elt F) yc3.view (Rect.unit (s := S3136) (k3_off7 k) S16.size (k3_off7_inb k)).toLoadRect yv = fun x => yv (gIdx (4 * k.val + 1) x) :=
      funext fun x => load_group (e := .f32) (F := F) yv _ _ _ o1 x
    have o2 : k3_off8 k 0 = 16 * (4 * k.val + 2) := by rw [k3_off8_eq]; show 64 * k.val + 32 = _; omega
    have hi2 : View.readAt (Elt F) ic3.view (Rect.unit (s := S3136) (k3_off8 k) S16.size (k3_off8_inb k)).toLoadRect iv = fun x => iv (gIdx (4 * k.val + 2) x) :=
      funext fun x => load_group (e := .i32) (F := F) iv _ _ _ o2 x
    have hy2 : View.readAt (Elt F) yc3.view (Rect.unit (s := S3136) (k3_off8 k) S16.size (k3_off8_inb k)).toLoadRect yv = fun x => yv (gIdx (4 * k.val + 2) x) :=
      funext fun x => load_group (e := .f32) (F := F) yv _ _ _ o2 x
    have o3 : k3_off9 k 0 = 16 * (4 * k.val + 3) := by rw [k3_off9_eq]; show 64 * k.val + 48 = _; omega
    have hi3 : View.readAt (Elt F) ic3.view (Rect.unit (s := S3136) (k3_off9 k) S16.size (k3_off9_inb k)).toLoadRect iv = fun x => iv (gIdx (4 * k.val + 3) x) :=
      funext fun x => load_group (e := .i32) (F := F) iv _ _ _ o3 x
    have hy3 : View.readAt (Elt F) yc3.view (Rect.unit (s := S3136) (k3_off9 k) S16.size (k3_off9_inb k)).toLoadRect yv = fun x => yv (gIdx (4 * k.val + 3) x) :=
      funext fun x => load_group (e := .f32) (F := F) yv _ _ _ o3 x
    sl_exec
    rw [wp_assume_of _ _ _ _ (show k3_chk1 _ from chk _)]
    sl_exec
    iapply (acc_store3 d L yv iv (4 * k.val) rfl rfl) $$ Ha
    iintro Ha
    sl_exec
    rw [wp_assume_of _ _ _ _ (show k3_chk2 _ from chk _)]
    sl_exec
    iapply (acc_store3 d L yv iv (4 * k.val + 1) rfl rfl) $$ Ha
    iintro Ha
    sl_exec
    rw [wp_assume_of _ _ _ _ (show k3_chk3 _ from chk _)]
    sl_exec
    iapply (acc_store3 d L yv iv (4 * k.val + 2) rfl rfl) $$ Ha
    iintro Ha
    sl_exec
    rw [wp_assume_of _ _ _ _ (show k3_chk4 _ from chk _)]
    sl_exec
    iapply (acc_store3 d L yv iv (4 * k.val + 3) rfl rfl) $$ Ha
    iintro Ha
    sl_exec
    rw [wp_ret]; imodintro
    isplitl [Hy]; · iexact Hy
    isplitl [Hi]; · iexact Hi
    iexact Ha
  isplitl [H]
  · unfold accInv3
    icases H with ⟨Hy, Hi, Ha⟩
    isplitl [Hy]; · iexact Hy
    isplitl [Hi]; · iexact Hi
    iapply (Entails.of_eq (congrArg (fun f => ((ac3).view.loc (th3 d L) ↦[(ac3).view.set]{fullShare} f : sProp 𝕄)) (accN_zero yv iv).symm)) $$ Ha
  iintro %_ HI
  unfold accInv3
  iexact HI

end Cert.Proof.SegSum
-- ==== Proof.Reduce2.lean ====
/-
  The second call's reduction: sixteen trips, each adding the sixteen rows of sixteen columns.
-/
module

public import proofs.«01_k».proof.Proof.Scatter2

@[expose] public section

noncomputable section

namespace Cert.Proof.SegSum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (d : Dev nD) (L : grid3.Coords)

/-- The loop that adds the sixteen rows of a slab. -/
abbrev redLoop3 : Prog (TpuEff nD τ sig (Elt F) Λ₀ (.scVector (cV3 L) (jV3 L))) PUnit :=
  Scf.Loop.for k3_t4_loop k3_t4_ok ⟨⟩ (k3_t4_body L yV3 (Memref.isWhole_whole _) bV3 (Memref.isWhole_whole _) qV3 (Memref.isWhole_whole _) oV3 (Memref.isWhole_whole _)
    yc3 (Memref.isWhole_whole _) ic3 (Memref.isWhole_whole _) ac3 (Memref.isWhole_whole _) sl3 (Memref.isWhole_whole _) ob3 (Memref.isWhole_whole _)
    pv3 (Memref.isWhole_whole _) cc3_scratch6 sh3 (Memref.isWhole_whole _) cc3_scoped0 cc3_scoped1 cc3_scoped2 cc3_scoped3 cc3_scoped4 cc3_scoped5)

/-- Sixteen lanes of the previous sums. -/
theorem prev_row (f : S256.Idx → Elt F .f32) (off : Fin 1 → ℕ) (h : ∀ a, off a + S16.size a ≤ S256.size a) (t : ℕ) (h0 : off 0 = 16 * t) (x : S16.Idx) :
    f ((Rect.unit (s := S256) off S16.size h).idx x) = f (cIdx t x) := by
  have hx : (x 0).val < 16 := (x 0).isLt
  have hh := h 0
  change off 0 + 16 ≤ 256 at hh
  refine congrArg f (funext fun a => Fin.ext ?_)
  obtain rfl : a = 0 := Subsingleton.elim _ _
  show off 0 + 1 * (x 0).val = (16 * t + (x 0).val) % 256
  rw [Nat.mod_eq_of_lt (by omega)]; omega

/-- Before trip `n` the first `16 n` columns are summed. -/
def redInv3 (slv : S16x256.Idx → Elt F .f32) (pvv : S256.Idx → Elt F .f32) (n : ℕ) (_ : PUnit) : sProp 𝕄 :=
  iprop(((sl3).view.loc (th3 d L) ↦[(sl3).view.set]{fullShare} slv)
    ∗ ((pv3).view.loc (th3 d L) ↦[(pv3).view.set]{fullShare} pvv)
    ∗ ∃ f : S256.Idx → Elt F .f32, ⌜∀ j : S256.Idx, (j 0).val < 16 * n → f j = addE (colSum fun r => slv (slIdx r j)) (pvv j)⌝
      ∗ ((ob3).view.loc (th3 d L) ↦[(ob3).view.set]{fullShare} f))

set_option maxHeartbeats 400000 in
/-- The loop leaves each column's sum. -/
theorem red_loop3 (slv : S16x256.Idx → Elt F .f32) (pvv : S256.Idx → Elt F .f32) (f : S256.Idx → Elt F .f32) :
    iprop(((sl3).view.loc (th3 d L) ↦[(sl3).view.set]{fullShare} slv) ∗ ((pv3).view.loc (th3 d L) ↦[(pv3).view.set]{fullShare} pvv) ∗ ((ob3).view.loc (th3 d L) ↦[(ob3).view.set]{fullShare} f) : sProp 𝕄)
      ⊢ wp frame (wpE (defs₀ (F := F)) 𝒱₀ (th3 d L) none) Set.univ (redLoop3 (F := F) L)
          fun _ => iprop(((sl3).view.loc (th3 d L) ↦[(sl3).view.set]{fullShare} slv)
            ∗ ((pv3).view.loc (th3 d L) ↦[(pv3).view.set]{fullShare} pvv)
            ∗ ((ob3).view.loc (th3 d L) ↦[(ob3).view.set]{fullShare} fun j => addE (colSum fun r => slv (slIdx r j)) (pvv j))) := by
  iintro H
  unfold redLoop3
  sl_for (redInv3 d L slv pvv) $$ [H]
  case region =>
    intro k _
    unfold redInv3
    iintro ⟨Hs, Hp, %g, %hg, Ho⟩
    sl_exec
    rw [wp_ret]; imodintro
    isplitl [Hs]; · iexact Hs
    isplitl [Hp]; · iexact Hp
    iexists _
    isplitr [Ho]
    rotate_left
    · iexact Ho
    ipureintro
    intro j hj
    have ho := congrFun (k3_off29_eq k) 0
    change k3_off29 k 0 = 16 * k.val at ho
    refine (congrFun (View.read_whole (κ := .scVector) cc3_scratch4 _) j).symm.trans ?_
    by_cases hlt : (j 0).val < 16 * k.val
    · refine (View.read_writes_cons_miss_of_axis (ob3).view g _ [] j 0 (16 * k.val) 16 ho rfl rfl (.inl hlt)).trans ?_
      exact hg j hlt
    · have hkt : k.val < 16 := k.isLt
      have hj2 : (j 0).val < 256 := (j 0).isLt
      refine (View.read_writes_cons_hit_of_coords (ob3).view g _ _ [] (fun a => ⟨(j 0).val - 16 * k.val, by obtain rfl : a = 0 := Subsingleton.elim _ _; show _ < 16; omega⟩) j ?_).trans ?_
      · intro a
        obtain rfl : a = 0 := Subsingleton.elim _ _
        show (j 0).val = k3_off29 k 0 + 1 * ((j 0).val - 16 * k.val)
        omega
      · generalize hx : (fun a => ⟨(j 0).val - 16 * k.val, _⟩ : S16.Idx) = x
        have hjx : cIdx k.val x = j := by
          subst hx
          funext a
          obtain rfl : a = 0 := Subsingleton.elim _ _
          refine Fin.ext ?_
          show (16 * k.val + ((j 0).val - 16 * k.val)) % 256 = (j 0).val
          rw [Nat.mod_eq_of_lt (by omega)]; omega
        rw [← hjx]
        exact congrArg₂ addE (congrArg₂ addE (congrArg₂ addE (congrArg₂ addE (congrArg₂ addE (congrArg₂ addE (congrArg₂ addE (congrArg₂ addE (congrArg₂ addE (congrArg₂ addE (congrArg₂ addE (congrArg₂ addE (congrArg₂ addE (congrArg₂ addE (congrArg₂ addE (congrArg₂ addE (slab_row slv (k3_off13 k) (k3_off13_inb k) 0 k.val (congrFun (k3_off13_eq k) 0) (congrFun (k3_off13_eq k) 1) shapeCasts_S1x16_S16 x)
        (slab_row slv (k3_off14 k) (k3_off14_inb k) 1 k.val (congrFun (k3_off14_eq k) 0) (congrFun (k3_off14_eq k) 1) shapeCasts_S1x16_S16 x))
        (slab_row slv (k3_off15 k) (k3_off15_inb k) 2 k.val (congrFun (k3_off15_eq k) 0) (congrFun (k3_off15_eq k) 1) shapeCasts_S1x16_S16 x))
        (slab_row slv (k3_off16 k) (k3_off16_inb k) 3 k.val (congrFun (k3_off16_eq k) 0) (congrFun (k3_off16_eq k) 1) shapeCasts_S1x16_S16 x))
        (slab_row slv (k3_off17 k) (k3_off17_inb k) 4 k.val (congrFun (k3_off17_eq k) 0) (congrFun (k3_off17_eq k) 1) shapeCasts_S1x16_S16 x))
        (slab_row slv (k3_off18 k) (k3_off18_inb k) 5 k.val (congrFun (k3_off18_eq k) 0) (congrFun (k3_off18_eq k) 1) shapeCasts_S1x16_S16 x))
        (slab_row slv (k3_off19 k) (k3_off19_inb k) 6 k.val (congrFun (k3_off19_eq k) 0) (congrFun (k3_off19_eq k) 1) shapeCasts_S1x16_S16 x))
        (slab_row slv (k3_off20 k) (k3_off20_inb k) 7 k.val (congrFun (k3_off20_eq k) 0) (congrFun (k3_off20_eq k) 1) shapeCasts_S1x16_S16 x))
        (slab_row slv (k3_off21 k) (k3_off21_inb k) 8 k.val (congrFun (k3_off21_eq k) 0) (congrFun (k3_off21_eq k) 1) shapeCasts_S1x16_S16 x))
        (slab_row slv (k3_off22 k) (k3_off22_inb k) 9 k.val (congrFun (k3_off22_eq k) 0) (congrFun (k3_off22_eq k) 1) shapeCasts_S1x16_S16 x))
        (slab_row slv (k3_off23 k) (k3_off23_inb k) 10 k.val (congrFun (k3_off23_eq k) 0) (congrFun (k3_off23_eq k) 1) shapeCasts_S1x16_S16 x))
        (slab_row slv (k3_off24 k) (k3_off24_inb k) 11 k.val (congrFun (k3_off24_eq k) 0) (congrFun (k3_off24_eq k) 1) shapeCasts_S1x16_S16 x))
        (slab_row slv (k3_off25 k) (k3_off25_inb k) 12 k.val (congrFun (k3_off25_eq k) 0) (congrFun (k3_off25_eq k) 1) shapeCasts_S1x16_S16 x))
        (slab_row slv (k3_off26 k) (k3_off26_inb k) 13 k.val (congrFun (k3_off26_eq k) 0) (congrFun (k3_off26_eq k) 1) shapeCasts_S1x16_S16 x))
        (slab_row slv (k3_off27 k) (k3_off27_inb k) 14 k.val (congrFun (k3_off27_eq k) 0) (congrFun (k3_off27_eq k) 1) shapeCasts_S1x16_S16 x))
        (slab_row slv (k3_off28 k) (k3_off28_inb k) 15 k.val (congrFun (k3_off28_eq k) 0) (congrFun (k3_off28_eq k) 1) shapeCasts_S1x16_S16 x))
          (prev_row pvv (k3_off29 k) (k3_off29_inb k) k.val ho x)
  isplitl [H]
  · unfold redInv3
    icases H with ⟨Hs, Hp, Ho⟩
    isplitl [Hs]; · iexact Hs
    isplitl [Hp]; · iexact Hp
    iexists f
    isplitr [Ho]
    · ipureintro; intro j hj; omega
    · iexact Ho
  iintro %_ HI
  unfold redInv3
  icases HI with ⟨Hs, Hp, %g, %hg, Ho⟩
  have e : g = fun j => addE (colSum fun r => slv (slIdx r j)) (pvv j) := funext fun j => hg j (by have := (j 0).isLt; exact this)
  rw [e]
  isplitl [Hs]; · iexact Hs
  isplitl [Hp]; · iexact Hp
  iexact Ho

end Cert.Proof.SegSum
-- ==== Proof.Pieces2.lean ====
/-
  The pieces of the arrays a tile of the second call addresses are the ones the call hands round.
-/
module

public import proofs.«01_k».proof.Proof.Reduce2

@[expose] public section

noncomputable section

namespace Cert.Proof.SegSum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (Λv : Vals F) (d : Dev nD) (L : grid3.Coords)

/-! ## The pieces a tile of the second call addresses -/

/-- The tile's number. -/
abbrev tn3 : ℕ := (L 1).val

abbrev yK3 : Memref sig .scVector .hbm S3136 .f32 := (yV3).slice (Rect.unit (s := S50176) (k3_off1 L) S3136.size (k3_off1_inb L)) (fun _ => rfl)
abbrev bK3a (h : k3_cond1 L = 1#1) : Memref sig .scVector .hbm S3136 .i32 := (bV3).slice (Rect.unit (s := S100000) (k3_off2 L) S3136.size (k3_off2_inb L h)) (fun _ => rfl)
abbrev bK3b (h : k3_cond2 L = 1#1) : Memref sig .scVector .hbm S2784 .i32 := (bV3).slice (Rect.unit (s := S100000) (k3_off3 L) S2784.size (k3_off3_inb L h)) (fun _ => rfl)
abbrev oK3 : Memref sig .scVector .hbm S256 .f32 := (oV3).slice (Rect.unit (s := S4096) (k3_off11 L) S256.size (k3_off11_inb L)) (fun _ => rfl)
abbrev qK3 : Memref sig .scVector .hbm S256 .f32 := (qV3).slice (Rect.unit (s := S4096) (k3_off11 L) S256.size (k3_off11_inb L)) (fun _ => rfl)
abbrev rK3 : Memref sig .scVector .shared S4096 .f32 :=
  ((sh3).slice (Rect.unit (s := S16x4096) (k3_off10 L) S1x4096.size (k3_off10_inb L)) (fun _ => rfl)).squeeze S4096 squeezes_S1x4096_S4096
abbrev cK3 : Memref sig .scVector .shared S16x256 .f32 := (sh3).slice (Rect.unit (s := S16x4096) (k3_off12 L) S16x256.size (k3_off12_inb L)) (fun _ => rfl)

theorem cond1_iff3 : ∀ L : grid3.Coords, (k3_cond1 L = 1#1) ↔ (L 1).val < 15 := by decide +kernel
theorem cond2_iff3 : ∀ L : grid3.Coords, (k3_cond2 L = 1#1) ↔ ¬ (L 1).val < 15 := by decide +kernel

theorem set_yK3 : (yK3 L).view.set = ySet (tn3 L) :=
  (View.set_slice_whole _ _).trans (set_run (k3_off1 L) (k3_off1_inb L) (3136 * tn3 L) (congrFun (k3_off1_eq L) 0))
theorem set_bK3a (h : k3_cond1 L = 1#1) : (bK3a L h).view.set = bSet (50176 + 3136 * tn3 L) (50176 + 3136 * tn3 L + 3136) :=
  (View.set_slice_whole _ _).trans (set_run (k3_off2 L) (k3_off2_inb L h) (50176 + 3136 * tn3 L) ((congrFun (k3_off2_eq L) 0).trans (Nat.add_comm _ _)))
theorem set_bK3b (h : k3_cond2 L = 1#1) : (bK3b L h).view.set = bSet (50176 + 3136 * tn3 L) (50176 + 3136 * tn3 L + 3136) := by
  have hs : tn3 L = 15 := by have h1 : (L 1).val < 16 := (L 1).isLt; have h2 := (cond2_iff3 L).mp h; show (L 1).val = 15; omega
  refine (View.set_slice_whole _ _).trans ((set_run (k3_off3 L) (k3_off3_inb L h) (50176 + 3136 * tn3 L) ((congrFun (k3_off3_eq L) 0).trans (Nat.add_comm _ _))).trans ?_)
  ext i
  have hi : (i 0).val < 100000 := (i 0).isLt
  simp only [bSet, Finset.mem_filter, Finset.mem_univ, _root_.true_and]
  show _ ∧ _ < _ + 2784 ↔ _
  omega
theorem set_oK3 : (oK3 L).view.set = oSet (tn3 L) :=
  (View.set_slice_whole _ _).trans (set_run (k3_off11 L) (k3_off11_inb L) (256 * tn3 L) (congrFun (k3_off11_eq L) 0))
theorem set_qK3 : (qK3 L).view.set = oSet (tn3 L) :=
  (View.set_slice_whole _ _).trans (set_run (k3_off11 L) (k3_off11_inb L) (256 * tn3 L) (congrFun (k3_off11_eq L) 0))
theorem set_cK3 : (cK3 L).view.set = colS (tn3 L) := by
  refine (View.set_slice_whole _ _).trans ((set_box (k3_off12 L) (k3_off12_inb L) 0 (256 * tn3 L) (congrFun (k3_off12_eq L) 0) (congrFun (k3_off12_eq L) 1)).trans ?_)
  ext i
  have h0 : (i 0).val < 16 := (i 0).isLt
  simp only [colS, Finset.mem_filter, Finset.mem_univ, true_and]
  exact ⟨fun h => h.2, fun h => ⟨⟨Nat.zero_le _, by omega⟩, h⟩⟩
theorem set_rK3 : (rK3 L).view.set = rowS (tn3 L) := by
  refine (View.set_reshape _ _).trans ((View.set_slice_whole _ _).trans ((set_box (k3_off10 L) (k3_off10_inb L) (tn3 L) 0 (congrFun (k3_off10_eq L) 0) (congrFun (k3_off10_eq L) 1)).trans ?_))
  ext i
  have h1 : (i 1).val < 4096 := (i 1).isLt
  simp only [rowS, Finset.mem_filter, Finset.mem_univ, true_and]
  omega

theorem pts_yK3 (f : S50176.Idx → Elt F .f32) : ((yK3 L).view.loc (th3 d L) ↦[(yK3 L).view.set]{fullShare} f : sProp 𝕄) = (yLoc1 d ↦[ySet (tn3 L)]{fullShare} f) := by
  rw [set_yK3]
theorem pts_bK3a (h : k3_cond1 L = 1#1) (f : S100000.Idx → BitVec 32) :
    ((bK3a L h).view.loc (th3 d L) ↦[(bK3a L h).view.set]{fullShare} f : sProp 𝕄) = (bLoc d ↦[bSet (50176 + 3136 * tn3 L) (50176 + 3136 * tn3 L + 3136)]{fullShare} f) := by
  rw [set_bK3a]
theorem pts_bK3b (h : k3_cond2 L = 1#1) (f : S100000.Idx → BitVec 32) :
    ((bK3b L h).view.loc (th3 d L) ↦[(bK3b L h).view.set]{fullShare} f : sProp 𝕄) = (bLoc d ↦[bSet (50176 + 3136 * tn3 L) (50176 + 3136 * tn3 L + 3136)]{fullShare} f) := by
  rw [set_bK3b]
theorem pts_oK3 (f : S4096.Idx → Elt F .f32) : ((oK3 L).view.loc (th3 d L) ↦[(oK3 L).view.set]{fullShare} f : sProp 𝕄) = (oLoc1 d ↦[oSet (tn3 L)]{fullShare} f) := by
  rw [set_oK3]
theorem pts_qK3 (f : S4096.Idx → Elt F .f32) : ((qK3 L).view.loc (th3 d L) ↦[(qK3 L).view.set]{fullShare} f : sProp 𝕄) = (oLoc0 d ↦[oSet (tn3 L)]{fullShare} f) := by
  rw [set_qK3]
theorem pts_cK3 (f : S16x4096.Idx → Elt F .f32) : ((cK3 L).view.loc (th3 d L) ↦[(cK3 L).view.set]{fullShare} f : sProp 𝕄) = shPts1 d (cV3 L) (colS (tn3 L)) f := by
  rw [set_cK3]; rfl
theorem pts_rK3 (f : S16x4096.Idx → Elt F .f32) : ((rK3 L).view.loc (th3 d L) ↦[(rK3 L).view.set]{fullShare} f : sProp 𝕄) = shPts1 d (cV3 L) (rowS (tn3 L)) f := by
  rw [set_rK3]; rfl

end Cert.Proof.SegSum
-- ==== Proof.Own2.lean ====
/-
  A tile's own buffers and semaphores in the second call: the ones the call uses, and the rest.
-/
module

public import proofs.«01_k».proof.Proof.Pieces2

@[expose] public section

noncomputable section

namespace Cert.Proof.SegSum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (Λv : Vals F) (d : Dev nD) (L : grid3.Coords)

/-! ## The tile's own buffers and semaphores -/

abbrev scell3_0 (d : Dev nD) (c : Fin τ.nSC) (i : Fin τ.nSub) : GSem nD τ sig := (V d c i, .dma cc3_scratch6.sem)
abbrev scell3_1 (d : Dev nD) (c : Fin τ.nSC) (i : Fin τ.nSub) : GSem nD τ sig := (V d c i, .dma cc3_scoped0.sem)
abbrev scell3_2 (d : Dev nD) (c : Fin τ.nSC) (i : Fin τ.nSub) : GSem nD τ sig := (V d c i, .dma cc3_scoped1.sem)
abbrev scell3_3 (d : Dev nD) (c : Fin τ.nSC) (i : Fin τ.nSub) : GSem nD τ sig := (V d c i, .dma cc3_scoped2.sem)
abbrev scell3_4 (d : Dev nD) (c : Fin τ.nSC) (i : Fin τ.nSub) : GSem nD τ sig := (V d c i, .dma cc3_scoped3.sem)
abbrev scell3_5 (d : Dev nD) (c : Fin τ.nSC) (i : Fin τ.nSub) : GSem nD τ sig := (V d c i, .dma cc3_scoped4.sem)
abbrev scell3_6 (d : Dev nD) (c : Fin τ.nSC) (i : Fin τ.nSub) : GSem nD τ sig := (V d c i, .dma cc3_scoped5.sem)

/-- The tile's other semaphores. -/
abbrev semRest3 : sProp 𝕄 := bigSep ((((((((ownCells (th3 d L)).erase (scell3_0 d (cV3 L) (jV3 L))).erase (scell3_1 d (cV3 L) (jV3 L))).erase (scell3_2 d (cV3 L) (jV3 L))).erase (scell3_3 d (cV3 L) (jV3 L))).erase (scell3_4 d (cV3 L) (jV3 L))).erase (scell3_5 d (cV3 L) (jV3 L))).erase (scell3_6 d (cV3 L) (jV3 L))) fun g => semVal g 0

/-- The tile's own semaphores: the ones the call's transfers signal, and the rest. -/
theorem ownSems3 : (ownSems0 (th3 d L) : sProp 𝕄)
    = iprop(semVal (scell3_0 d (cV3 L) (jV3 L)) 0 ∗ semVal (scell3_1 d (cV3 L) (jV3 L)) 0 ∗ semVal (scell3_2 d (cV3 L) (jV3 L)) 0 ∗ semVal (scell3_3 d (cV3 L) (jV3 L)) 0 ∗ semVal (scell3_4 d (cV3 L) (jV3 L)) 0 ∗ semVal (scell3_5 d (cV3 L) (jV3 L)) 0 ∗ semVal (scell3_6 d (cV3 L) (jV3 L)) 0 ∗ semRest3 d L) := by
  unfold SparseCore.Cfg.ownSems0 semRest3
  rw [SparseCore.bigSep_erase' ((mem_ownCells (g := (scell3_0 d (cV3 L) (jV3 L)))).mpr ⟨rfl, by show (SemLoc.dma cc3_scratch6.sem : SemLoc sig).isScoped .scVector = true; decide⟩),
    SparseCore.bigSep_erase' (Finset.mem_erase.mpr ⟨fun e => absurd (congrArg Prod.snd e) (show (SemLoc.dma cc3_scoped0.sem : SemLoc sig) ≠ .dma cc3_scratch6.sem by decide), (mem_ownCells (g := (scell3_1 d (cV3 L) (jV3 L)))).mpr ⟨rfl, by show (SemLoc.dma cc3_scoped0.sem : SemLoc sig).isScoped .scVector = true; decide⟩⟩),
    SparseCore.bigSep_erase' (Finset.mem_erase.mpr ⟨fun e => absurd (congrArg Prod.snd e) (show (SemLoc.dma cc3_scoped1.sem : SemLoc sig) ≠ .dma cc3_scoped0.sem by decide), Finset.mem_erase.mpr ⟨fun e => absurd (congrArg Prod.snd e) (show (SemLoc.dma cc3_scoped1.sem : SemLoc sig) ≠ .dma cc3_scratch6.sem by decide), (mem_ownCells (g := (scell3_2 d (cV3 L) (jV3 L)))).mpr ⟨rfl, by show (SemLoc.dma cc3_scoped1.sem : SemLoc sig).isScoped .scVector = true; decide⟩⟩⟩),
    SparseCore.bigSep_erase' (Finset.mem_erase.mpr ⟨fun e => absurd (congrArg Prod.snd e) (show (SemLoc.dma cc3_scoped2.sem : SemLoc sig) ≠ .dma cc3_scoped1.sem by decide), Finset.mem_erase.mpr ⟨fun e => absurd (congrArg Prod.snd e) (show (SemLoc.dma cc3_scoped2.sem : SemLoc sig) ≠ .dma cc3_scoped0.sem by decide), Finset.mem_erase.mpr ⟨fun e => absurd (congrArg Prod.snd e) (show (SemLoc.dma cc3_scoped2.sem : SemLoc sig) ≠ .dma cc3_scratch6.sem by decide), (mem_ownCells (g := (scell3_3 d (cV3 L) (jV3 L)))).mpr ⟨rfl, by show (SemLoc.dma cc3_scoped2.sem : SemLoc sig).isScoped .scVector = true; decide⟩⟩⟩⟩),
    SparseCore.bigSep_erase' (Finset.mem_erase.mpr ⟨fun e => absurd (congrArg Prod.snd e) (show (SemLoc.dma cc3_scoped3.sem : SemLoc sig) ≠ .dma cc3_scoped2.sem by decide), Finset.mem_erase.mpr ⟨fun e => absurd (congrArg Prod.snd e) (show (SemLoc.dma cc3_scoped3.sem : SemLoc sig) ≠ .dma cc3_scoped1.sem by decide), Finset.mem_erase.mpr ⟨fun e => absurd (congrArg Prod.snd e) (show (SemLoc.dma cc3_scoped3.sem : SemLoc sig) ≠ .dma cc3_scoped0.sem by decide), Finset.mem_erase.mpr ⟨fun e => absurd (congrArg Prod.snd e) (show (SemLoc.dma cc3_scoped3.sem : SemLoc sig) ≠ .dma cc3_scratch6.sem by decide), (mem_ownCells (g := (scell3_4 d (cV3 L) (jV3 L)))).mpr ⟨rfl, by show (SemLoc.dma cc3_scoped3.sem : SemLoc sig).isScoped .scVector = true; decide⟩⟩⟩⟩⟩),
    SparseCore.bigSep_erase' (Finset.mem_erase.mpr ⟨fun e => absurd (congrArg Prod.snd e) (show (SemLoc.dma cc3_scoped4.sem : SemLoc sig) ≠ .dma cc3_scoped3.sem by decide), Finset.mem_erase.mpr ⟨fun e => absurd (congrArg Prod.snd e) (show (SemLoc.dma cc3_scoped4.sem : SemLoc sig) ≠ .dma cc3_scoped2.sem by decide), Finset.mem_erase.mpr ⟨fun e => absurd (congrArg Prod.snd e) (show (SemLoc.dma cc3_scoped4.sem : SemLoc sig) ≠ .dma cc3_scoped1.sem by decide), Finset.mem_erase.mpr ⟨fun e => absurd (congrArg Prod.snd e) (show (SemLoc.dma cc3_scoped4.sem : SemLoc sig) ≠ .dma cc3_scoped0.sem by decide), Finset.mem_erase.mpr ⟨fun e => absurd (congrArg Prod.snd e) (show (SemLoc.dma cc3_scoped4.sem : SemLoc sig) ≠ .dma cc3_scratch6.sem by decide), (mem_ownCells (g := (scell3_5 d (cV3 L) (jV3 L)))).mpr ⟨rfl, by show (SemLoc.dma cc3_scoped4.sem : SemLoc sig).isScoped .scVector = true; decide⟩⟩⟩⟩⟩⟩),
    SparseCore.bigSep_erase' (Finset.mem_erase.mpr ⟨fun e => absurd (congrArg Prod.snd e) (show (SemLoc.dma cc3_scoped5.sem : SemLoc sig) ≠ .dma cc3_scoped4.sem by decide), Finset.mem_erase.mpr ⟨fun e => absurd (congrArg Prod.snd e) (show (SemLoc.dma cc3_scoped5.sem : SemLoc sig) ≠ .dma cc3_scoped3.sem by decide), Finset.mem_erase.mpr ⟨fun e => absurd (congrArg Prod.snd e) (show (SemLoc.dma cc3_scoped5.sem : SemLoc sig) ≠ .dma cc3_scoped2.sem by decide), Finset.mem_erase.mpr ⟨fun e => absurd (congrArg Prod.snd e) (show (SemLoc.dma cc3_scoped5.sem : SemLoc sig) ≠ .dma cc3_scoped1.sem by decide), Finset.mem_erase.mpr ⟨fun e => absurd (congrArg Prod.snd e) (show (SemLoc.dma cc3_scoped5.sem : SemLoc sig) ≠ .dma cc3_scoped0.sem by decide), Finset.mem_erase.mpr ⟨fun e => absurd (congrArg Prod.snd e) (show (SemLoc.dma cc3_scoped5.sem : SemLoc sig) ≠ .dma cc3_scratch6.sem by decide), (mem_ownCells (g := (scell3_6 d (cV3 L) (jV3 L)))).mpr ⟨rfl, by show (SemLoc.dma cc3_scoped5.sem : SemLoc sig).isScoped .scVector = true; decide⟩⟩⟩⟩⟩⟩⟩)]

/-- The tile's other buffers. -/
abbrev bufRest3 : sProp 𝕄 := bigSep (((((((ownRefs (τ := τ) (.scVector (cV3 L) (jV3 L))).erase ((Proc.scVector (cV3 L) (jV3 L)).devRef cc3_scratch0)).erase ((Proc.scVector (cV3 L) (jV3 L)).devRef cc3_scratch1)).erase ((Proc.scVector (cV3 L) (jV3 L)).devRef cc3_scratch2)).erase ((Proc.scVector (cV3 L) (jV3 L)).devRef cc3_scratch3)).erase ((Proc.scVector (cV3 L) (jV3 L)).devRef cc3_scratch4)).erase ((Proc.scVector (cV3 L) (jV3 L)).devRef cc3_scratch5)) fun b => iprop(∃ f, ((d, b) : Loc nD τ sig) ↦{fullShare} f)

/-- The tile's own buffers: the call's scratch, each at some contents, and the rest. -/
theorem ownBufs3 : (ownBufs (th3 d L) : sProp 𝕄)
    = iprop((∃ f, (th3 d L).loc cc3_scratch0 ↦{fullShare} f) ∗ (∃ f, (th3 d L).loc cc3_scratch1 ↦{fullShare} f) ∗ (∃ f, (th3 d L).loc cc3_scratch2 ↦{fullShare} f) ∗ (∃ f, (th3 d L).loc cc3_scratch3 ↦{fullShare} f) ∗ (∃ f, (th3 d L).loc cc3_scratch4 ↦{fullShare} f) ∗ (∃ f, (th3 d L).loc cc3_scratch5 ↦{fullShare} f) ∗ bufRest3 d L) := by
  unfold SparseCore.Cfg.ownBufs bufRest3
  rw [SparseCore.bigSep_erase' (SparseCore.Cfg.mem_ownRefs_of_owner (p := Proc.scVector (cV3 L) (jV3 L)) (b := (Proc.scVector (cV3 L) (jV3 L)).devRef cc3_scratch0) rfl),
    SparseCore.bigSep_erase' (Finset.mem_erase.mpr ⟨fun e => absurd (Proc.devRef_injective _ e) (show (cc3_scratch1 : Ref sig .scVector) ≠ cc3_scratch0 by decide), SparseCore.Cfg.mem_ownRefs_of_owner (p := Proc.scVector (cV3 L) (jV3 L)) (b := (Proc.scVector (cV3 L) (jV3 L)).devRef cc3_scratch1) rfl⟩),
    SparseCore.bigSep_erase' (Finset.mem_erase.mpr ⟨fun e => absurd (Proc.devRef_injective _ e) (show (cc3_scratch2 : Ref sig .scVector) ≠ cc3_scratch1 by decide), Finset.mem_erase.mpr ⟨fun e => absurd (Proc.devRef_injective _ e) (show (cc3_scratch2 : Ref sig .scVector) ≠ cc3_scratch0 by decide), SparseCore.Cfg.mem_ownRefs_of_owner (p := Proc.scVector (cV3 L) (jV3 L)) (b := (Proc.scVector (cV3 L) (jV3 L)).devRef cc3_scratch2) rfl⟩⟩),
    SparseCore.bigSep_erase' (Finset.mem_erase.mpr ⟨fun e => absurd (Proc.devRef_injective _ e) (show (cc3_scratch3 : Ref sig .scVector) ≠ cc3_scratch2 by decide), Finset.mem_erase.mpr ⟨fun e => absurd (Proc.devRef_injective _ e) (show (cc3_scratch3 : Ref sig .scVector) ≠ cc3_scratch1 by decide), Finset.mem_erase.mpr ⟨fun e => absurd (Proc.devRef_injective _ e) (show (cc3_scratch3 : Ref sig .scVector) ≠ cc3_scratch0 by decide), SparseCore.Cfg.mem_ownRefs_of_owner (p := Proc.scVector (cV3 L) (jV3 L)) (b := (Proc.scVector (cV3 L) (jV3 L)).devRef cc3_scratch3) rfl⟩⟩⟩),
    SparseCore.bigSep_erase' (Finset.mem_erase.mpr ⟨fun e => absurd (Proc.devRef_injective _ e) (show (cc3_scratch4 : Ref sig .scVector) ≠ cc3_scratch3 by decide), Finset.mem_erase.mpr ⟨fun e => absurd (Proc.devRef_injective _ e) (show (cc3_scratch4 : Ref sig .scVector) ≠ cc3_scratch2 by decide), Finset.mem_erase.mpr ⟨fun e => absurd (Proc.devRef_injective _ e) (show (cc3_scratch4 : Ref sig .scVector) ≠ cc3_scratch1 by decide), Finset.mem_erase.mpr ⟨fun e => absurd (Proc.devRef_injective _ e) (show (cc3_scratch4 : Ref sig .scVector) ≠ cc3_scratch0 by decide), SparseCore.Cfg.mem_ownRefs_of_owner (p := Proc.scVector (cV3 L) (jV3 L)) (b := (Proc.scVector (cV3 L) (jV3 L)).devRef cc3_scratch4) rfl⟩⟩⟩⟩),
    SparseCore.bigSep_erase' (Finset.mem_erase.mpr ⟨fun e => absurd (Proc.devRef_injective _ e) (show (cc3_scratch5 : Ref sig .scVector) ≠ cc3_scratch4 by decide), Finset.mem_erase.mpr ⟨fun e => absurd (Proc.devRef_injective _ e) (show (cc3_scratch5 : Ref sig .scVector) ≠ cc3_scratch3 by decide), Finset.mem_erase.mpr ⟨fun e => absurd (Proc.devRef_injective _ e) (show (cc3_scratch5 : Ref sig .scVector) ≠ cc3_scratch2 by decide), Finset.mem_erase.mpr ⟨fun e => absurd (Proc.devRef_injective _ e) (show (cc3_scratch5 : Ref sig .scVector) ≠ cc3_scratch1 by decide), Finset.mem_erase.mpr ⟨fun e => absurd (Proc.devRef_injective _ e) (show (cc3_scratch5 : Ref sig .scVector) ≠ cc3_scratch0 by decide), SparseCore.Cfg.mem_ownRefs_of_owner (p := Proc.scVector (cV3 L) (jV3 L)) (b := (Proc.scVector (cV3 L) (jV3 L)).devRef cc3_scratch5) rfl⟩⟩⟩⟩⟩)]

end Cert.Proof.SegSum
-- ==== Proof.Pays2.lean ====
/-
  What the second call's barrier carries.
-/
module

public import proofs.«01_k».proof.Proof.Own2

@[expose] public section

noncomputable section

namespace Cert.Proof.SegSum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (Λv : Vals F) (d : Dev nD) (L : grid3.Coords)

/-! ## What a tile of the second call is handed, and what it brings back -/

/-- Its rows, its segment numbers, its block of the first call's sums, its block of the result, its row of the shared scratch, and where the
barrier's cells stand. -/
def go1 (d : Dev nD) (c : Fin τ.nSC) (s : ℕ) (i : Fin τ.nSub) : sProp 𝕄 :=
  iprop((∃ y : S50176.Idx → Elt F .f32, ⌜Λv.yOK 1 d y⌝ ∗ (yLoc1 d ↦[ySet s]{fullShare} y)) ∗ bPts Λv 1 s d
    ∗ (∃ p : S4096.Idx → Elt F .f32, ⌜∀ k ∈ oSet s, SUMk Λv d 0 k (p k)⌝ ∗ (oLoc0 d ↦[oSet s]{fullShare} p))
    ∗ (∃ f : S4096.Idx → Elt F .f32, (oLoc1 d ↦[oSet s]{fullShare} f)) ∗ (∃ f, shPts1 d c (rowS s) f)
    ∗ atPos EB (bcell d c i) 1 ∅ 0 ∗ reachedAll d c 1)

/-- Its segment numbers, its block of the result at the sums of both calls, its columns of the shared scratch, and its barrier cell at rest. -/
def td1 (d : Dev nD) (c : Fin τ.nSC) (j : Fin τ.nSub) : sProp 𝕄 :=
  iprop(bPts Λv 1 j.val d
    ∗ (∃ f : S4096.Idx → Elt F .f32, ⌜∀ k ∈ oSet j.val, OUTk Λv d k (f k)⌝ ∗ (oLoc1 d ↦[oSet j.val]{fullShare} f))
    ∗ (∃ f, shPts1 d c (colS j.val) f)
    ∗ semVal (bcell d c j) 0)

/-! ## What the barrier carries -/

/-- A tile's row of the shared scratch, at an accumulator's contents, is what its arrivals hand the sixteen tiles. -/
theorem pays_intro1 (c : Fin τ.nSC) (n : Fin 16) (row : S4096.Idx → Elt F .f32) (f : S16x4096.Idx → Elt F .f32) (hr : ROW Λv d 1 n.val row) (hf : ∀ i ∈ rowS n.val, f i = row (colOf i)) :
    shPts1 d c (rowS n.val) f ⊢ (bigSep Finset.univ fun j : Fin 16 => (bRd Λv).payload (bcell d c (j.castLE h16)) 1 n.val : sProp 𝕄) := by
  rw [← rowS_cells]
  refine (Entails.of_eq (pointsTo_biUnion (ℓ := shLoc1 d c) (Finset.univ : Finset (Fin 16)) (fun j => cellS n.val j.val) (rowS_disj n.val))).trans ?_
  refine bigSep_mono fun j _ => ?_
  show _ ⊢ bPay Λv (bcell d c (j.castLE h16)) 1 n.val
  unfold bPay; dsimp only; rw [if_neg Nat.one_ne_zero]
  iintro H; iexists row; isplitr; · ipureintro; exact hr
  iapply (Entails.of_eq (pointsTo_congr (ℓ := shLoc1 d c) fun i hi => hf i (mem_rowS.mpr (mem_cellS.mp hi).1))) $$ H

/-- What a tile's round collects is its columns of the shared scratch, each row at an accumulator's contents. -/
theorem pays_elim1 (c : Fin τ.nSC) (j : Fin 16) :
    (bigSep ((bRd Λv).duties (bcell d c (j.castLE h16)) 1 \ ∅) fun n => (bRd Λv).payload (bcell d c (j.castLE h16)) 1 n)
      ⊢ (iprop(∃ rows : ℕ → S4096.Idx → Elt F .f32, ⌜∀ s : Fin 16, ROW Λv d 1 s.val (rows s.val)⌝
          ∗ shPts1 d c (colS j.val) fun i => rows (i 0).val (colOf i)) : sProp 𝕄) := by
  rw [Finset.sdiff_empty, bRd_duties Λv d c _ 1 (by decide)]
  refine (Entails.of_eq (SparseCore.bigSep_image_of_injOn (fun a _ b _ h => Fin.ext h) _)).trans ?_
  show (bigSep (Finset.univ : Finset (Fin 16)) fun n : Fin 16 => bPay Λv (bcell d c (j.castLE h16)) 1 n.val) ⊢ _
  unfold bPay; dsimp only; simp only [if_neg Nat.one_ne_zero]
  haveI : Nonempty (S4096.Idx → Elt F .f32) := ⟨fun _ => zf⟩
  refine (bigSep_exists_pi (Finset.univ : Finset (Fin 16)) (fun n (row : S4096.Idx → Elt F .f32) =>
    (iprop(⌜ROW Λv d 1 n.val row⌝ ∗ shPts1 d c (cellS n.val j.val) fun i => row (colOf i)) : sProp 𝕄))).trans ?_
  iintro ⟨%rows, H⟩
  ihave H := (bigSep_pure_sep (Finset.univ : Finset (Fin 16)) (fun n => ROW Λv d 1 n.val (rows n)) _) $$ H
  icases H with ⟨%hr, H⟩
  ihave H := (pointsTo_biUnion_join (ℓ := shLoc1 d c) (Finset.univ : Finset (Fin 16)) (fun n => cellS n.val j.val) (fun n i => rows n (colOf i)) (fun _ => zf) (colS_disj j.val)) $$ H
  icases H with ⟨%g, %hg, H⟩
  iexists (fun n => rows ⟨n % 16, Nat.mod_lt _ (by decide)⟩)
  isplitr
  · ipureintro; intro s
    have hs : (⟨s.val % 16, Nat.mod_lt _ (by decide)⟩ : Fin 16) = s := Fin.ext (Nat.mod_eq_of_lt s.isLt)
    show ROW Λv d 1 s.val (rows ⟨s.val % 16, _⟩)
    rw [hs]; exact hr s (Finset.mem_univ _)
  rw [← colS_cells]
  iapply (Entails.of_eq (pointsTo_congr (ℓ := shLoc1 d c) fun i hi => by
    obtain ⟨n, -, hn⟩ := Finset.mem_biUnion.mp hi
    rw [hg n (Finset.mem_univ _) i hn]
    have h0 := (mem_cellS.mp hn).1
    have hs : (⟨(i 0).val % 16, Nat.mod_lt _ (by decide)⟩ : Fin 16) = n := Fin.ext (by rw [h0]; exact Nat.mod_eq_of_lt n.isLt)
    show rows n (colOf i) = rows ⟨(i 0).val % 16, _⟩ (colOf i)
    rw [hs])) $$ H

end Cert.Proof.SegSum
-- ==== Proof.Reads2.lean ====
/-
  What the copies of the second call read and leave, element by element.
-/
module

public import proofs.«01_k».proof.Proof.Pays2

@[expose] public section

noncomputable section

namespace Cert.Proof.SegSum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (Λv : Vals F) (d : Dev nD) (L : grid3.Coords)

theorem tn3_lt : tn3 L < 16 := (L 1).isLt

/-- The chunk of the rows that the tile copies in. -/
theorem read_yK3 (y : S50176.Idx → Elt F .f32) : (yK3 L).view.read (Elt F) y = yChunk (tn3 L) y := by
  funext j
  refine congrArg y (funext fun a => Fin.ext ?_)
  match a with
  | 0 =>
    have h := tn3_lt L
    have hj : (j 0).val < 3136 := (j 0).isLt
    show k3_off1 L 0 + 1 * (j 0).val = (3136 * tn3 L + (j 0).val) % 50176
    rw [show k3_off1 L 0 = 3136 * tn3 L from congrFun (k3_off1_eq L) 0, Nat.mod_eq_of_lt (by omega), Nat.one_mul]

theorem iChunk_read3 (bt : S100000.Idx → BitVec 32) (j : S3136.Idx) (k : S100000.Idx) (h : (k 0).val = 50176 * 1 + 3136 * tn3 L + (j 0).val) :
    bt k = iChunk bt 1 (tn3 L) j := by
  have hk : (k 0).val < 100000 := (k 0).isLt
  unfold iChunk
  rw [dif_pos (by omega)]
  exact congrArg bt (funext fun a => Fin.ext (by match a with | 0 => exact h))

/-- The segment numbers that the tile copies in. -/
theorem read_bK3a (h : k3_cond1 L = 1#1) (bt : S100000.Idx → BitVec 32) : (bK3a L h).view.read (Elt F) bt = iChunk bt 1 (tn3 L) := by
  funext j
  refine iChunk_read3 L bt j _ ?_
  show k3_off2 L 0 + 1 * (j 0).val = _
  rw [show k3_off2 L 0 = 3136 * tn3 L + 50176 from congrFun (k3_off2_eq L) 0]; omega
theorem read_bK3b (h : k3_cond2 L = 1#1) (bt : S100000.Idx → BitVec 32) (j : S2784.Idx) (k : S3136.Idx) (hk : (k 0).val = (j 0).val) :
    (bK3b L h).view.read (Elt F) bt j = iChunk bt 1 (tn3 L) k := by
  refine iChunk_read3 L bt k _ ?_
  show k3_off3 L 0 + 1 * (j 0).val = _
  rw [show k3_off3 L 0 = 3136 * tn3 L + 50176 from congrFun (k3_off3_eq L) 0]; omega
theorem iChunk_tail (h : k3_cond2 L = 1#1) (bt : S100000.Idx → BitVec 32) (k : S3136.Idx) (hk : 2784 ≤ (k 0).val) : iChunk bt 1 (tn3 L) k = 0#32 := by
  have h1 := tn3_lt L
  have h2 : ¬ tn3 L < 15 := (cond2_iff3 L).mp h
  unfold iChunk; rw [dif_neg (by omega)]

/-- The previous sums that the tile copies in. -/
theorem read_qK3 (p : S4096.Idx → Elt F .f32) (j : S256.Idx) : (qK3 L).view.read (Elt F) p j = p ((oK3 L).view.emb j) := rfl

/-- The loop that fills the last tile's segment numbers past the last row with zeros. -/
abbrev tailLoop3 (k3_h2 : k3_cond2 L = 1#1) : Prog (TpuEff nD τ sig (Elt F) Λ₀ (.scVector (cV3 L) (jV3 L))) PUnit :=
  Scf.Loop.for k3_t1_loop (k3_t1_ok L k3_h2) ⟨⟩ (k3_t1_body L yV3 (Memref.isWhole_whole _) bV3 (Memref.isWhole_whole _) qV3 (Memref.isWhole_whole _) oV3 (Memref.isWhole_whole _)
    yc3 (Memref.isWhole_whole _) ic3 (Memref.isWhole_whole _) ac3 (Memref.isWhole_whole _) sl3 (Memref.isWhole_whole _) ob3 (Memref.isWhole_whole _)
    pv3 (Memref.isWhole_whole _) cc3_scratch6 sh3 (Memref.isWhole_whole _) cc3_scoped0 cc3_scoped1 cc3_scoped2 cc3_scoped3 cc3_scoped4 cc3_scoped5 k3_h2)

/-- Before trip `n` the first `2784 + 16 n` segment numbers are in. -/
def tailInv3 (iv : S3136.Idx → BitVec 32) (n : ℕ) (_ : PUnit) : sProp 𝕄 :=
  iprop(∃ f : S3136.Idx → BitVec 32, ⌜∀ j : S3136.Idx, (j 0).val < 2784 + 16 * n → f j = iv j⌝
    ∗ ((ic3).view.loc (th3 d L) ↦[(ic3).view.set]{fullShare} f))

/-- The loop leaves zeros past the last row. -/
theorem tail_loop3 (k3_h2 : k3_cond2 L = 1#1) (iv : S3136.Idx → BitVec 32) (hiv : ∀ j : S3136.Idx, 2784 ≤ (j 0).val → iv j = 0#32)
    (f : S3136.Idx → BitVec 32) (hf : ∀ j : S3136.Idx, (j 0).val < 2784 → f j = iv j) :
    ((ic3).view.loc (th3 d L) ↦[(ic3).view.set]{fullShare} f : sProp 𝕄)
      ⊢ wp frame (wpE (defs₀ (F := F)) 𝒱₀ (th3 d L) none) Set.univ (tailLoop3 (F := F) L k3_h2)
          fun _ => ((ic3).view.loc (th3 d L) ↦[(ic3).view.set]{fullShare} iv) := by
  iintro H
  unfold tailLoop3
  sl_for (tailInv3 d L iv) $$ [H]
  case region =>
    intro k _
    unfold tailInv3
    iintro ⟨%g, %hg, H⟩
    sl_exec
    rw [wp_ret]; imodintro
    iexists _
    isplitr [H]
    rotate_left
    · iexact H
    ipureintro
    intro j hj
    have ho : k3_off4 k 0 = 16 * k.val + 2784 := congrFun (k3_off4_eq k) 0
    refine (congrFun (View.read_whole (Val := Elt F) (κ := .scVector) cc3_scratch1 _) j).symm.trans ?_
    by_cases hlt : (j 0).val < 16 * k.val + 2784
    · refine (View.read_writes_cons_miss_of_axis (Val := Elt F) (ic3).view g _ [] j 0 (16 * k.val + 2784) 16 ho rfl rfl (.inl hlt)).trans ?_
      exact hg j (by omega)
    · refine (View.read_writes_cons_hit_of_coords (Val := Elt F) (ic3).view g _ _ [] (fun a => ⟨(j 0).val - (16 * k.val + 2784), by obtain rfl : a = 0 := Subsingleton.elim _ _; show _ < 16; omega⟩) j ?_).trans ?_
      · intro a
        obtain rfl : a = 0 := Subsingleton.elim _ _
        show (j 0).val = k3_off4 k 0 + 1 * ((j 0).val - (16 * k.val + 2784))
        omega
      · exact (hiv j (by omega)).symm
  isplitl [H]
  · unfold tailInv3
    iexists f
    isplitr [H]
    · ipureintro; intro j hj; exact hf j hj
    · iexact H
  iintro %_ HI
  unfold tailInv3
  icases HI with ⟨%g, %hg, H⟩
  have e : g = iv := funext fun j => hg j (by have := (j 0).isLt; exact this)
  rw [e]
  iexact H

/-- The tile's row of the shared scratch after the accumulator is copied into it. -/
theorem write_rK3 (f : S16x4096.Idx → Elt F .f32) (row : S4096.Idx → Elt F .f32) (i : S16x4096.Idx) (hi : i ∈ rowS (tn3 L)) :
    (rK3 L).view.write (Elt F) f row Finset.univ i = row (colOf i) := by
  rw [← set_rK3] at hi
  obtain ⟨x, -, rfl⟩ := Finset.mem_map.mp hi
  rw [View.write_emb_of_mem _ _ (Finset.mem_univ _)]
  refine congrArg row (funext fun a => Fin.ext ?_)
  match a with
  | 0 =>
    show (x 0).val = k3_off10 L 1 + 1 * (Shape.reshapeEquiv (squeezes_S1x4096_S4096).numel_eq x 1).val
    rw [show k3_off10 L 1 = 0 from congrFun (k3_off10_eq L) 1]
    have e : Shape.reshapeEquiv (squeezes_S1x4096_S4096).numel_eq x = Fin.cons ⟨0, Nat.one_pos⟩ x := Shape.reshapeEquiv_cons_one _ x
    rw [e, Nat.zero_add, Nat.one_mul]; rfl

/-- Row `r`, column `j` of the slab the tile copies in. -/
theorem read_cK3 (f : ℕ → S4096.Idx → Elt F .f32) (r : Fin 16) (j : S256.Idx) :
    (cK3 L).view.read (Elt F) (fun i => f (i 0).val (colOf i)) (slIdx r j) = f r.val ((oK3 L).view.emb j) := by
  show f (k3_off12 L 0 + 1 * r.val) _ = _
  rw [show k3_off12 L 0 = 0 from congrFun (k3_off12_eq L) 0, Nat.zero_add, Nat.one_mul]
  refine congrArg (f r.val) (funext fun a => Fin.ext ?_)
  match a with
  | 0 =>
    show k3_off12 L 1 + 1 * (j 0).val = k3_off11 L 0 + 1 * (j 0).val
    rw [show k3_off12 L 1 = 256 * tn3 L from congrFun (k3_off12_eq L) 1, show k3_off11 L 0 = 256 * tn3 L from congrFun (k3_off11_eq L) 0]

/-- The tile's block of the result after the sums are copied into it. -/
theorem out_K3 (rows : ℕ → S4096.Idx → Elt F .f32) (hr : ∀ s : Fin 16, ROW Λv d 1 s.val (rows s.val)) (p : S4096.Idx → Elt F .f32)
    (hp : ∀ k ∈ oSet (tn3 L), SUMk Λv d 0 k (p k)) (f : S4096.Idx → Elt F .f32) :
    ∀ k ∈ oSet (tn3 L), OUTk Λv d k ((oK3 L).view.write (Elt F) f
      (fun j => addE (colSum fun r => (cK3 L).view.read (Elt F) (fun i => rows (i 0).val (colOf i)) (slIdx r j)) ((qK3 L).view.read (Elt F) p j)) Finset.univ k) := by
  intro k hk
  have hk' := hk
  rw [← set_oK3] at hk
  obtain ⟨x, -, rfl⟩ := Finset.mem_map.mp hk
  refine ⟨_, _, ⟨rows, hr, rfl⟩, hp _ hk', ?_⟩
  rw [View.write_emb_of_mem _ _ (Finset.mem_univ _)]
  refine (cast_eq _ _).trans ?_
  exact congrArg (addE · _) (congrArg colSum (funext fun r => read_cK3 L rows r x))

end Cert.Proof.SegSum
-- ==== Proof.Tile2.lean ====
/-
  The second call on a tile.
-/
module

public import proofs.«01_k».proof.Proof.Reads2

@[expose] public section

noncomputable section

namespace Cert.Proof.SegSum

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (Λv : Vals F) (d : Dev nD) (L : grid3.Coords)

theorem bPts3_eq : (bLoc d ↦[bSet (50176 + 3136 * tn3 L) (50176 + 3136 * tn3 L + 3136)]{fullShare} (Λv.bt d) : sProp 𝕄) = bPts Λv 1 (tn3 L) d := by
  unfold bPts; rw [Nat.mul_one]

/-- A buffer written whole holds what was written. -/
theorem pts_whole3 (b : Ref sig .scVector) (f w w' : b.ty.Contents (Elt F)) (h : w = w') :
    ((Memref.whole b).view.loc (th3 d L) ↦{fullShare} (Memref.whole b).view.write (Elt F) f w Finset.univ : sProp 𝕄)
      = ((Memref.whole b).view.loc (th3 d L) ↦[(Memref.whole b).view.set]{fullShare} w') := by
  subst h
  rw [View.set_whole]
  exact congrArg (fun g => ((Memref.whole b).view.loc (th3 d L) ↦{fullShare} g : sProp 𝕄)) (View.write_whole_univ (Val := Elt F) b f w)
/-- A buffer held whole, as its view's elements. -/
theorem pts_set3 (b : Ref sig .scVector) (f : b.ty.Contents (Elt F)) :
    ((Memref.whole b).view.loc (th3 d L) ↦{fullShare} f : sProp 𝕄) = ((Memref.whole b).view.loc (th3 d L) ↦[(Memref.whole b).view.set]{fullShare} f) := by
  rw [View.set_whole]

/-- The tile's row of the shared scratch, once its accumulator is copied in, is what its arrival at the barrier hands over. -/
theorem pays_tile3 (y : S50176.Idx → Elt F .f32) (hy : Λv.yOK 1 d y) (f : S16x4096.Idx → Elt F .f32) (w : S4096.Idx → Elt F .f32)
    (hw : w = accN (yChunk (tn3 L) y) (iChunk (Λv.bt d) 1 (tn3 L)) 196) :
    ((rK3 L).view.loc (th3 d L) ↦[(rK3 L).view.set]{fullShare} (rK3 L).view.writes (Elt F) f [⟨Rect.whole S4096, w⟩] : sProp 𝕄)
      ⊢ bigSep Finset.univ fun j : Fin (grid3.bound 1) => (bRd Λv).payload (bcell d (cV3 L) (j.castLE hsub3)) (1 : Fin 2).val (jV3 L).val := by
  refine (Entails.of_eq (pts_rK3 (F := F) d L _)).trans ?_
  refine pays_intro1 Λv d (cV3 L) (L 1) w _ ⟨y, hy, hw⟩ fun i hi => ?_
  refine Eq.trans ?_ (write_rK3 (F := F) L f w i hi)
  exact congrFun (View.write_univ_eq_writes_whole (rK3 L).view f [] w).symm i

theorem out_tile3 (rows : ℕ → S4096.Idx → Elt F .f32) (hr : ∀ s : Fin 16, ROW Λv d 1 s.val (rows s.val)) (p : S4096.Idx → Elt F .f32)
    (hp : ∀ k ∈ oSet (tn3 L), SUMk Λv d 0 k (p k)) (f : S4096.Idx → Elt F .f32) (w : S256.Idx → Elt F .f32)
    (hw : w = fun j => addE (colSum fun r => (cK3 L).view.read (Elt F) (fun i => rows (i 0).val (colOf i)) (slIdx r j)) ((qK3 L).view.read (Elt F) p j)) :
    ∀ k ∈ oSet (tn3 L), OUTk Λv d k ((oK3 L).view.writes (Elt F) f [⟨Rect.whole S256, w⟩] k) := by
  subst hw
  intro k hk
  have h := out_K3 Λv d L rows hr p hp f k hk
  rwa [show (oK3 L).view.write (Elt F) f _ Finset.univ k = _ from congrFun (View.write_univ_eq_writes_whole (oK3 L).view f [] _) k] at h

/-- The last tile's segment numbers once the rows that exist are copied in. -/
theorem tail_copy3 (h : k3_cond2 L = 1#1) (f : S3136.Idx → BitVec 32) (w : S2784.Idx → BitVec 32) (hw : w = (bK3b L h).view.read (Elt F) (Λv.bt d))
    (j : S3136.Idx) (hj : (j 0).val < 2784) :
    (ic3).view.writes (Elt F) f [⟨Rect.unit (s := S3136) ![0] S2784.size inb_S3136_S2784_0, w⟩] j = iChunk (Λv.bt d) 1 (tn3 L) j := by
  subst hw
  refine (congrFun (View.read_whole (Val := Elt F) (κ := .scVector) cc3_scratch1 _) j).symm.trans ?_
  refine (View.read_writes_cons_hit_of_coords (Val := Elt F) (ic3).view f _ _ [] (fun a => ⟨(j 0).val, by obtain rfl : a = 0 := Subsingleton.elim _ _; exact hj⟩) j ?_).trans ?_
  · intro a
    obtain rfl : a = 0 := Subsingleton.elim _ _
    show (j 0).val = 0 + 1 * (j 0).val
    omega
  · exact read_bK3b (F := F) L h (Λv.bt d) _ j rfl

set_option maxHeartbeats 1000000 in
/-- The task of the second call on a tile. -/
theorem tile_body3 (hb : ∀ i, (Λv.bt d i).toNat < 4096) (hF : (K (F := F)).Facts) (O : CellTallies nD τ sig (HIx 2)) (W : Waits sig (HIx 2)) (hO : ∀ g, O g none = 0)
    (hOlev : ∀ g ι, 0 < O g ι → 8 * (1 : Fin 2).val + 6 ≤ (K (F := F)).lev g ι) :
    iprop(levAts (K (F := F)).L (K (F := F)).lev
        ∗ bkit Λv 1 d (cV3 L) (jV3 L)
        ∗ go1 Λv d (cV3 L) (tn3 L) (jV3 L)
        ∗ scopedBufs (th3 d L) ∗ scopedSems0 (th3 d L) ∗ owes (th3 d L) (O + oxV d (cV3 L) 1) W)
      ⊢ wp frame (wpE (defs₀ (F := F)) 𝒱₀ (th3 d L) none) Set.univ
          (cc3_body L yV3 (Memref.isWhole_whole _) bV3 (Memref.isWhole_whole _) qV3 (Memref.isWhole_whole _) oV3 (Memref.isWhole_whole _)
            yc3 (Memref.isWhole_whole _) ic3 (Memref.isWhole_whole _) ac3 (Memref.isWhole_whole _) sl3 (Memref.isWhole_whole _) ob3 (Memref.isWhole_whole _)
            pv3 (Memref.isWhole_whole _) cc3_scratch6 sh3 (Memref.isWhole_whole _) cc3_scoped0 cc3_scoped1 cc3_scoped2 cc3_scoped3 cc3_scoped4 cc3_scoped5)
          fun _ => iprop(td1 Λv d (cV3 L) (jV3 L)
            ∗ scopedBufs (th3 d L) ∗ scopedSems0 (th3 d L)
            ∗ ∃ W', ⌜∀ p ∈ W', p ∈ W ∨ p.2 = none ∨ p.2 = some (1 : Fin 2)⌝ ∗ owes (th3 d L) O W') := by
  simp only [cc3_body_eq_skeleton]; unfold cc3_body_skel
  rw [(K (F := F)).scopedBufs_V hF d (cV3 L) (jV3 L), SparseCore.Cfg.scopedSems0_V (Val := Elt F) d (cV3 L) (jV3 L), ownSems3, ownBufs3]
  unfold bkit cellInvs go1 reachedAll td1
  iintro ⟨#Hlv, ⟨⟨%κ, #Hinv⟩, Htoks, Hcred⟩, ⟨⟨%y, %hy, Hy⟩, Hb, ⟨%p, %hp, Hq⟩, ⟨%fo, Ho⟩, ⟨%fsh, Hsh⟩, Hat, #Hrch⟩, ⟨⟨%f0, H0⟩, ⟨%f1, H1⟩, ⟨%f2, H2⟩, ⟨%f3, H3⟩, ⟨%f4, H4⟩, ⟨%f5, H5⟩, Hbufs⟩,
    ⟨HS6, HS0, HS1, HS2, HS3, HS4, HS5, Hsems⟩, HO⟩
  have hO' : ∀ g, (O + oxV d (cV3 L) 1) g none = 0 := fun g => by rw [Pi.add_apply, Finsupp.add_apply, hO g, oxV_none]
  ihave Hmw1 := (show levAts (K (F := F)).L (K (F := F)).lev ⊢ Transfers.MayWaits (th3 d L) (default : HIx 2) (O + oxV d (cV3 L) 1) from
    (K (F := F)).mayWaits_none (thr := th3 d L) hO') $$ Hlv
  ihave Hmw2 := (show levAts (K (F := F)).L (K (F := F)).lev ⊢ Transfers.MayWaits (th3 d L) (default : HIx 2) O from
    (K (F := F)).mayWaits_none (thr := th3 d L) hO) $$ Hlv
  ihave Hy' := (Entails.of_eq (pts_yK3 (F := F) d L _).symm) $$ Hy
  ihave Hq' := (Entails.of_eq (pts_qK3 (F := F) d L _).symm) $$ Hq
  ihave Ho' := (Entails.of_eq (pts_oK3 (F := F) d L _).symm) $$ Ho
  ihave Hsh' := (Entails.of_eq (pts_rK3 (F := F) d L _).symm) $$ Hsh
  ihave H0' := (Entails.of_eq (show ((th3 d L).loc cc3_scratch0 ↦{fullShare} f0 : sProp 𝕄) = ((yc3).view.loc (th3 d L) ↦{fullShare} f0) from rfl)) $$ H0
  ihave H1' := (Entails.of_eq (show ((th3 d L).loc cc3_scratch1 ↦{fullShare} f1 : sProp 𝕄) = ((ic3).view.loc (th3 d L) ↦{fullShare} f1) from rfl)) $$ H1
  ihave H2' := (Entails.of_eq (show ((th3 d L).loc cc3_scratch2 ↦{fullShare} f2 : sProp 𝕄) = ((ac3).view.loc (th3 d L) ↦{fullShare} f2) from rfl)) $$ H2
  ihave H3' := (Entails.of_eq (show ((th3 d L).loc cc3_scratch3 ↦{fullShare} f3 : sProp 𝕄) = ((sl3).view.loc (th3 d L) ↦{fullShare} f3) from rfl)) $$ H3
  ihave H4' := (Entails.of_eq (show ((th3 d L).loc cc3_scratch4 ↦{fullShare} f4 : sProp 𝕄) = ((ob3).view.loc (th3 d L) ↦{fullShare} f4) from rfl)) $$ H4
  ihave H5' := (Entails.of_eq (show ((th3 d L).loc cc3_scratch5 ↦{fullShare} f5 : sProp 𝕄) = ((pv3).view.loc (th3 d L) ↦{fullShare} f5) from rfl)) $$ H5
  -- either way of copying the segment numbers in, up to the zeroing of the accumulator
  by_cases hs : (L 1).val < 15
  case' pos =>
    have k3_h1 : k3_cond1 L = 1#1 := (cond1_iff3 L).mpr hs
    have k3_h2 : ¬ k3_cond2 L = 1#1 := fun h => (cond2_iff3 L).mp h hs
    ihave Hb' := (Entails.of_eq ((pts_bK3a (F := F) d L k3_h1 (Λv.bt d)).trans (bPts3_eq Λv d L)).symm) $$ Hb
    sl_exec
    ihave Hb := (Entails.of_eq ((pts_bK3a (F := F) d L k3_h1 (Λv.bt d)).trans (bPts3_eq Λv d L))) $$ Hb'
    ihave H1 := (Entails.of_eq (pts_whole3 (F := F) d L cc3_scratch1 f1 (tile_body3.sl.dma0_1 Λv d L k3_h1) _ (read_bK3a L k3_h1 (Λv.bt d)))) $$ H1'
  case' neg =>
    have k3_h1 : ¬ k3_cond1 L = 1#1 := fun h => hs ((cond1_iff3 L).mp h)
    have k3_h2 : k3_cond2 L = 1#1 := (cond2_iff3 L).mpr hs
    ihave Hb' := (Entails.of_eq ((pts_bK3b (F := F) d L k3_h2 (Λv.bt d)).trans (bPts3_eq Λv d L)).symm) $$ Hb
    sl_exec
    ihave Hb := (Entails.of_eq ((pts_bK3b (F := F) d L k3_h2 (Λv.bt d)).trans (bPts3_eq Λv d L))) $$ Hb'
    ihave Hz := (tail_loop3 (F := F) d L k3_h2 (iChunk (Λv.bt d) 1 (tn3 L)) (iChunk_tail L k3_h2 (Λv.bt d)) _ (tail_copy3 (F := F) Λv d L k3_h2 f1 (tile_body3.sl.dma0_3 Λv d L k3_h2) rfl)) $$ [H1']
    · iapply (Entails.of_eq (pts_set3 (F := F) d L cc3_scratch1 _)) $$ H1'
    rw [wp_bind]
    iapply (wp_wand_r _ _ _); isplitl [Hz]; · iexact Hz
    iintro %_ H1
    sl_exec
  all_goals
    -- the accumulator zeroed
    ihave Hz := (zero_loop3 (F := F) d L f2) $$ [H2']
    · iapply (Entails.of_eq (pts_set3 (F := F) d L cc3_scratch2 f2)) $$ H2'
    rw [wp_bind]
    iapply (wp_wand_r _ _ _); isplitl [Hz]; · iexact Hz
    iintro %_ H2
    -- the rows waited for
    sl_exec
    first
    | ihave H0 := (Entails.of_eq (pts_whole3 (F := F) d L cc3_scratch0 f0 (tile_body3.sl.dma0 L y) _ (read_yK3 (F := F) L y))) $$ H0'
    | ihave H0 := (Entails.of_eq (pts_whole3 (F := F) d L cc3_scratch0 f0 (tile_body3.sl.dma0_2 L y) _ (read_yK3 (F := F) L y))) $$ H0'
    -- the rows added in at their segments
    ihave Hz := (acc_loop3 (F := F) d L (yChunk (tn3 L) y) (iChunk (Λv.bt d) 1 (tn3 L)) (iChunk_lt _ hb 1 _)) $$ [H0 H1 H2]
    · isplitl [H0]; · iexact H0
      isplitl [H1]; · iexact H1
      iexact H2
    rw [wp_bind]
    iapply (wp_wand_r _ _ _); isplitl [Hz]; · iexact Hz
    iintro %_ ⟨H0, H1, H2⟩
    -- the accumulator into the tile's row of the shared scratch
    sl_exec
    first
    | ihave Hpays := (pays_tile3 Λv d L y hy fsh (tile_body3.sl.dma0_4 Λv d L y) rfl) $$ Hsh'
    | ihave Hpays := (pays_tile3 Λv d L y hy fsh (tile_body3.sl.dma0_5 Λv d L y) rfl) $$ Hsh'
    | ihave Hpays := (pays_tile3 Λv d L y hy fsh (tile_body3.sl.dma0_6 Λv d L y) rfl) $$ Hsh'
    | ihave Hpays := (pays_tile3 Λv d L y hy fsh (tile_body3.sl.dma0_7 Λv d L y) rfl) $$ Hsh'
    | ihave Hpays := (pays_tile3 Λv d L y hy fsh (tile_body3.sl.dma0_8 Λv d L y) rfl) $$ Hsh'
    | ihave Hpays := (pays_tile3 Λv d L y hy fsh (tile_body3.sl.dma0_9 Λv d L y) rfl) $$ Hsh'
    | ihave Hpays := (pays_tile3 Λv d L y hy fsh (tile_body3.sl.dma0_10 Λv d L y) rfl) $$ Hsh'
    -- the barrier
    iapply (SparseCore.wp_subcoreBarrier 𝒱₀ none EB (bRd Λv) d (sc := cV3 L) (i := jV3 L) sc_bar0 (grid3.bound 1) hsub3 (L 1) rfl κ (fun _ => (1 : Fin 2).val) (jV3 L).val
        (fun j => bRd_mem Λv d _ _ _ 1 (by decide)) (fun _ => rfl) (bRd_expect Λv d _ _ 1 (by decide)) (some 1) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := th3 d L) 11 (fun p hp => by
          rw [Finset.mem_singleton] at hp; subst hp
          show (K (F := F)).lev (bcell d (cV3 L) (jV3 L)) (some 1) ≤ 11
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, Hreached, Hgot⟩
    ihave Hcol := (show (bigSep ((bRd Λv).duties (bcell d (cV3 L) (jV3 L)) (1 : Fin 2).val \ ∅) fun m => (bRd Λv).payload (bcell d (cV3 L) (jV3 L)) (1 : Fin 2).val m) ⊢ _ from
      pays_elim1 Λv d (cV3 L) (L 1)) $$ Hgot
    icases Hcol with ⟨%rows, %hrows, Hcol⟩
    ihave Hcol' := (Entails.of_eq (pts_cK3 (F := F) d L _).symm) $$ Hcol
    -- the tile's columns into the slab
    sl_exec
    first
    | ihave H3 := (Entails.of_eq (pts_whole3 (F := F) d L cc3_scratch3 f3 (tile_body3.sl.dma0_4 L rows) _ rfl)) $$ H3'
    | ihave H3 := (Entails.of_eq (pts_whole3 (F := F) d L cc3_scratch3 f3 (tile_body3.sl.dma0_5 L rows) _ rfl)) $$ H3'
    | ihave H3 := (Entails.of_eq (pts_whole3 (F := F) d L cc3_scratch3 f3 (tile_body3.sl.dma0_6 L rows) _ rfl)) $$ H3'
    | ihave H3 := (Entails.of_eq (pts_whole3 (F := F) d L cc3_scratch3 f3 (tile_body3.sl.dma0_7 L rows) _ rfl)) $$ H3'
    | ihave H3 := (Entails.of_eq (pts_whole3 (F := F) d L cc3_scratch3 f3 (tile_body3.sl.dma0_8 L rows) _ rfl)) $$ H3'
    | ihave H3 := (Entails.of_eq (pts_whole3 (F := F) d L cc3_scratch3 f3 (tile_body3.sl.dma0_9 L rows) _ rfl)) $$ H3'
    | ihave H3 := (Entails.of_eq (pts_whole3 (F := F) d L cc3_scratch3 f3 (tile_body3.sl.dma0_10 L rows) _ rfl)) $$ H3'
    -- the columns added up, and the first call's sums with them
    first
    | ihave H5 := (Entails.of_eq (pts_whole3 (F := F) d L cc3_scratch5 f5 (tile_body3.sl.dma0_5 L p) _ rfl)) $$ H5'
    | ihave H5 := (Entails.of_eq (pts_whole3 (F := F) d L cc3_scratch5 f5 (tile_body3.sl.dma0_6 L p) _ rfl)) $$ H5'
    | ihave H5 := (Entails.of_eq (pts_whole3 (F := F) d L cc3_scratch5 f5 (tile_body3.sl.dma0_7 L p) _ rfl)) $$ H5'
    | ihave H5 := (Entails.of_eq (pts_whole3 (F := F) d L cc3_scratch5 f5 (tile_body3.sl.dma0_8 L p) _ rfl)) $$ H5'
    | ihave H5 := (Entails.of_eq (pts_whole3 (F := F) d L cc3_scratch5 f5 (tile_body3.sl.dma0_9 L p) _ rfl)) $$ H5'
    ihave Hz := (red_loop3 (F := F) d L ((cK3 L).view.read (Elt F) fun i => rows (i 0).val (colOf i)) ((qK3 L).view.read (Elt F) p) f4) $$ [H3 H5 H4']
    · isplitl [H3]; · iexact H3
      isplitl [H5]; · iexact H5
      iapply (Entails.of_eq (pts_set3 (F := F) d L cc3_scratch4 f4)) $$ H4'
    rw [wp_bind]
    iapply (wp_wand_r _ _ _); isplitl [Hz]; · iexact Hz
    iintro %_ ⟨H3, H5, H4⟩
    -- the sums out to the tile's block of the result
    sl_exec
    -- the barrier's cell at rest
    ihave #Hinvj := (show (bigSep Finset.univ fun j : Fin 16 => cellInv EB (bRd Λv) (κ (bcell d (cV3 L) (j.castLE h16))) (bcell d (cV3 L) (j.castLE h16)) : sProp 𝕄) ⊢ cellInv EB (bRd Λv) (κ (bcell d (cV3 L) (jV3 L))) (bcell d (cV3 L) (jV3 L)) from
        bigSep_elim (i := L 1) (Finset.mem_univ (L 1))) $$ Hinv
    imod (Rounds.cell_close EB (bRd Λv) (g := bcell d (cV3 L) (jV3 L)) (Set.mem_univ (κ (bcell d (cV3 L) (jV3 L)))) (fun h => h) (bRd_duties_succ Λv _)) $$ [Hat] with Hbar
    · isplitr; · iexact Hinvj
      iexact Hat
    rw [wp_ret]; imodintro
    isplitl [Hb Ho' Hcol' Hbar]
    · isplitl [Hb]; · iexact Hb
      isplitl [Ho']
      · iexists _
        isplitr [Ho']
        rotate_left
        · iapply (Entails.of_eq (pts_oK3 (F := F) d L _)); iexact Ho'
        ipureintro
        exact out_tile3 Λv d L rows hrows p hp fo _ rfl
      isplitl [Hcol']
      · iexists _; iapply (Entails.of_eq (pts_cK3 (F := F) d L _)); iexact Hcol'
      iexact Hbar
    isplitl [H0 H1 H2 H3 H4 H5 Hbufs]
    · isplitl [H0]; · iexists _; iapply (Entails.of_eq (pts_set3 (F := F) d L cc3_scratch0 _).symm); iexact H0
      isplitl [H1]; · iexists _; iapply (Entails.of_eq (pts_set3 (F := F) d L cc3_scratch1 _).symm); iexact H1
      isplitl [H2]; · iexists _; iapply (Entails.of_eq (pts_set3 (F := F) d L cc3_scratch2 _).symm); iexact H2
      isplitl [H3]; · iexists _; iapply (Entails.of_eq (pts_set3 (F := F) d L cc3_scratch3 _).symm); iexact H3
      isplitl [H4]; · iexists _; iapply (Entails.of_eq (pts_set3 (F := F) d L cc3_scratch4 _).symm); iexact H4
      isplitl [H5]; · iexists _; iapply (Entails.of_eq (pts_set3 (F := F) d L cc3_scratch5 _).symm); iexact H5
      iexact Hbufs
    isplitl [HS6 HS0 HS1 HS2 HS3 HS4 HS5 Hsems]
    · isplitl [HS6]; · iexact HS6
      isplitl [HS0]; · iexact HS0
      isplitl [HS1]; · iexact HS1
      isplitl [HS2]; · iexact HS2
      isplitl [HS3]; · iexact HS3
      isplitl [HS4]; · iexact HS4
      isplitl [HS5]; · iexact HS5
      iexact Hsems
    iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inr (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact .inl hp

end Cert.Proof.SegSum
-- ==== Proof.Parts.lean ====
/-
  The arrays the calls hand round, as the pieces of the sixteen tiles: each splits into them and joins from them.
-/
module

public import proofs.«01_k».proof.Proof.Tile
public import proofs.«01_k».proof.Proof.Tile2

@[expose] public section

noncomputable section

namespace Cert.Proof.SegSum

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The pieces are disjoint and cover -/

theorem mem_ySet {s : ℕ} {i : S50176.Idx} : i ∈ ySet s ↔ 3136 * s ≤ (i 0).val ∧ (i 0).val < 3136 * s + 3136 := by simp [ySet]
theorem mem_bSet {lo hi : ℕ} {i : S100000.Idx} : i ∈ bSet lo hi ↔ lo ≤ (i 0).val ∧ (i 0).val < hi := by simp [bSet]
theorem mem_oSet {s : ℕ} {i : S4096.Idx} : i ∈ oSet s ↔ 256 * s ≤ (i 0).val ∧ (i 0).val < 256 * s + 256 := by simp [oSet]

/-- Sixteen pieces of a buffer no two of which meet and that leave nothing out. -/
structure Parts {I : Type} [DecidableEq I] [Fintype I] (S : Fin 16 → Finset I) (A : Finset I) : Prop where
  disj : ∀ s ∈ (Finset.univ : Finset (Fin 16)), ∀ t ∈ (Finset.univ : Finset (Fin 16)), s ≠ t → Disjoint (S s) (S t)
  cover : (Finset.univ : Finset (Fin 16)).biUnion S = A

/-- Pieces found by the number of the piece a place lies in. -/
theorem Parts.of_key {I : Type} [DecidableEq I] [Fintype I] (S : Fin 16 → Finset I) (A : Finset I) (key : I → ℕ)
    (hA : ∀ i ∈ A, key i < 16) (hS : ∀ s i, i ∈ S s ↔ i ∈ A ∧ key i = s.val) : Parts S A where
  disj s _ t _ h := Finset.disjoint_left.mpr fun i hi hj => h (Fin.ext (((hS s i).mp hi).2.symm.trans ((hS t i).mp hj).2))
  cover := Finset.ext fun i => by
    rw [Finset.mem_biUnion]
    exact ⟨fun ⟨s, _, hs⟩ => ((hS s i).mp hs).1, fun h => ⟨⟨key i, hA i h⟩, Finset.mem_univ _, (hS _ i).mpr ⟨h, rfl⟩⟩⟩

theorem parts_y : Parts (fun s => ySet s.val) Finset.univ := .of_key _ _ (fun i => (i 0).val / 3136)
  (fun i _ => by have := (i 0).isLt; change (i 0).val < 50176 at this; show (i 0).val / 3136 < 16; omega)
  (fun s i => by rw [mem_ySet]; simp only [Finset.mem_univ, _root_.true_and]; omega)
theorem parts_o : Parts (fun s => oSet s.val) Finset.univ := .of_key _ _ (fun i => (i 0).val / 256)
  (fun i _ => by have := (i 0).isLt; change (i 0).val < 4096 at this; show (i 0).val / 256 < 16; omega)
  (fun s i => by rw [mem_oSet]; simp only [Finset.mem_univ, _root_.true_and]; omega)
theorem parts_row : Parts (fun s => rowS s.val) Finset.univ := .of_key _ _ (fun i => (i 0).val)
  (fun i _ => (i 0).isLt) (fun s i => by rw [mem_rowS]; simp only [Finset.mem_univ, _root_.true_and])
theorem parts_col : Parts (fun s => colS s.val) Finset.univ := .of_key _ _ (fun i => (i 1).val / 256)
  (fun i _ => by have := (i 1).isLt; change (i 1).val < 4096 at this; show (i 1).val / 256 < 16; omega)
  (fun s i => by rw [mem_colS]; simp only [Finset.mem_univ, _root_.true_and]; omega)
theorem parts_b (q : ℕ) : Parts (fun s => bSet (50176 * q + 3136 * s.val) (50176 * q + 3136 * s.val + 3136)) (bSet (50176 * q) (50176 * q + 50176)) :=
  .of_key _ _ (fun i => ((i 0).val - 50176 * q) / 3136)
    (fun i h => by have := mem_bSet.mp h; show ((i 0).val - 50176 * q) / 3136 < 16; omega)
    (fun s i => by rw [mem_bSet, mem_bSet]; omega)

/-! ## Splitting and joining -/

/-- A buffer's piece is its parts. -/
theorem pts_parts {ℓ : Loc nD τ sig} {S : Fin 16 → Finset (Idx ℓ)} {A : Finset (Idx ℓ)} (h : Parts S A) (f : Buf (Elt F) ℓ) :
    (ℓ ↦[A]{fullShare} f : sProp 𝕄) = bigSep Finset.univ fun s : Fin 16 => ℓ ↦[S s]{fullShare} f := by
  rw [← pointsTo_biUnion Finset.univ (ℓ := ℓ) S h.disj, h.cover]

/-- Sixteen resources, each giving another. -/
theorem mono16 {Φ Ψ : Fin 16 → sProp 𝕄} (h : ∀ s, Φ s ⊢ Ψ s) : bigSep Finset.univ Φ ⊢ bigSep Finset.univ Ψ := bigSep_mono fun s _ => h s

/-- A buffer at contents satisfying `P` is its parts, each at such contents. -/
theorem split_ex {ℓ : Loc nD τ sig} {S : Fin 16 → Finset (Idx ℓ)} {A : Finset (Idx ℓ)} (h : Parts S A) (P : Buf (Elt F) ℓ → Prop) :
    (iprop(∃ f, ⌜P f⌝ ∗ (ℓ ↦[A]{fullShare} f)) : sProp 𝕄) ⊢ bigSep Finset.univ fun s : Fin 16 => iprop(∃ f, ⌜P f⌝ ∗ (ℓ ↦[S s]{fullShare} f)) := by
  have hm : ∀ f, P f → (iprop(ℓ ↦[A]{fullShare} f) : sProp 𝕄) ⊢ bigSep Finset.univ fun s : Fin 16 => iprop(∃ f, ⌜P f⌝ ∗ (ℓ ↦[S s]{fullShare} f)) := fun f hf => by
    rw [pts_parts h f]
    refine mono16 fun s => ?_
    iintro H; iexists f; isplitr; · (ipureintro; exact hf)
    iexact H
  iintro ⟨%f, %hf, H⟩
  iapply (hm f hf) $$ H
theorem split_any {ℓ : Loc nD τ sig} {S : Fin 16 → Finset (Idx ℓ)} {A : Finset (Idx ℓ)} (h : Parts S A) :
    (iprop(∃ f, ℓ ↦[A]{fullShare} f) : sProp 𝕄) ⊢ bigSep Finset.univ fun s : Fin 16 => iprop(∃ f, (ℓ ↦[S s]{fullShare} f)) := by
  refine BIBase.Entails.trans ?_ (BIBase.Entails.trans (split_ex h fun _ => True) (mono16 fun s => ?_))
  · iintro ⟨%f, H⟩; iexists f; isplitr; · (ipureintro; trivial)
    iexact H
  · iintro ⟨%f, -, H⟩; iexists f; iexact H

/-- Parts at contents whose places satisfy `P` are the buffer at such contents. -/
theorem join_ex {ℓ : Loc nD τ sig} {S : Fin 16 → Finset (Idx ℓ)} (h : Parts S Finset.univ) (f₀ : Buf (Elt F) ℓ)
    (P : (k : Idx ℓ) → Elt F ℓ.2.ty.elt → Prop) :
    (bigSep Finset.univ fun s : Fin 16 => (iprop(∃ f, ⌜∀ k ∈ S s, P k (f k)⌝ ∗ (ℓ ↦[S s]{fullShare} f)) : sProp 𝕄))
      ⊢ iprop(∃ f, ⌜∀ k, P k (f k)⌝ ∗ (ℓ ↦{fullShare} f)) := by
  haveI : Nonempty (Buf (Elt F) ℓ) := ⟨f₀⟩
  refine (bigSep_exists_pi (Finset.univ : Finset (Fin 16)) (fun s (f : Buf (Elt F) ℓ) => (iprop(⌜∀ k ∈ S s, P k (f k)⌝ ∗ (ℓ ↦[S s]{fullShare} f)) : sProp 𝕄))).trans ?_
  iintro ⟨%fs, H⟩
  ihave H := (bigSep_pure_sep (Finset.univ : Finset (Fin 16)) (fun s => ∀ k ∈ S s, P k (fs s k)) _) $$ H
  icases H with ⟨%hp, H⟩
  ihave H := (pointsTo_biUnion_join Finset.univ S fs f₀ h.disj) $$ H
  icases H with ⟨%g, %hg, H⟩
  rw [h.cover]
  iexists g
  isplitr
  · ipureintro; intro k
    obtain ⟨s, hs, hk⟩ := Finset.mem_biUnion.mp (h.cover.symm ▸ Finset.mem_univ k)
    rw [hg s hs k hk]; exact hp s hs k hk
  iexact H
theorem join_any {ℓ : Loc nD τ sig} {S : Fin 16 → Finset (Idx ℓ)} (h : Parts S Finset.univ) (f₀ : Buf (Elt F) ℓ) :
    (bigSep Finset.univ fun s : Fin 16 => (iprop(∃ f, (ℓ ↦[S s]{fullShare} f)) : sProp 𝕄)) ⊢ iprop(∃ f, (ℓ ↦{fullShare} f)) := by
  haveI : Nonempty (Buf (Elt F) ℓ) := ⟨f₀⟩
  refine (bigSep_exists_pi (Finset.univ : Finset (Fin 16)) (fun s (f : Buf (Elt F) ℓ) => (iprop((ℓ ↦[S s]{fullShare} f)) : sProp 𝕄))).trans ?_
  iintro ⟨%fs, H⟩
  ihave H := (pointsTo_biUnion_join Finset.univ S fs f₀ h.disj) $$ H
  icases H with ⟨%g, -, H⟩
  rw [h.cover]
  iexists g; iexact H

/-- The segment numbers of a device are the tiles' of one call and the other call's. -/
theorem bPts_split (Λv : Vals F) (d : Dev nD) (q q' : ℕ) (hq : q < 2 ∧ q' = 1 - q) :
    (bLoc d ↦{fullShare} (Λv.bt d) : sProp 𝕄)
      = iprop((bigSep Finset.univ fun s : Fin 16 => bPts Λv q s.val d) ∗ (bLoc d ↦[bSet (50176 * q') (50176 * q' + 50176)]{fullShare} (Λv.bt d))) := by
  rw [← pts_parts (ℓ := bLoc d) (parts_b q)]
  have hd : Disjoint (bSet (50176 * q) (50176 * q + 50176)) (bSet (50176 * q') (50176 * q' + 50176)) :=
    Finset.disjoint_left.mpr fun (i : S100000.Idx) hi hj => by
      have h1 := mem_bSet.mp hi; have h2 := mem_bSet.mp hj; omega
  refine Eq.trans ?_ (BI.equiv_iff.mp ⟨(pointsTo_union (ℓ := bLoc d) hd).1, (pointsTo_union (ℓ := bLoc d) hd).2⟩)
  refine congrArg (fun I : Finset S100000.Idx => (bLoc d ↦[I]{fullShare} (Λv.bt d) : sProp 𝕄)) ?_
  · refine Finset.ext fun (i : S100000.Idx) => ?_
    have := (i 0).isLt; change (i 0).val < 100000 at this
    refine ⟨fun _ => Finset.mem_union.mpr ?_, fun _ => Finset.mem_univ _⟩
    by_cases h : 50176 * q ≤ (i 0).val ∧ (i 0).val < 50176 * q + 50176
    · exact Or.inl (mem_bSet.mpr h)
    · exact Or.inr (mem_bSet.mpr (by omega))

end Cert.Proof.SegSum

end
-- ==== Proof.Calls.lean ====
/-
  What the two SparseCore calls take and bring back, each tile's task met, and each call's operands split into its
  tiles' shares and gathered from them.
-/
module

public import proofs.«01_k».proof.Proof.Parts

@[expose] public section

noncomputable section

namespace Cert.Proof.SegSum

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (Λv : Vals F)

/-! ## What the calls take and bring back -/

/-- The one SparseCore of each call. -/
abbrev core0 (c : Fin ((K (F := F)).nCore 0)) : Fin τ.nSC := (K (F := F)).core 0 c
abbrev core1 (c : Fin ((K (F := F)).nCore 1)) : Fin τ.nSC := (K (F := F)).core 1 c

/-- Where the barrier's cells stand between the calls. -/
def between (d : Dev nD) (c : Fin τ.nSC) : sProp 𝕄 :=
  iprop((bigSep Finset.univ fun j : Fin 16 => atPos EB (bcell d c (j.castLE h16)) 1 ∅ 0) ∗ reachedAll d c 1)
/-- The barrier's cells at zero. -/
def bars (d : Dev nD) (c : Fin τ.nSC) : sProp 𝕄 := bigSep Finset.univ fun j : Fin 16 => semVal (bcell d c (j.castLE h16)) 0

/-- The first call takes its rows, the segment numbers and its result. -/
def st0 (d : Dev nD) : sProp 𝕄 :=
  iprop((∃ y : S50176.Idx → Elt F .f32, ⌜Λv.yOK 0 d y⌝ ∗ (yLoc0 d ↦{fullShare} y)) ∗ (bLoc d ↦{fullShare} (Λv.bt d))
    ∗ (∃ f : S4096.Idx → Elt F .f32, (oLoc0 d ↦{fullShare} f)))
/-- It brings back the segment numbers, its result at the sums, and the barrier's cells past its round. -/
def dn0 (d : Dev nD) (c : Fin τ.nSC) : sProp 𝕄 :=
  iprop((bLoc d ↦{fullShare} (Λv.bt d)) ∗ (∃ f : S4096.Idx → Elt F .f32, ⌜∀ k, SUMk Λv d 0 k (f k)⌝ ∗ (oLoc0 d ↦{fullShare} f)) ∗ between d c)
/-- The second call takes its rows, the segment numbers, the first call's sums, its result and the barrier's cells. -/
def st1 (d : Dev nD) (c : Fin τ.nSC) : sProp 𝕄 :=
  iprop((∃ y : S50176.Idx → Elt F .f32, ⌜Λv.yOK 1 d y⌝ ∗ (yLoc1 d ↦{fullShare} y)) ∗ (bLoc d ↦{fullShare} (Λv.bt d))
    ∗ (∃ p : S4096.Idx → Elt F .f32, ⌜∀ k, SUMk Λv d 0 k (p k)⌝ ∗ (oLoc0 d ↦{fullShare} p))
    ∗ (∃ f : S4096.Idx → Elt F .f32, (oLoc1 d ↦{fullShare} f)) ∗ between d c)
/-- It brings back the segment numbers, the result, and the barrier's cells at zero. -/
def dn1 (d : Dev nD) (c : Fin τ.nSC) : sProp 𝕄 :=
  iprop((bLoc d ↦{fullShare} (Λv.bt d)) ∗ (∃ f : S4096.Idx → Elt F .f32, ⌜∀ k, OUTk Λv d k (f k)⌝ ∗ (oLoc1 d ↦{fullShare} f)) ∗ bars d c)

/-- What a tile's proof consumes at each call: its barrier kit, and at the first call where the barrier's cells stand at the launch. -/
def kit (q : Fin 2) (d : Dev nD) (c : Fin τ.nSC) (i : Fin τ.nSub) : sProp 𝕄 :=
  match q with
  | 0 => iprop(bkit Λv 0 d c i ∗ reachedAll d c 0 ∗ atPos EB (bcell d c i) 0 ∅ 0)
  | 1 => bkit Λv 1 d c i

set_option backward.proofsInPublic true in
/-- What the calls carry: `st`, `dn` above; each tile its pieces; each tile's proof its kit; each tile of SparseCore 0 owes its arrivals. -/
def P : (K (F := F)).Pay (nD := nD) (Val := Elt F) (Name := ℕ) (U := UU) where
  st := fun q d c => match q with | 0 => st0 Λv d | 1 => st1 Λv d (core1 c)
  dn := fun q d c => match q with | 0 => dn0 Λv d (core0 c) | 1 => dn1 Λv d (core1 c)
  go := fun q d c i => match q with
    | 0 => go0 Λv d (core0 c) i.val
    | 1 => go1 Λv d (core1 c) i.val ((K (F := F)).sub 1 i)
  td := fun q d c i => match q with
    | 0 => td0 Λv d (core0 c) ((K (F := F)).sub 0 i)
    | 1 => td1 Λv d (core1 c) ((K (F := F)).sub 1 i)
  x := fun q thr => match thr with
    | (d, .scVector c i) => if c.val < 1 then kit Λv q d c i else iprop(emp)
    | _ => iprop(emp)
  ox := fun q thr => match thr with
    | (d, .scVector c _) => if c.val < 1 then oxV d c q else 0
    | _ => 0
  ox_band := by
    intro q thr g ι h
    rcases thr with ⟨d, _ | c | ⟨c, i⟩⟩
    · exact absurd h (lt_irrefl 0)
    · exact absurd h (lt_irrefl 0)
    · dsimp only at h
      split at h
      · obtain ⟨j, rfl, rfl⟩ := oxV_apply_pos h
        rw [(K (F := F)).lev_V_reg d c (j.castLE h16) (show (sc_bar0 : Sem sig) ≠ (K (F := F)).go from sc_bar0_ne_go)]
        exact ⟨le_rfl, Nat.add_le_add_left (by decide) _⟩
      · exact absurd h (lt_irrefl 0)
  ox_tc := fun _ _ => rfl
  ox_sc := fun _ _ _ h => absurd rfl h
  ox_vc := by
    intro q d c i h
    dsimp only at h
    split at h
    · next hc => match q with
        | 0 => exact ⟨rfl, hc, i.isLt⟩
        | 1 => exact ⟨rfl, hc, i.isLt⟩
    · exact absurd rfl h

instance between_storable (d : Dev nD) (c : Fin τ.nSC) : BI.Storable (upEmb : UEmb _ 𝕄) (between (F := F) d c) := by
  unfold between reachedAll; infer_instance
instance bars_storable (d : Dev nD) (c : Fin τ.nSC) : BI.Storable (upEmb : UEmb _ 𝕄) (bars (F := F) d c) := by
  unfold bars; infer_instance
instance P_storable : (P (F := F) Λv).IsStorable where
  st q d c := match q with
    | 0 => (by unfold st0; infer_instance : BI.Storable (upEmb : UEmb _ 𝕄) (st0 Λv d))
    | 1 => (by unfold st1; infer_instance : BI.Storable (upEmb : UEmb _ 𝕄) (st1 Λv d _))
  dn q d c := match q with
    | 0 => (by unfold dn0; infer_instance : BI.Storable (upEmb : UEmb _ 𝕄) (dn0 Λv d _))
    | 1 => (by unfold dn1; infer_instance : BI.Storable (upEmb : UEmb _ 𝕄) (dn1 Λv d _))
  go q d c i := match q with
    | 0 => (by unfold go0; infer_instance : BI.Storable (upEmb : UEmb _ 𝕄) (go0 Λv d _ _))
    | 1 => (by unfold go1 reachedAll; infer_instance : BI.Storable (upEmb : UEmb _ 𝕄) (go1 Λv d _ _ _))
  td q d c i := match q with
    | 0 => (by unfold td0; infer_instance : BI.Storable (upEmb : UEmb _ 𝕄) (td0 Λv d _ _))
    | 1 => (by unfold td1; infer_instance : BI.Storable (upEmb : UEmb _ 𝕄) (td1 Λv d _ _))

/-! ## The tiles' tasks -/

/-- A tile's place in a call's grid. -/
def coords1 (c : Fin (grid1.bound 0)) (s : Fin (grid1.bound 1)) : grid1.Coords :=
  fun | 0 => c | 1 => s | ⟨_ + 2, h⟩ => absurd h (Nat.not_lt.2 (Nat.le_add_left _ _))
def coords3 (c : Fin (grid3.bound 0)) (s : Fin (grid3.bound 1)) : grid3.Coords :=
  fun | 0 => c | 1 => s | ⟨_ + 2, h⟩ => absurd h (Nat.not_lt.2 (Nat.le_add_left _ _))

theorem defs₀_vector1 (c : Fin τ.nSC) (s : Fin τ.nSub) :
    defs₀ (F := F) (.scVector c s) 1 ()
      = SparseCore.onTile hcore1 hsub1 (fun c s => cc1_body (coords1 c s) yV1 (Memref.isWhole_whole _) bV1 (Memref.isWhole_whole _) oV1 (Memref.isWhole_whole _)
            yc1 (Memref.isWhole_whole _) ic1 (Memref.isWhole_whole _) ac1 (Memref.isWhole_whole _) sl1 (Memref.isWhole_whole _) ob1 (Memref.isWhole_whole _)
            pv1 (Memref.isWhole_whole _) cc1_scratch6 sh1 (Memref.isWhole_whole _) cc1_scoped0 cc1_scoped1 cc1_scoped2 cc1_scoped3 cc1_scoped4) ⟨⟩ c s := rfl
theorem defs₀_vector3 (c : Fin τ.nSC) (s : Fin τ.nSub) :
    defs₀ (F := F) (.scVector c s) 3 ()
      = SparseCore.onTile hcore3 hsub3 (fun c s => cc3_body (coords3 c s) yV3 (Memref.isWhole_whole _) bV3 (Memref.isWhole_whole _) qV3 (Memref.isWhole_whole _) oV3 (Memref.isWhole_whole _)
            yc3 (Memref.isWhole_whole _) ic3 (Memref.isWhole_whole _) ac3 (Memref.isWhole_whole _) sl3 (Memref.isWhole_whole _) ob3 (Memref.isWhole_whole _)
            pv3 (Memref.isWhole_whole _) cc3_scratch6 sh3 (Memref.isWhole_whole _) cc3_scoped0 cc3_scoped1 cc3_scoped2 cc3_scoped3 cc3_scoped4 cc3_scoped5) ⟨⟩ c s := rfl

variable (hb : ∀ d i, (Λv.bt d i).toNat < 4096)

set_option maxRecDepth 16384 in
include hb in
/-- Each tile meets its task of the first call. -/
theorem tileObl0 : (K (F := F)).TileObl (D (F := F)) 𝒱 (P Λv) v₀ 0 := by
  intro d c i O W hO hOlev _
  have hc : ((K (F := F)).core 0 c).val < 1 := c.isLt
  have hci : ((K (F := F)).core 0 c).val < grid1.bound 0 ∧ ((K (F := F)).sub 0 i).val < grid1.bound 1 := ⟨c.isLt, i.isLt⟩
  rw [show (P Λv).ox 0 (V d ((K (F := F)).core 0 c) ((K (F := F)).sub 0 i)) = oxV d ((K (F := F)).core 0 c) 0 from if_pos hc,
    show (P Λv).x 0 (V d ((K (F := F)).core 0 c) ((K (F := F)).sub 0 i)) = kit Λv 0 d ((K (F := F)).core 0 c) ((K (F := F)).sub 0 i) from if_pos hc]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact tile_body1 Λv d (coords1 ⟨_, hci.1⟩ ⟨_, hci.2⟩) (hb d) launchFacts O W hO hOlev

set_option maxRecDepth 16384 in
include hb in
/-- Each tile meets its task of the second call. -/
theorem tileObl1 : (K (F := F)).TileObl (D (F := F)) 𝒱 (P Λv) v₀ 1 := by
  intro d c i O W hO hOlev _
  have hc : ((K (F := F)).core 1 c).val < 1 := c.isLt
  have hci : ((K (F := F)).core 1 c).val < grid3.bound 0 ∧ ((K (F := F)).sub 1 i).val < grid3.bound 1 := ⟨c.isLt, i.isLt⟩
  rw [show (P Λv).ox 1 (V d ((K (F := F)).core 1 c) ((K (F := F)).sub 1 i)) = oxV d ((K (F := F)).core 1 c) 1 from if_pos hc,
    show (P Λv).x 1 (V d ((K (F := F)).core 1 c) ((K (F := F)).sub 1 i)) = kit Λv 1 d ((K (F := F)).core 1 c) ((K (F := F)).sub 1 i) from if_pos hc]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_vector3]; simp only [SparseCore.onTile, hci, and_self, ↓reduceDIte]
  exact tile_body3 Λv d (coords3 ⟨_, hci.1⟩ ⟨_, hci.2⟩) (hb d) launchFacts O W hO hOlev

end Cert.Proof.SegSum

end
-- ==== Proof.Split.lean ====
/-
  Each call's operands split into its tiles' shares and gathered from them, the shared scratch among them.
-/
module

public import proofs.«01_k».proof.Proof.Calls

@[expose] public section

noncomputable section

namespace Cert.Proof.SegSum

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (Λv : Vals F)

/-- The segment numbers a call leaves to the other one. -/
abbrev bRest (q : ℕ) (d : Dev nD) : sProp 𝕄 := (bLoc d ↦[bSet (50176 * q) (50176 * q + 50176)]{fullShare} (Λv.bt d))

/-- The first call's operands and the shared scratch are its tiles' shares, the segment numbers it leaves set aside. -/
theorem deal0 (d : Dev nD) (c : Fin τ.nSC) :
    iprop(st0 Λv d ∗ ∃ f : S16x4096.Idx → Elt F .f32, (shLoc0 d c ↦{fullShare} f))
      ⊢ (iprop((bigSep Finset.univ fun s : Fin 16 => go0 Λv d c s.val) ∗ bRest Λv 1 d) : sProp 𝕄) := by
  unfold st0 go0
  rw [bigSep_sep', bigSep_sep', bigSep_sep', bPts_split Λv d 0 1 ⟨by decide, rfl⟩]
  iintro ⟨⟨Hy, ⟨Hb, Hr⟩, Ho⟩, Hs⟩
  isplitr [Hr]; swap; · iexact Hr
  isplitl [Hy]; · iapply (split_ex (ℓ := yLoc0 d) parts_y _) $$ Hy
  isplitl [Hb]; · iexact Hb
  isplitl [Ho]; · iapply (split_any (ℓ := oLoc0 d) parts_o) $$ Ho
  iapply (split_any (ℓ := shLoc0 d c) parts_row) $$ Hs
/-- The first call's results and the shared scratch, of its tiles'. -/
theorem gather0 (d : Dev nD) (c : Fin τ.nSC) :
    iprop((bigSep Finset.univ fun s : Fin 16 => td0 Λv d c (s.castLE h16)) ∗ bRest Λv 1 d)
      ⊢ (iprop(dn0 Λv d c ∗ ∃ f : S16x4096.Idx → Elt F .f32, (shLoc0 d c ↦{fullShare} f)) : sProp 𝕄) := by
  unfold dn0 td0 between reachedAll
  rw [bigSep_sep', bigSep_sep', bigSep_sep', bigSep_sep', bPts_split Λv d 0 1 ⟨by decide, rfl⟩]
  simp only [Fin.val_castLE]
  iintro ⟨⟨Hb, Ho, Hs, Ha, Hc⟩, Hr⟩
  isplitr [Hs]; swap; · iapply (join_any (ℓ := shLoc0 d c) parts_col (fun _ => zf)) $$ Hs
  isplitl [Hb Hr]; · isplitl [Hb] <;> iassumption
  isplitl [Ho]; · iapply (join_ex (ℓ := oLoc0 d) parts_o (fun _ => zf) (SUMk Λv d 0)) $$ Ho
  isplitl [Ha] <;> iassumption

/-- That every cell has reached the second round, to every tile. -/
theorem reached_all (d : Dev nD) (c : Fin τ.nSC) : (reachedAll d c 1 : sProp 𝕄) ⊢ bigSep Finset.univ fun _ : Fin 16 => reachedAll (F := F) d c 1 := by
  haveI : BI.Persistent (reachedAll d c 1 : sProp 𝕄) := by unfold reachedAll; infer_instance
  exact BI.bigSep_intro_persistent fun _ _ => .rfl

/-- The second call's operands and the shared scratch are its tiles' shares, the segment numbers it leaves set aside. -/
theorem deal1 (d : Dev nD) (c : Fin τ.nSC) :
    iprop(st1 Λv d c ∗ ∃ f : S16x4096.Idx → Elt F .f32, (shLoc1 d c ↦{fullShare} f))
      ⊢ (iprop((bigSep Finset.univ fun s : Fin 16 => go1 Λv d c s.val (s.castLE h16)) ∗ bRest Λv 0 d) : sProp 𝕄) := by
  unfold st1 go1 between
  rw [bigSep_sep', bigSep_sep', bigSep_sep', bigSep_sep', bigSep_sep', bigSep_sep', bPts_split Λv d 1 0 ⟨by decide, rfl⟩]
  iintro ⟨⟨Hy, ⟨Hb, Hr⟩, Hp, Ho, Ha, Hc⟩, Hs⟩
  isplitr [Hr]; swap; · iexact Hr
  isplitl [Hy]; · iapply (split_ex (ℓ := yLoc1 d) parts_y _) $$ Hy
  isplitl [Hb]; · iexact Hb
  isplitl [Hp]
  · icases Hp with ⟨%p, %hp, Hp⟩
    iapply (mono16 fun s => (show (iprop(∃ f : S4096.Idx → Elt F .f32, ⌜∀ k, SUMk Λv d 0 k (f k)⌝ ∗ (oLoc0 d ↦[oSet s.val]{fullShare} f)) : sProp 𝕄)
        ⊢ iprop(∃ f : S4096.Idx → Elt F .f32, ⌜∀ k ∈ oSet s.val, SUMk Λv d 0 k (f k)⌝ ∗ (oLoc0 d ↦[oSet s.val]{fullShare} f)) by
      iintro ⟨%f, %hf, H⟩; iexists f; isplitr; · (ipureintro; exact fun k _ => hf k)
      iexact H))
    iapply (split_ex (ℓ := oLoc0 d) parts_o _)
    iexists p; isplitr; · (ipureintro; exact hp)
    iexact Hp
  isplitl [Ho]; · iapply (split_any (ℓ := oLoc1 d) parts_o) $$ Ho
  isplitl [Hs]; · iapply (split_any (ℓ := shLoc1 d c) parts_row) $$ Hs
  isplitl [Ha]; · iexact Ha
  iapply (reached_all d c) $$ Hc
/-- The second call's results and the shared scratch, of its tiles'. -/
theorem gather1 (d : Dev nD) (c : Fin τ.nSC) :
    iprop((bigSep Finset.univ fun s : Fin 16 => td1 Λv d c (s.castLE h16)) ∗ bRest Λv 0 d)
      ⊢ (iprop(dn1 Λv d c ∗ ∃ f : S16x4096.Idx → Elt F .f32, (shLoc1 d c ↦{fullShare} f)) : sProp 𝕄) := by
  unfold dn1 td1 bars
  rw [bigSep_sep', bigSep_sep', bigSep_sep', bPts_split Λv d 1 0 ⟨by decide, rfl⟩]
  simp only [Fin.val_castLE]
  iintro ⟨⟨Hb, Ho, Hs, Ha⟩, Hr⟩
  isplitr [Hs]; swap; · iapply (join_any (ℓ := shLoc1 d c) parts_col (fun _ => zf)) $$ Hs
  isplitl [Hb Hr]; · isplitl [Hb] <;> iassumption
  isplitl [Ho]; · iapply (join_ex (ℓ := oLoc1 d) parts_o (fun _ => zf) (OUTk Λv d)) $$ Ho
  iexact Ha

/-- A buffer of the sequencer's own, at some contents, and the rest. -/
theorem ownBufs_erase (d : Dev nD) (c : Fin τ.nSC) (b : DevRef τ sig) (h : b ∈ ownRefs (τ := τ) (sig := sig) (.scScalar c)) :
    (ownBufs (S d c) : sProp 𝕄)
      = iprop((∃ f, ((d, b) : Loc nD τ sig) ↦{fullShare} f) ∗ bigSep ((ownRefs (τ := τ) (.scScalar c)).erase b) fun b => iprop(∃ f, ((d, b) : Loc nD τ sig) ↦{fullShare} f)) := by
  unfold SparseCore.Cfg.ownBufs
  exact SparseCore.bigSep_erase' h

/-- A call splits into its tiles' shares and gathers from them, given how its operands and its shared scratch `b` do. -/
theorem split_of (d : Dev nD) (c : Fin τ.nSC) (b : DevRef τ sig) (h : b ∈ ownRefs (τ := τ) (sig := sig) (.scScalar c))
    (st go td dn aside : sProp 𝕄) (hd : iprop(st ∗ ∃ f, ((d, b) : Loc nD τ sig) ↦{fullShare} f) ⊢ iprop(go ∗ aside))
    (hg : iprop(td ∗ aside) ⊢ iprop(dn ∗ ∃ f, ((d, b) : Loc nD τ sig) ↦{fullShare} f)) :
    iprop(st ∗ ownBufs (S d c)) ⊢ |={Set.univ}=> (iprop(go ∗ (td -∗ iprop(dn ∗ ownBufs (S d c)))) : sProp 𝕄) := by
  rw [ownBufs_erase d c b h]
  iintro ⟨Hst, Hb, Hrest⟩
  ihave H := hd $$ [Hst Hb]
  · isplitl [Hst] <;> iassumption
  icases H with ⟨Hgo, Has⟩
  imodintro
  isplitl [Hgo]; · iexact Hgo
  iintro Htd
  ihave H := hg $$ [Htd Has]
  · isplitl [Htd] <;> iassumption
  icases H with ⟨Hdn, Hb⟩
  isplitl [Hdn]; · iexact Hdn
  isplitl [Hb] <;> iassumption

theorem vecSplit0 : (K (F := F)).VecSplit (P Λv) 0 := fun d c =>
  split_of d (core0 c) (shRef0 (core0 c)) ((mem_ownRefs (p := Proc.scScalar (core0 c)) (b := shRef0 (core0 c))).mpr rfl)
    (st0 Λv d) (bigSep Finset.univ fun s : Fin 16 => go0 Λv d (core0 c) s.val) (bigSep Finset.univ fun s : Fin 16 => td0 Λv d (core0 c) (s.castLE h16))
    (dn0 Λv d (core0 c)) (bRest Λv 1 d) (deal0 Λv d (core0 c)) (gather0 Λv d (core0 c))
theorem vecSplit1 : (K (F := F)).VecSplit (P Λv) 1 := fun d c =>
  split_of d (core1 c) (shRef1 (core1 c)) ((mem_ownRefs (p := Proc.scScalar (core1 c)) (b := shRef1 (core1 c))).mpr rfl)
    (st1 Λv d (core1 c)) (bigSep Finset.univ fun s : Fin 16 => go1 Λv d (core1 c) s.val (s.castLE h16)) (bigSep Finset.univ fun s : Fin 16 => td1 Λv d (core1 c) (s.castLE h16))
    (dn1 Λv d (core1 c)) (bRest Λv 0 d) (deal1 Λv d (core1 c)) (gather1 Λv d (core1 c))

end Cert.Proof.SegSum

end
-- ==== Proof.Pipe.lean ====
/-
  The first TensorCore pipeline: a block of 12544 rows of `x` against the row of weights, plus the bias, a column past
  the last row zeroed. What the body leaves in the result's block is a function of the block it finds, whatever that
  block holds past the last row of `x`.
-/
module

public import proofs.«01_k».proof.Proof.Barrier
public import proofs.«01_k».proof.Proof.Gen.KernelIdeal.Points
public import proofs.«01_k».proof.Proof.Gen.KernelIdeal.Skeleton
public import proofs.«01_k».proof.Proof.Gen.KernelIdeal.Launch
public import Idealize.ShloMosaic.Lib.Pipeline.ArrRel
public import Idealize.ShloMosaic.Lib.VecWindow
public import Idealize.ShloMosaic.Lib.Pipeline.ValueKit.Geometry
public import Idealize.ShloMosaic.Lib.Tactic

@[expose] public section

noncomputable section

namespace Cert.Proof.SegSum

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The one index of the bias. -/
def b0 : S1.Idx := fun a => ⟨0, by fin_cases a; decide⟩

theorem eq_b0 (i : S1.Idx) : i = b0 := funext fun a => Fin.ext (by
  fin_cases a; show (i 0).val = 0; have := (i 0).isLt; change (i 0).val < 1 at this; omega)

/-- The first pipeline's body, from the four staging buffers: the three inputs as found, the result's block at the
    payload of what they hold. -/
theorem body0_run (c : Dev nD) (i : grid0.Coords) (M0 : Memref sig .tc .vmem S12544x128 .f32) (h0 : M0.IsWhole)
    (M1 : Memref sig .tc .vmem S1x128 .f32) (h1 : M1.IsWhole) (M2 : Memref sig .tc .smem S1 .f32) (h2 : M2.IsWhole)
    (M3 : Memref sig .tc .vmem S1x1x12544 .f32) (h3 : M3.IsWhole)
    (xb : S12544x128.Idx → Elt F .f32) (w : S1x128.Idx → Elt F .f32) (b : S1.Idx → Elt F .f32) (y : S1x1x12544.Idx → Elt F .f32)
    (E : Set ℕ) (Q : PUnit → sProp 𝕄) :
    iprop(owns (c : Thread nD τ) M0 fullShare xb ∗ owns (c : Thread nD τ) M1 fullShare w ∗ owns (c : Thread nD τ) M2 fullShare b
        ∗ owns (c : Thread nD τ) M3 fullShare y
        ∗ (iprop(owns (c : Thread nD τ) M0 fullShare xb ∗ owns (c : Thread nD τ) M1 fullShare w ∗ owns (c : Thread nD τ) M2 fullShare b
            ∗ owns (c : Thread nD τ) M3 fullShare (k0_pay1 i w xb (b b0))) -∗ Q ⟨⟩))
      ⊢ wp frame (wpE (defs₀ (F := F)) 𝒱₀ (c : Thread nD τ) none) E (cc0_body i M0 h0 M1 h1 M2 h2 M3 h3) Q := by
  rw [cc0_body_eq_skeleton]; unfold cc0_body_skel
  unfold owns
  iintro ⟨⟨%f0, %e0, H0⟩, ⟨%f1, %e1, H1⟩, ⟨%f2, %e2, H2⟩, ⟨%f3, %e3, H3⟩, Hk⟩
  sl_exec
  sl_step
  iapply Hk
  subst e0 e1 e2
  isplitl [H0]; · iexists f0; isplitr; · (ipureintro; rfl)
                  iexact H0
  isplitl [H1]; · iexists f1; isplitr; · (ipureintro; rfl)
                  iexact H1
  isplitl [H2]; · iexists f2; isplitr; · (ipureintro; rfl)
                  iexact H2
  iexists _
  isplitr [H3]
  rotate_left
  · iexact H3
  ipureintro
  refine (View.read_writes_full (s := S1x1x12544) M3.view f3 inb_S1x1x12544_S1x1x12544_0_0_0 _ []).trans ?_
  refine congr (congr (congrArg (k0_pay1 i) ?_) ?_) ?_
  · exact View.readAt_full (s := S1x128) M1.view f1 inb_S1x128_S1x128_0_0
  · exact View.readAt_full (s := S12544x128) M0.view f0 inb_S12544x128_S12544x128_0_0
  · exact congrArg (M2.view.read (Elt F) f2) (eq_b0 _)

/-! ## The first region -/

/-- What a pipeline reads — the rows, the weights, the bias — and what its result holds before it runs. -/
structure PIn (F : FTy → Type) where
  x : Dev nD → S100000x128.Idx → Elt F .f32
  w : Dev nD → S1x128.Idx → Elt F .f32
  b : Dev nD → S1.Idx → Elt F .f32
  y : Dev nD → S4x1x12544.Idx → Elt F .f32

variable (I : PIn F)

/-- No pipeline has a prefetched table. -/
abbrev adm : (p : Fin 2) → (pcfgs (F := F) p).Adm := fun p => (cfgs p).toPCfg_adm

/-- The block of `x` the first pipeline finds at point `t`, `e` whatever it finds past the last row. -/
def xBlk0 (d : Dev nD) (t : Fin cfg0.N) (e : S12544x128.Idx → Elt F .f32) : S12544x128.Idx → Elt F .f32 :=
  (cfg0.win 0).fill (cfg0.grid.coords t) e (((cfg0.win 0).blk t).view.read (Elt F) (I.x d))

/-- What the first pipeline's body leaves in the result's block at point `t`. -/
def outOK0 (d : Dev nD) (t : Fin cfg0.N) (X : S1x1x12544.Idx → Elt F .f32) : Prop :=
  ∃ e, X = k0_pay1 (grid0.coords t) (I.w d) (xBlk0 I d t e) (I.b d b0)

/-- A place of the result, in its block. -/
def inBlk (i : S4x1x12544.Idx) : S1x1x12544.Idx := fun a => match a with | 0 => ⟨0, by decide⟩ | 1 => ⟨0, by decide⟩ | 2 => i 2

/-- What the first pipeline's result may be. -/
def yRes0 (d : Dev nD) (G : S4x1x12544.Idx → Elt F .f32) : Prop :=
  ∀ i, ∃ (t : Fin cfg0.N) (X : S1x1x12544.Idx → Elt F .f32), t.val = (i 0).val ∧ outOK0 I d t X ∧ G i = X (inBlk i)

/-- The first pipeline's data: the inputs stay as found, the result's block is in `outOK0`; the TensorCore owes what it
    owes the SparseCores at call `n`. -/
def rdat0 (n : ℕ) (c : Dev nD) : Pipeline.RDat τ (Elt F) (HIx 2) ℕ UU ℕ cfg0 c where
  A w := match w with
    | ⟨0, _⟩ => I.x c
    | ⟨1, _⟩ => I.w c
    | ⟨2, _⟩ => I.b c
    | ⟨3, _⟩ => I.y c
  after w t Y X := match w with
    | ⟨0, _⟩ => X = Y
    | ⟨1, _⟩ => X = Y
    | ⟨2, _⟩ => X = Y
    | ⟨3, _⟩ => outOK0 I c t X
  Φ _ := Pipeline.scopedRest (Ix := HIx 2) (Name := ℕ) (U := UU) (Lvl := ℕ) (Val := Elt F) spec0 c
  q _ := fullShare
  owed _ := (K (F := F)).Otc c n
  recorded _ := {p | (K (F := F)).lev (T c, p.1) p.2 ≤ 8 * n}

variable (n : ℕ)

/-- What the TensorCore owes the SparseCores is never at the index its own waits take. -/
theorem Otc_none (d : Dev nD) (g : GSem nD τ sig) : (K (F := F)).Otc d n g none = 0 := by
  by_contra h
  have := SparseCore.Cfg.lev_of_Otc_pos (K := K (F := F)) (d := d) (n := n) (g := g) (ι := none) (Nat.pos_of_ne_zero h)
  rw [SparseCore.Cfg.lev_none] at this
  omega

/-- Windows 1 and 2 hold their whole arrays whenever the body runs. -/
theorem finds0_1 (c : Dev nD) (t : Fin cfg0.N) (Y) (h : (rdat0 I n c).Finds 1 t Y) : Y = I.w c := by
  obtain ⟨d, rfl⟩ := Pipeline.RDat.finds_in_eq_fetched (rdat0 I n c) 1 rfl (fun _ _ _ => rfl) (fun _ _ _ h => h) t Y h
  funext j
  show (cfg0.win 1).fill (cfg0.grid.coords t) d (((cfg0.win 1).blk t).view.read (Elt F) (I.w c)) j = _
  unfold Pipeline.Window.fill
  rw [dif_pos (((cfg0.win 1).moved_iff _ j).mpr fun a => (j a).isLt)]
  exact congrArg (I.w c) (funext fun a => Fin.ext (Pipeline.Window.rect_emb_val_of_index_zero (cfg0.win 1) t a (by fin_cases a <;> rfl) _))
theorem finds0_2 (c : Dev nD) (t : Fin cfg0.N) (Y) (h : (rdat0 I n c).Finds 2 t Y) : Y = I.b c := by
  obtain ⟨d, rfl⟩ := Pipeline.RDat.finds_in_eq_fetched (rdat0 I n c) 2 rfl (fun _ _ _ => rfl) (fun _ _ _ h => h) t Y h
  funext j
  show (cfg0.win 2).fill (cfg0.grid.coords t) d (((cfg0.win 2).blk t).view.read (Elt F) (I.b c)) j = _
  unfold Pipeline.Window.fill
  rw [dif_pos (((cfg0.win 2).moved_iff _ j).mpr fun a => (j a).isLt)]
  exact congrArg (I.b c) (funext fun a => Fin.ext (Pipeline.Window.rect_emb_val_of_index_zero (cfg0.win 2) t a (by fin_cases a; rfl) _))

theorem body0_obligation (c : Dev nD) : (rdat0 I n c).BodyObligation (defs₀ (F := F)) 𝒱₀ none Set.univ := fun t Y hY => by
  obtain ⟨e, he⟩ := ((rdat0 I n c).finds_of_fetch (fetch0_0 t) _).mp (hY 0)
  have hw := finds0_1 I n c t _ (hY 1)
  have hb := finds0_2 I n c t _ (hY 2)
  rw [bigSep_W0, bigSep_W0]
  rw [show (rdat0 I n c).Φ t.succ = (rdat0 I n c).Φ t.castSucc from rfl,
    show (rdat0 I n c).owesAt none t.succ = (rdat0 I n c).owesAt none t.castSucc from rfl]
  iintro ⟨HΦ, HO, H0, H1, H2, H3⟩
  iapply (body0_run c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (Y 0) (Y 1) (Y 2) (Y 3) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]
  · iexists Y 0; isplitr; · (ipureintro; rfl)
    iexact H0
  isplitl [H1]
  · iexists Y 1; isplitr; · (ipureintro; rfl)
    iexact H1
  isplitl [H2]
  · iexists Y 2; isplitr; · (ipureintro; rfl)
    iexact H2
  iexists k0_pay1 (grid0.coords t) (Y 1) (Y 0) (Y 2 b0)
  isplitr; · (ipureintro; exact ⟨e, by rw [hw, hb, he]; rfl⟩)
  iexact H3

/-- What the region leaves of the result's array: each element is what the body left in its block. -/
theorem yRes0_of_arrAt (c : Dev nD) (G : S4x1x12544.Idx → Elt F .f32) (h : (rdat0 I n c).ArrAt 3 cfg0.N G) : yRes0 I c G := by
  obtain ⟨X, hX, hA⟩ := h.exists_exact
  have e := hA (Function.update (fun _ _ _ => Classical.arbitrary _) 3 X) fun u _ _ => by rw [Function.update_self]
  rw [e]
  intro i
  refine Pipeline.Dat.arrAt_forall_of_covers ((rdat0 I n c).withAfter _) 3
    (fun (i : S4x1x12544.Idx) v => ∃ (t : Fin cfg0.N) (X : S1x1x12544.Idx → Elt F .f32), t.val = (i 0).val ∧ outOK0 I c t X ∧ v = X (inBlk i))
    (by decide +kernel) (fun t hf y => ?_) i
  obtain ⟨Y, -, hY⟩ := hX t t.isLt hf
  have hi : ∀ a, ((((cfg0.win 3).blk t).view.emb y a).val : ℕ) = (cfg0.win 3).index t a * (cfg0.win 3).size a + (y a).val := fun a =>
    Pipeline.Window.rect_emb_val (cfg0.win 3) t y a
  have hx : ∀ t : Fin cfg0.N, (cfg0.win 3).index t 0 = t.val ∧ (cfg0.win 3).index t 1 = 0 ∧ (cfg0.win 3).index t 2 = 0 := by decide +kernel
  have hy0 : (y 0).val = 0 := by have := (y 0).isLt; change (y 0).val < 1 at this; omega
  have hy1 : (y 1).val = 0 := by have := (y 1).isLt; change (y 1).val < 1 at this; omega
  refine ⟨t, X t, ?_, hY, ?_⟩
  · rw [hi, (hx t).1, hy0]; show t.val = t.val * 1 + 0; omega
  · rw [Pipeline.RDat.withAfter_after, Function.update_self]
    refine congrArg (X t) (funext fun a => Fin.ext ?_)
    fin_cases a
    · exact hy0
    · exact hy1
    · refine Eq.trans ?_ (hi 2).symm
      rw [(hx t).2.2]; show (y 2).val = 0 * 12544 + (y 2).val; omega

end Cert.Proof.SegSum

end
-- ==== Proof.Pipe2.lean ====
/-
  The second TensorCore pipeline: the blocks of rows the first one leaves, the last of them only partly inside `x`.
-/
module

public import proofs.«01_k».proof.Proof.Pipe
public import proofs.«01_k».proof.Proof.Gen.KernelIdeal.Points
public import proofs.«01_k».proof.Proof.Gen.KernelIdeal.Skeleton
public import proofs.«01_k».proof.Proof.Gen.KernelIdeal.Launch
public import Idealize.ShloMosaic.Lib.Pipeline.ArrRel
public import Idealize.ShloMosaic.Lib.VecWindow
public import Idealize.ShloMosaic.Lib.Pipeline.ValueKit.Geometry
public import Idealize.ShloMosaic.Lib.Tactic

@[expose] public section

noncomputable section

namespace Cert.Proof.SegSum

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The second pipeline's body, from the four staging buffers: the three inputs as found, the result's block at the
    payload of what they hold. -/
theorem body2_run (c : Dev nD) (i : grid2.Coords) (M0 : Memref sig .tc .vmem S12544x128 .f32) (h0 : M0.IsWhole)
    (M1 : Memref sig .tc .vmem S1x128 .f32) (h1 : M1.IsWhole) (M2 : Memref sig .tc .smem S1 .f32) (h2 : M2.IsWhole)
    (M3 : Memref sig .tc .vmem S1x1x12544 .f32) (h3 : M3.IsWhole)
    (xb : S12544x128.Idx → Elt F .f32) (w : S1x128.Idx → Elt F .f32) (b : S1.Idx → Elt F .f32) (y : S1x1x12544.Idx → Elt F .f32)
    (E : Set ℕ) (Q : PUnit → sProp 𝕄) :
    iprop(owns (c : Thread nD τ) M0 fullShare xb ∗ owns (c : Thread nD τ) M1 fullShare w ∗ owns (c : Thread nD τ) M2 fullShare b
        ∗ owns (c : Thread nD τ) M3 fullShare y
        ∗ (iprop(owns (c : Thread nD τ) M0 fullShare xb ∗ owns (c : Thread nD τ) M1 fullShare w ∗ owns (c : Thread nD τ) M2 fullShare b
            ∗ owns (c : Thread nD τ) M3 fullShare (k2_pay1 i w xb (b b0))) -∗ Q ⟨⟩))
      ⊢ wp frame (wpE (defs₀ (F := F)) 𝒱₀ (c : Thread nD τ) none) E (cc2_body i M0 h0 M1 h1 M2 h2 M3 h3) Q := by
  rw [cc2_body_eq_skeleton]; unfold cc2_body_skel
  unfold owns
  iintro ⟨⟨%f0, %e0, H0⟩, ⟨%f1, %e1, H1⟩, ⟨%f2, %e2, H2⟩, ⟨%f3, %e3, H3⟩, Hk⟩
  sl_exec
  sl_step
  iapply Hk
  subst e0 e1 e2
  isplitl [H0]; · iexists f0; isplitr; · (ipureintro; rfl)
                  iexact H0
  isplitl [H1]; · iexists f1; isplitr; · (ipureintro; rfl)
                  iexact H1
  isplitl [H2]; · iexists f2; isplitr; · (ipureintro; rfl)
                  iexact H2
  iexists _
  isplitr [H3]
  rotate_left
  · iexact H3
  ipureintro
  refine (View.read_writes_full (s := S1x1x12544) M3.view f3 inb_S1x1x12544_S1x1x12544_0_0_0 _ []).trans ?_
  refine congr (congr (congrArg (k2_pay1 i) ?_) ?_) ?_
  · exact View.readAt_full (s := S1x128) M1.view f1 inb_S1x128_S1x128_0_0
  · exact View.readAt_full (s := S12544x128) M0.view f0 inb_S12544x128_S12544x128_0_0
  · exact congrArg (M2.view.read (Elt F) f2) (eq_b0 _)

variable (I : PIn F)

/-- The block of `x` the second pipeline finds at point `t`, `e` whatever it finds past the last row. -/
def xBlk2 (d : Dev nD) (t : Fin cfg2.N) (e : S12544x128.Idx → Elt F .f32) : S12544x128.Idx → Elt F .f32 :=
  (cfg2.win 0).fill (cfg2.grid.coords t) e (((cfg2.win 0).blk t).view.read (Elt F) (I.x d))

/-- What the second pipeline's body leaves in the result's block at point `t`. -/
def outOK2 (d : Dev nD) (t : Fin cfg2.N) (X : S1x1x12544.Idx → Elt F .f32) : Prop :=
  ∃ e, X = k2_pay1 (grid2.coords t) (I.w d) (xBlk2 I d t e) (I.b d b0)

/-- What the second pipeline's result may be. -/
def yRes2 (d : Dev nD) (G : S4x1x12544.Idx → Elt F .f32) : Prop :=
  ∀ i, ∃ (t : Fin cfg2.N) (X : S1x1x12544.Idx → Elt F .f32), t.val = (i 0).val ∧ outOK2 I d t X ∧ G i = X (inBlk i)

/-- The second pipeline's data: the inputs stay as found, the result's block is in `outOK2`; the TensorCore owes what it
    owes the SparseCores at call `n`. -/
def rdat2 (n : ℕ) (c : Dev nD) : Pipeline.RDat τ (Elt F) (HIx 2) ℕ UU ℕ cfg2 c where
  A w := match w with
    | ⟨0, _⟩ => I.x c
    | ⟨1, _⟩ => I.w c
    | ⟨2, _⟩ => I.b c
    | ⟨3, _⟩ => I.y c
  after w t Y X := match w with
    | ⟨0, _⟩ => X = Y
    | ⟨1, _⟩ => X = Y
    | ⟨2, _⟩ => X = Y
    | ⟨3, _⟩ => outOK2 I c t X
  Φ _ := Pipeline.scopedRest (Ix := HIx 2) (Name := ℕ) (U := UU) (Lvl := ℕ) (Val := Elt F) spec2 c
  q _ := fullShare
  owed _ := (K (F := F)).Otc c n
  recorded _ := {p | (K (F := F)).lev (T c, p.1) p.2 ≤ 8 * n}

variable (n : ℕ)

/-- Windows 1 and 2 hold their whole arrays whenever the body runs. -/
theorem finds2_1 (c : Dev nD) (t : Fin cfg2.N) (Y) (h : (rdat2 I n c).Finds 1 t Y) : Y = I.w c := by
  obtain ⟨d, rfl⟩ := Pipeline.RDat.finds_in_eq_fetched (rdat2 I n c) 1 rfl (fun _ _ _ => rfl) (fun _ _ _ h => h) t Y h
  funext j
  show (cfg2.win 1).fill (cfg2.grid.coords t) d (((cfg2.win 1).blk t).view.read (Elt F) (I.w c)) j = _
  unfold Pipeline.Window.fill
  rw [dif_pos (((cfg2.win 1).moved_iff _ j).mpr fun a => (j a).isLt)]
  exact congrArg (I.w c) (funext fun a => Fin.ext (Pipeline.Window.rect_emb_val_of_index_zero (cfg2.win 1) t a (by fin_cases a <;> rfl) _))
theorem finds2_2 (c : Dev nD) (t : Fin cfg2.N) (Y) (h : (rdat2 I n c).Finds 2 t Y) : Y = I.b c := by
  obtain ⟨d, rfl⟩ := Pipeline.RDat.finds_in_eq_fetched (rdat2 I n c) 2 rfl (fun _ _ _ => rfl) (fun _ _ _ h => h) t Y h
  funext j
  show (cfg2.win 2).fill (cfg2.grid.coords t) d (((cfg2.win 2).blk t).view.read (Elt F) (I.b c)) j = _
  unfold Pipeline.Window.fill
  rw [dif_pos (((cfg2.win 2).moved_iff _ j).mpr fun a => (j a).isLt)]
  exact congrArg (I.b c) (funext fun a => Fin.ext (Pipeline.Window.rect_emb_val_of_index_zero (cfg2.win 2) t a (by fin_cases a; rfl) _))

theorem body2_obligation (c : Dev nD) : (rdat2 I n c).BodyObligation (defs₀ (F := F)) 𝒱₀ none Set.univ := fun t Y hY => by
  obtain ⟨e, he⟩ := ((rdat2 I n c).finds_of_fetch (fetch2_0 t) _).mp (hY 0)
  have hw := finds2_1 I n c t _ (hY 1)
  have hb := finds2_2 I n c t _ (hY 2)
  rw [bigSep_W2, bigSep_W2]
  rw [show (rdat2 I n c).Φ t.succ = (rdat2 I n c).Φ t.castSucc from rfl,
    show (rdat2 I n c).owesAt none t.succ = (rdat2 I n c).owesAt none t.castSucc from rfl]
  iintro ⟨HΦ, HO, H0, H1, H2, H3⟩
  iapply (body2_run c (grid2.coords t) (st2_0 t) (hstage2_0 ((cfg2.slots t 0).cast nbuf2_0)) (st2_1 t) (hstage2_1 ((cfg2.slots t 1).cast nbuf2_1))
    (st2_2 t) (hstage2_2 ((cfg2.slots t 2).cast nbuf2_2)) (st2_3 t) (hstage2_3 ((cfg2.slots t 3).cast nbuf2_3)) (Y 0) (Y 1) (Y 2) (Y 3) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]
  · iexists Y 0; isplitr; · (ipureintro; rfl)
    iexact H0
  isplitl [H1]
  · iexists Y 1; isplitr; · (ipureintro; rfl)
    iexact H1
  isplitl [H2]
  · iexists Y 2; isplitr; · (ipureintro; rfl)
    iexact H2
  iexists k2_pay1 (grid2.coords t) (Y 1) (Y 0) (Y 2 b0)
  isplitr; · (ipureintro; exact ⟨e, by rw [hw, hb, he]; rfl⟩)
  iexact H3

/-- What the region leaves of the result's array: each element is what the body left in its block. -/
theorem yRes2_of_arrAt (c : Dev nD) (G : S4x1x12544.Idx → Elt F .f32) (h : (rdat2 I n c).ArrAt 3 cfg2.N G) : yRes2 I c G := by
  obtain ⟨X, hX, hA⟩ := h.exists_exact
  have e := hA (Function.update (fun _ _ _ => Classical.arbitrary _) 3 X) fun u _ _ => by rw [Function.update_self]
  rw [e]
  intro i
  refine Pipeline.Dat.arrAt_forall_of_covers ((rdat2 I n c).withAfter _) 3
    (fun (i : S4x1x12544.Idx) v => ∃ (t : Fin cfg2.N) (X : S1x1x12544.Idx → Elt F .f32), t.val = (i 0).val ∧ outOK2 I c t X ∧ v = X (inBlk i))
    (by decide +kernel) (fun t hf y => ?_) i
  obtain ⟨Y, -, hY⟩ := hX t t.isLt hf
  have hi : ∀ a, ((((cfg2.win 3).blk t).view.emb y a).val : ℕ) = (cfg2.win 3).index t a * (cfg2.win 3).size a + (y a).val := fun a =>
    Pipeline.Window.rect_emb_val (cfg2.win 3) t y a
  have hx : ∀ t : Fin cfg2.N, (cfg2.win 3).index t 0 = t.val ∧ (cfg2.win 3).index t 1 = 0 ∧ (cfg2.win 3).index t 2 = 0 := by decide +kernel
  have hy0 : (y 0).val = 0 := by have := (y 0).isLt; change (y 0).val < 1 at this; omega
  have hy1 : (y 1).val = 0 := by have := (y 1).isLt; change (y 1).val < 1 at this; omega
  refine ⟨t, X t, ?_, hY, ?_⟩
  · rw [hi, (hx t).1, hy0]; show t.val = t.val * 1 + 0; omega
  · rw [Pipeline.RDat.withAfter_after, Function.update_self]
    refine congrArg (X t) (funext fun a => Fin.ext ?_)
    fin_cases a
    · exact hy0
    · exact hy1
    · refine Eq.trans ?_ (hi 2).symm
      rw [(hx t).2.2]; show (y 2).val = 0 * 12544 + (y 2).val; omega

end Cert.Proof.SegSum

end
-- ==== Proof.Regions.lean ====
/-
  The two TensorCore pipelines as steps of @main: each takes its arrays and leaves its result at contents its bodies may
  have left, the TensorCore owing the SparseCores what it owed.
-/
module

public import proofs.«01_k».proof.Proof.Pipe2
public import proofs.«01_k».proof.Proof.Gen.KernelIdeal.Points
public import proofs.«01_k».proof.Proof.Gen.KernelIdeal.Skeleton
public import proofs.«01_k».proof.Proof.Gen.KernelIdeal.Launch
public import Idealize.ShloMosaic.Lib.Pipeline.ArrRel
public import Idealize.ShloMosaic.Lib.VecWindow
public import Idealize.ShloMosaic.Lib.Pipeline.ValueKit.Geometry
public import Idealize.ShloMosaic.Lib.Tactic

@[expose] public section

noncomputable section

namespace Cert.Proof.SegSum

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (I0 I1 : PIn F)

/-- What a pipeline reads, at the TensorCore. -/
def ins (I : PIn F) (c : Dev nD) : sProp 𝕄 :=
  iprop(((SparseCore.T c).loc main_arg0 ↦{fullShare} (I.x c : S100000x128.Idx → Elt F .f32))
    ∗ ((SparseCore.T c).loc main_v0 ↦{fullShare} (I.w c : S1x128.Idx → Elt F .f32))
    ∗ ((SparseCore.T c).loc main_arg3 ↦{fullShare} (I.b c : S1.Idx → Elt F .f32)))

/-- What the TensorCore owes before call `n`, every wait it has recorded below it. -/
def tcOwes (n : ℕ) (c : Dev nD) : sProp 𝕄 :=
  iprop(∃ W, ⌜(K (F := F)).WBelow (SparseCore.T c) W (8 * n)⌝ ∗ owes (SparseCore.T c) ((K (F := F)).Otc c n) W)

/-- The two pipelines' data. -/
def rdats : (p : Fin 2) → (c : Dev nD) → Pipeline.RDat τ (Elt F) (HIx 2) ℕ UU ℕ (Pipeline.pin (pcfgs (F := F)) adm p) c
  | ⟨0, _⟩ => fun c => rdat0 I0 0 c
  | ⟨1, _⟩ => fun c => rdat2 I1 1 c

/-- The first pipeline's waits come before everything the TensorCore owes. -/
theorem waits0 (c : Dev nD) : (levAts (K (F := F)).L (K (F := F)).lev : sProp 𝕄)
    ⊢ Pipeline.RDat.cellsWaits (Pipeline.pin (pcfgs (F := F)) adm) (rdats I0 I1) none 0 c := by
  refine Pipeline.RDat.cellsWaits_intro (Pipeline.pin (pcfgs (F := F)) adm) (rdats I0 I1) none 0 c fun w s t => ?_
  exact (K (F := F)).mayWait_none (thr := SparseCore.T c) _ (O := (K (F := F)).Otc c 0) (fun g => Otc_none 0 c g)

set_option backward.isDefEq.respectTransparency.types false in
/-- The first pipeline as a step. -/
def reg0 : Pipeline.RDat.RegionSeg (pcfgs (F := F)) adm (rdats I0 I1) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := body0_obligation I0 0 c
  hwaits c := waits0 I0 I1 c
  pre c := iprop(ins I0 c ∗ ((SparseCore.T c).loc main_v1 ↦{fullShare} (I0.y c : S4x1x12544.Idx → Elt F .f32)) ∗ tcOwes 0 c)
  post c := iprop(ins I0 c ∗ (∃ G : S4x1x12544.Idx → Elt F .f32, ⌜yRes0 I0 c G⌝ ∗ ((SparseCore.T c).loc main_v1 ↦{fullShare} G)) ∗ tcOwes 0 c)
  X _ := BI.emp
  Y _ := BI.emp
  Z _ := BI.emp
  hentry c := by
    rw [Pipeline.ownSems0_none, Pipeline.RDat.arrays_eq (p := 0) (pcfgs (F := F)) adm (rdats I0 I1) c launch0.arr_whole ((rdat0 I0 0 c).share_full fun _ => rfl), bigSep_W0]
    unfold ins tcOwes
    iintro ⟨⟨⟨Hx, Hw, Hb⟩, Hy, HO⟩, -, -⟩
    imodintro
    isplitl [Hx Hw Hb Hy]
    · isplitl [Hx]; · iexact Hx
      isplitl [Hw]; · iexact Hw
      isplitl [Hb]; · iexact Hb
      iexact Hy
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, %hW, HO⟩; iexists W; isplitr; · ipureintro; exact fun q hq => Or.inl (hW q hq)
      iexact HO
    isplitr; · iempintro
    iempintro
  hin c := by
    rw [show (rdats I0 I1 0 c).Φ 0 = Pipeline.scopedRest spec0 c from rfl]
    iintro ⟨-, -, Hr⟩; iexact Hr
  hout c := by
    rw [Pipeline.ownSems0_none, show (rdats I0 I1 0 c).Φ (Fin.last _) = Pipeline.scopedRest spec0 c from rfl]
    iintro Hr
    isplitr; · iempintro
    isplitr; · iempintro
    iexact Hr
  hexit c := by
    rw [Pipeline.RDat.arraysAt_eq (p := 0) (pcfgs (F := F)) adm (rdats I0 I1) c launch0.arr_whole ((rdat0 I0 0 c).share_full fun _ => rfl), bigSep_W0]
    iintro ⟨⟨⟨%fx, %ex, Hx⟩, ⟨%fw, %ew, Hw⟩, ⟨%fb, %eb, Hb⟩, ⟨%G, %hG, Hy⟩⟩, HO, -, -⟩
    rw [Pipeline.RDat.ArrAt_in _ 0 rfl] at ex
    rw [Pipeline.RDat.ArrAt_in _ 1 rfl] at ew
    rw [Pipeline.RDat.ArrAt_in _ 2 rfl] at eb
    subst ex ew eb
    unfold ins tcOwes
    imodintro
    isplitl [Hx Hw Hb]
    · isplitl [Hx]; · iexact Hx
      isplitl [Hw]; · iexact Hw
      iexact Hb
    isplitl [Hy]
    · iexists G; isplitr; · (ipureintro; exact yRes0_of_arrAt I0 0 c G hG)
      iexact Hy
    unfold Pipeline.RDat.owesAt Pipeline.owesWithin
    icases HO with ⟨%W, %hW, HO⟩; iexists W; isplitr
    · ipureintro
      intro q hq
      rcases hW hq with h | ⟨w, s, h⟩
      · exact h
      · rw [h]; exact (SparseCore.Cfg.lev_none (K := K (F := F)) _).le.trans (Nat.zero_le _)
    iexact HO

/-- The first pipeline's call in @main. -/
theorem wp_reg0 (c : Dev nD) (Q : PUnit → sProp 𝕄) :
    iprop((iprop(boundary (c.tc : Thread nD τ) ∗ (reg0 I0 I1).post c) -∗ Q ⟨⟩)
        ∗ boundary (c.tc : Thread nD τ) ∗ (reg0 I0 I1).pre c ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE ((K (F := F)).defs (D (F := F))) 𝒱 (SparseCore.T c) none) Set.univ
          (Prog.lift (.customCall (SparseCore.inner (Pipeline.entry 0)) ())) Q := by
  have h1 : wp frame (wpE (D (F := F)) 𝒱 (SparseCore.T c) none) Set.univ (.op (.customCall (Pipeline.entry 0 : (ΛP (F := F)).Label) ()) .ret) Q
      ⊢ wp frame (wpE ((K (F := F)).defs (D (F := F))) 𝒱 (SparseCore.T c) none) Set.univ
          (Prog.lift (.customCall (SparseCore.inner (Pipeline.entry 0)) ())) Q :=
    (K (F := F)).wp_liftProg (D (F := F)) 𝒱 (SparseCore.T c) Set.univ none (.op (.customCall (Pipeline.entry 0 : (ΛP (F := F)).Label) ()) .ret) Q
  have h2 := Pipeline.RDat.RegionSeg.wp (pcfgs (F := F)) adm (rdats I0 I1) none cellOf_inj EP defs₀ 𝒱₀ (K (F := F)).L (K (F := F)).lev (reg0 I0 I1) c none
    (fun u hu => nomatch hu) (fun x => .ret x) Q
  refine BIBase.Entails.trans ?_ (BIBase.Entails.trans h2 h1)
  refine sep_mono_left (wand_mono .rfl ?_)
  exact le_wp_ret _ _ _ _ _

/-- The second pipeline's waits come before everything the TensorCore owes. -/
theorem waits2 (c : Dev nD) : (levAts (K (F := F)).L (K (F := F)).lev : sProp 𝕄)
    ⊢ Pipeline.RDat.cellsWaits (Pipeline.pin (pcfgs (F := F)) adm) (rdats I0 I1) none 1 c := by
  refine Pipeline.RDat.cellsWaits_intro (Pipeline.pin (pcfgs (F := F)) adm) (rdats I0 I1) none 1 c fun w s t => ?_
  exact (K (F := F)).mayWait_none (thr := SparseCore.T c) _ (O := (K (F := F)).Otc c 1) (fun g => Otc_none 1 c g)

set_option backward.isDefEq.respectTransparency.types false in
/-- The second pipeline as a step. -/
def reg2 : Pipeline.RDat.RegionSeg (pcfgs (F := F)) adm (rdats I0 I1) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := body2_obligation I1 1 c
  hwaits c := waits2 I0 I1 c
  pre c := iprop(ins I1 c ∗ ((SparseCore.T c).loc main_v4 ↦{fullShare} (I1.y c : S4x1x12544.Idx → Elt F .f32)) ∗ tcOwes 1 c)
  post c := iprop(ins I1 c ∗ (∃ G : S4x1x12544.Idx → Elt F .f32, ⌜yRes2 I1 c G⌝ ∗ ((SparseCore.T c).loc main_v4 ↦{fullShare} G)) ∗ tcOwes 1 c)
  X _ := BI.emp
  Y _ := BI.emp
  Z _ := BI.emp
  hentry c := by
    rw [Pipeline.ownSems0_none, Pipeline.RDat.arrays_eq (p := 1) (pcfgs (F := F)) adm (rdats I0 I1) c launch2.arr_whole ((rdat2 I1 1 c).share_full fun _ => rfl), bigSep_W2]
    unfold ins tcOwes
    iintro ⟨⟨⟨Hx, Hw, Hb⟩, Hy, HO⟩, -, -⟩
    imodintro
    isplitl [Hx Hw Hb Hy]
    · isplitl [Hx]; · iexact Hx
      isplitl [Hw]; · iexact Hw
      isplitl [Hb]; · iexact Hb
      iexact Hy
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, %hW, HO⟩; iexists W; isplitr; · ipureintro; exact fun q hq => Or.inl (hW q hq)
      iexact HO
    isplitr; · iempintro
    iempintro
  hin c := by
    rw [show (rdats I0 I1 1 c).Φ 0 = Pipeline.scopedRest spec2 c from rfl]
    iintro ⟨-, -, Hr⟩; iexact Hr
  hout c := by
    rw [Pipeline.ownSems0_none, show (rdats I0 I1 1 c).Φ (Fin.last _) = Pipeline.scopedRest spec2 c from rfl]
    iintro Hr
    isplitr; · iempintro
    isplitr; · iempintro
    iexact Hr
  hexit c := by
    rw [Pipeline.RDat.arraysAt_eq (p := 1) (pcfgs (F := F)) adm (rdats I0 I1) c launch2.arr_whole ((rdat2 I1 1 c).share_full fun _ => rfl), bigSep_W2]
    iintro ⟨⟨⟨%fx, %ex, Hx⟩, ⟨%fw, %ew, Hw⟩, ⟨%fb, %eb, Hb⟩, ⟨%G, %hG, Hy⟩⟩, HO, -, -⟩
    rw [Pipeline.RDat.ArrAt_in _ 0 rfl] at ex
    rw [Pipeline.RDat.ArrAt_in _ 1 rfl] at ew
    rw [Pipeline.RDat.ArrAt_in _ 2 rfl] at eb
    subst ex ew eb
    unfold ins tcOwes
    imodintro
    isplitl [Hx Hw Hb]
    · isplitl [Hx]; · iexact Hx
      isplitl [Hw]; · iexact Hw
      iexact Hb
    isplitl [Hy]
    · iexists G; isplitr; · (ipureintro; exact yRes2_of_arrAt I1 1 c G hG)
      iexact Hy
    unfold Pipeline.RDat.owesAt Pipeline.owesWithin
    icases HO with ⟨%W, %hW, HO⟩; iexists W; isplitr
    · ipureintro
      intro q hq
      rcases hW hq with h | ⟨w, s, h⟩
      · exact h
      · rw [h]; exact (SparseCore.Cfg.lev_none (K := K (F := F)) _).le.trans (Nat.zero_le _)
    iexact HO

/-- The second pipeline's call in @main. -/
theorem wp_reg2 (c : Dev nD) (Q : PUnit → sProp 𝕄) :
    iprop((iprop(boundary (c.tc : Thread nD τ) ∗ (reg2 I0 I1).post c) -∗ Q ⟨⟩)
        ∗ boundary (c.tc : Thread nD τ) ∗ (reg2 I0 I1).pre c ∗ levAts (K (F := F)).L (K (F := F)).lev
        ∗ Pipeline.cellsGhost (Pipeline.pin (pcfgs (F := F)) adm) EP 1 c ∗ Pipeline.toksInit (Pipeline.pin (pcfgs (F := F)) adm) EP 1 c)
      ⊢ wp frame (wpE ((K (F := F)).defs (D (F := F))) 𝒱 (SparseCore.T c) none) Set.univ
          (Prog.lift (.customCall (SparseCore.inner (Pipeline.entry 1)) ())) Q := by
  have h1 : wp frame (wpE (D (F := F)) 𝒱 (SparseCore.T c) none) Set.univ (.op (.customCall (Pipeline.entry 1 : (ΛP (F := F)).Label) ()) .ret) Q
      ⊢ wp frame (wpE ((K (F := F)).defs (D (F := F))) 𝒱 (SparseCore.T c) none) Set.univ
          (Prog.lift (.customCall (SparseCore.inner (Pipeline.entry 1)) ())) Q :=
    (K (F := F)).wp_liftProg (D (F := F)) 𝒱 (SparseCore.T c) Set.univ none (.op (.customCall (Pipeline.entry 1 : (ΛP (F := F)).Label) ()) .ret) Q
  have h2 := Pipeline.RDat.RegionSeg.wp (pcfgs (F := F)) adm (rdats I0 I1) none cellOf_inj EP defs₀ 𝒱₀ (K (F := F)).L (K (F := F)).lev (reg2 I0 I1) c none
    (fun u hu => nomatch hu) (fun x => .ret x) Q
  refine BIBase.Entails.trans ?_ (BIBase.Entails.trans h2 h1)
  refine sep_mono_left (wand_mono .rfl ?_)
  exact le_wp_ret _ _ _ _ _

end Cert.Proof.SegSum

end
-- ==== Proof.Launch.lean ====
/-
  The launch: the certificate's ghost state, and what it hands every tile (the barrier of both calls) and the
  TensorCore (the pipelines' cells).
-/
module

public import proofs.«01_k».proof.Proof.Split
public import proofs.«01_k».proof.Proof.Regions

@[expose] public section

noncomputable section

namespace Cert.Proof.SegSum

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (Λv : Vals F)

abbrev DCI : Type := Dev nD × Fin τ.nSC × Fin τ.nSub
abbrev bcell₃ (x : DCI) : GSem nD τ sig := bcell x.1 x.2.1 x.2.2

/-- The tiles of the calls: SparseCore 0's. -/
abbrev tiles : Finset DCI := Finset.univ.filter fun x => x.2.1.val < 1
omit [FloatOps F] in
theorem mem_tiles (d : Dev nD) {c : Fin τ.nSC} (hc : c.val < 1) (i : Fin τ.nSub) : ((d, c, i) : DCI) ∈ tiles := Finset.mem_filter.mpr ⟨Finset.mem_univ _, hc⟩
/-- Their barrier cells. -/
def bCells : Finset (GSem nD τ sig) := tiles.image bcell₃
/-- Each tile's tokens in every tile's cell, one per call. -/
def bToks : Finset (GSem nD τ sig × ℕ × ℕ) :=
  (tiles ×ˢ (Finset.univ : Finset (Fin 2 × Fin 16))).image fun x : DCI × (Fin 2 × Fin 16) => (bcell x.1.1 x.1.2.1 (x.2.2.castLE h16), x.2.1.val, x.1.2.2.val)
/-- The certificate's ghost state at the launch. -/
def u₀ : UU :=
  (initOf (K (F := F)).hsCells (K (F := F)).hsToks, (initOf bCells bToks,
    (initOf (Pipeline.cells (Pipeline.pin (pcfgs (F := F)) adm) cellOf_inj) (Pipeline.launchToks (Pipeline.pin (pcfgs (F := F)) adm) cellOf_inj), 1)))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
/-- The ghost state's three parts, each in its own place. -/
theorem ownU_split (a : UH) (b : UB) (p : UP) : (ownU ((a, (b, (p, 1))) : UU) : sProp 𝕄) ⊢ iprop(BI.own (EH a) ∗ BI.own (EB b) ∗ BI.own (EP p)) := by
  have h1 : (ownU ((a, (b, (p, 1))) : UU) : sProp 𝕄) ⊢ iprop(BI.own (EH a) ∗ ownU ((1, (b, (p, 1))) : UU)) :=
    BI.own_op_elim ((uEmb (nD := nD) (sig := sig) (Ix := HIx 2) (Val := Elt F) (Name := ℕ) (U := UU) (Lvl := ℕ)).toEmb.op_of_mem
      (Prod.mk_mem_op (URA.mem_op_one a) (URA.mem_one_op (b, (p, (1 : Counters))))))
  have h2 : (ownU ((1, (b, (p, 1))) : UU) : sProp 𝕄) ⊢ iprop(BI.own (EB b) ∗ BI.own (EP p)) :=
    BI.own_op_elim ((uEmb (nD := nD) (sig := sig) (Ix := HIx 2) (Val := Elt F) (Name := ℕ) (U := UU) (Lvl := ℕ)).toEmb.op_of_mem
      (Prod.mk_mem_op (URA.mem_op_one (1 : UH)) (Prod.mk_mem_op (URA.mem_op_one b) (URA.mem_one_op (p, (1 : Counters))))))
  exact BIBase.Entails.trans h1 (sep_mono_right h2)

/-- Every barrier cell of the tiles at zero, out of the semaphores the launch hands over. -/
theorem sems_b : ((K (F := F)).freeOn (· ∈ bCells) : sProp 𝕄) ⊢ bigSep bCells fun g => semVal g 0 := by
  unfold SparseCore.Cfg.freeOn bCells
  rw [SparseCore.bigSep_image_of_injOn (fun a _ b _ e => bcell₃_injective e), bigSep_filter]
  refine BIBase.Entails.trans sep_elim_right (bigSep_mono fun dci _ => ?_)
  split
  · next hc =>
    exact bigSep_elim (Φ := fun sm : SemLoc sig => (semVal (V dci.1 dci.2.1 dci.2.2, sm) 0 : sProp 𝕄)) (Finset.mem_filter.mpr
      ⟨Finset.mem_erase.mpr ⟨fun h => sc_bar0_ne_go (SemLoc.reg.inj h), Finset.mem_filter.mpr ⟨Finset.mem_univ _, by decide⟩⟩,
        Finset.mem_image_of_mem bcell₃ (mem_tiles dci.1 hc dci.2.2)⟩)
  · exact fun _ _ => trivial

/-- The barrier cells' invariants. -/
theorem invs_b : iprop((bigSep bCells fun g => (semVal g 0 : sProp 𝕄)) ∗ bigSep bCells fun g => roundState EB (bRd Λv) g 0)
    ⊢ |={Set.univ}=> iprop(∃ κ : GSem nD τ sig → ℕ, bigSep bCells fun g => cellInv EB (bRd Λv) (κ g) g) := by
  refine (Rounds.bodies_intro EB (bRd Λv) bCells).trans ((inv_alloc_family bCells (Rounds.body EB (bRd Λv)) ∅ (E := Set.univ)).trans ?_)
  iintro H
  imod H with ⟨%κ, -, Hinv⟩
  imodintro; iexists κ; iexact Hinv

omit [FloatOps F] in
theorem sum_tallyAt_one (g : GSem nD τ sig) (ι : HIx 2) (n : ℕ) : ∑ _ : Fin n, tallyAt g ι 1 = (tallyAt g ι n : CellTallies nD τ sig (HIx 2)) := by
  induction n with
  | zero => rw [tallyAt_zero]; exact Fin.sum_univ_zero _
  | succ n ih => rw [Fin.sum_univ_castSucc, ih, tallyAt_add]

omit [FloatOps F] in
/-- The tiles' debts of a call, regrouped: each tile sixteen units on its own cell. -/
theorem creds_call (d : Dev nD) (c : Fin τ.nSC) (q : Fin 2) :
    (bigSep Finset.univ fun _ : Fin τ.nSub => (cred (oxV d c q) : sProp 𝕄)) ⊢ bigSep Finset.univ fun i : Fin τ.nSub => cred (tallyAt (bcell d c i) (some q) 16) := by
  unfold oxV
  rw [SparseCore.Cfg.cred_finsum, bigSep_univ_comm]
  refine bigSep_mono fun j _ => ?_
  rw [← SparseCore.Cfg.cred_finsum, sum_tallyAt_one]; exact fun _ h => h

/-- A tile's credit on its own cell, for both calls. -/
abbrev credBoth (x : DCI) : sProp 𝕄 := iprop(cred (tallyAt (bcell₃ x) (some 0) 16) ∗ cred (tallyAt (bcell₃ x) (some 1) 16))

/-- The credit for the kernels' debts, regrouped by tile. -/
theorem creds_b : ((P Λv).oxCred : sProp 𝕄) ⊢ bigSep tiles fun x : DCI => credBoth x := by
  rw [bigSep_filter]
  unfold SparseCore.Cfg.Pay.oxCred
  rw [SparseCore.Cfg.bigSep_threads (fun thr : Thread nD τ => (cred ((P Λv).oxFrom 0 thr) : sProp 𝕄))]
  refine BIBase.Entails.trans sep_elim_right (BIBase.Entails.trans sep_elim_right ?_)
  rw [bigSep_univ_prod, bigSep_univ_prod (fun x : DCI => if x.2.1.val < 1 then (credBoth x : sProp 𝕄) else BI.emp)]
  refine bigSep_mono fun d _ => ?_
  rw [bigSep_univ_prod, bigSep_univ_prod (fun ci : Fin τ.nSC × Fin τ.nSub => if ci.1.val < 1 then (credBoth (d, ci) : sProp 𝕄) else BI.emp)]
  refine bigSep_mono fun c _ => ?_
  dsimp only
  by_cases hc : c.val < 1
  · simp only [hc, ↓reduceIte]
    have hox : ∀ i, (P Λv).oxFrom 0 (V d c i) = oxV d c 0 + oxV d c 1 := fun i => by
      rw [show (0 : ℕ) = (0 : Fin 2).val from rfl, (P Λv).oxFrom_step, show (0 : Fin 2).val + 1 = (1 : Fin 2).val from rfl, (P Λv).oxFrom_step,
        (P Λv).oxFrom_end _ (n := (1 : Fin 2).val + 1) le_rfl, add_zero]
      exact congrArg₂ (· + ·) (if_pos hc) (if_pos hc)
    simp only [hox]
    have hadd : (cred (oxV d c 0 + oxV d c 1) : sProp 𝕄) = iprop(cred (oxV d c 0) ∗ cred (oxV d c 1)) := BI.equiv_iff.mp ⟨(cred_add _ _).1, (cred_add _ _).2⟩
    rw [hadd, bigSep_sep', bigSep_sep']
    exact BI.sep_mono (creds_call d c 0) (creds_call d c 1)
  · simp only [hc, ↓reduceIte]
    exact bigSep_mono fun _ _ => fun _ _ => trivial

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  refine BIBase.Entails.trans (sep_mono_left (BI.bigSep_intro_persistent (S := s) fun _ _ => fun _ h => h)) ?_
  rw [← bigSep_sep']
  exact bigSep_mono h

omit [FloatOps F] in
/-- What holds of every tile's cell, of a SparseCore's sixteen. -/
theorem of_tiles (d : Dev nD) {c : Fin τ.nSC} (hc : c.val < 1) (Φ : DCI → sProp 𝕄) [∀ x, BI.Persistent (Φ x)] :
    bigSep tiles Φ ⊢ bigSep Finset.univ fun j : Fin 16 => Φ (d, c, j.castLE h16) :=
  BI.bigSep_intro_persistent fun j _ => bigSep_elim (Φ := Φ) (mem_tiles d hc (j.castLE h16))

omit [FloatOps F] in
theorem toks_eq : (bigSep bToks fun x => (dutyTok EB x.1 x.2.1 x.2.2 : sProp 𝕄))
    = bigSep tiles fun x : DCI => bigSep Finset.univ fun q : Fin 2 => bigSep Finset.univ fun j : Fin 16 => dutyTok EB (bcell x.1 x.2.1 (j.castLE h16)) q.val x.2.2.val := by
  unfold bToks
  rw [SparseCore.bigSep_image_of_injOn, SparseCore.bigSep_product]
  · exact bigSep_congr fun x _ => bigSep_univ_prod _
  rintro ⟨⟨d, c, i⟩, q, j⟩ - ⟨⟨d', c', i'⟩, q', j'⟩ - e
  have e1 := (Prod.mk.inj (Prod.mk.inj e).1).1
  have e2 : q.val = q'.val := (Prod.mk.inj (Prod.mk.inj e).2).1
  have e3 : i.val = i'.val := (Prod.mk.inj (Prod.mk.inj e).2).2
  obtain ⟨rfl, h⟩ := Prod.mk.inj e1
  obtain ⟨rfl, hj⟩ := Proc.scVector.inj h
  obtain rfl : j = j' := Fin.ext (congrArg Fin.val hj)
  obtain rfl : q = q' := Fin.ext e2
  obtain rfl : i = i' := Fin.ext e3
  rfl

omit [FloatOps F] in
/-- Both calls' shares, the first's and the second's. -/
theorem bigSep_two (Φ : Fin 2 → sProp 𝕄) : bigSep Finset.univ Φ = iprop(Φ 0 ∗ Φ 1) := by
  rw [show (Finset.univ : Finset (Fin 2)) = {0, 1} from rfl, SparseCore.bigSep_insert' (by decide), bigSep_singleton]

theorem Px_T (d : Dev nD) : (bigSep Finset.univ fun q : Fin 2 => (P Λv).x q (SparseCore.T d)) = iprop(emp) := bigSep_emp_const _
theorem Px_S (d : Dev nD) (c : Fin τ.nSC) : (bigSep Finset.univ fun q : Fin 2 => (P Λv).x q (S d c)) = iprop(emp) := bigSep_emp_const _
theorem Px_V (d : Dev nD) (c : Fin τ.nSC) (i : Fin τ.nSub) :
    (bigSep Finset.univ fun q : Fin 2 => (P Λv).x q (V d c i)) = if c.val < 1 then iprop(kit Λv 0 d c i ∗ kit Λv 1 d c i) else iprop(emp) := by
  rw [bigSep_two]
  show iprop((if c.val < 1 then kit Λv 0 d c i else iprop(emp)) ∗ (if c.val < 1 then kit Λv 1 d c i else iprop(emp))) = _
  split
  · rfl
  · exact BI.equiv_iff.mp BI.sep_emp

omit [FloatOps F] in
theorem bCells_eq (Φ : GSem nD τ sig → sProp 𝕄) : bigSep bCells Φ = bigSep tiles fun x : DCI => Φ (bcell₃ x) := by
  unfold bCells; exact SparseCore.bigSep_image_of_injOn (fun a _ b _ e => bcell₃_injective e) Φ

/-- What every tile is handed alike: the barrier cells' invariants, and that each has reached the first round. -/
abbrev shared : sProp 𝕄 :=
  iprop((∃ κ : GSem nD τ sig → ℕ, bigSep tiles fun x : DCI => cellInv EB (bRd Λv) (κ (bcell₃ x)) (bcell₃ x))
    ∗ bigSep tiles fun x : DCI => reached EB (bcell₃ x) 0)
/-- What each tile is handed of its own: its position, its tokens, its credit. -/
abbrev mine (x : DCI) : sProp 𝕄 :=
  iprop(atPos EB (bcell₃ x) 0 ∅ 0
    ∗ (bigSep Finset.univ fun q : Fin 2 => bigSep Finset.univ fun j : Fin 16 => dutyTok EB (bcell x.1 x.2.1 (j.castLE h16)) q.val x.2.2.val)
    ∗ credBoth x)

/-- One tile's kits out of those. -/
theorem kit_intro (x : DCI) (h : x ∈ tiles) : iprop(shared Λv ∗ mine x) ⊢ (iprop(kit Λv 0 x.1 x.2.1 x.2.2 ∗ kit Λv 1 x.1 x.2.1 x.2.2) : sProp 𝕄) := by
  obtain ⟨d, c, i⟩ := x
  have hc : c.val < 1 := (Finset.mem_filter.mp h).2
  unfold mine kit bkit cellInvs reachedAll
  rw [bigSep_two]
  iintro ⟨⟨⟨%κ, #Hinv⟩, #Hr⟩, Hat, ⟨Ht0, Ht1⟩, Hc0, Hc1⟩
  ihave #HI := (of_tiles d hc fun x : DCI => cellInv EB (bRd Λv) (κ (bcell₃ x)) (bcell₃ x)) $$ Hinv
  ihave #HR := (of_tiles d hc fun x : DCI => reached EB (bcell₃ x) 0) $$ Hr
  isplitl [Hat Ht0 Hc0]
  · isplitl [Ht0 Hc0]
    · isplitr; · iexists κ; iexact HI
      isplitl [Ht0]; · iexact Ht0
      iexact Hc0
    isplitr; · iexact HR
    iexact Hat
  isplitr; · iexists κ; iexact HI
  isplitl [Ht1]; · iexact Ht1
  iexact Hc1

/-- The tiles' own, kind by kind. -/
theorem mine_eq : (bigSep tiles fun x : DCI => (mine x : sProp 𝕄))
    = iprop((bigSep tiles fun x : DCI => atPos EB (bcell₃ x) 0 ∅ 0)
      ∗ (bigSep tiles fun x : DCI => bigSep Finset.univ fun q : Fin 2 => bigSep Finset.univ fun j : Fin 16 => dutyTok EB (bcell x.1 x.2.1 (j.castLE h16)) q.val x.2.2.val)
      ∗ (bigSep tiles fun x : DCI => credBoth x)) :=
  (bigSep_sep' _ _ _).trans (congrArg (fun X : sProp 𝕄 => iprop(_ ∗ X)) (bigSep_sep' _ _ _))

/-- Each tile its kits. -/
theorem kits_deal :
    iprop(shared Λv ∗ (bigSep tiles fun x : DCI => mine x))
      ⊢ (bigSep Finset.univ fun thr : Thread nD τ => bigSep Finset.univ fun q : Fin 2 => (P Λv).x q thr : sProp 𝕄) := by
  rw [SparseCore.Cfg.bigSep_threads (fun thr : Thread nD τ => bigSep Finset.univ fun q : Fin 2 => (P Λv).x q thr)]
  simp only [Px_T, Px_S, Px_V]
  have hk : iprop(shared Λv ∗ (bigSep tiles fun x : DCI => mine x))
      ⊢ bigSep Finset.univ fun x : DCI => (if x.2.1.val < 1 then iprop(kit Λv 0 x.1 x.2.1 x.2.2 ∗ kit Λv 1 x.1 x.2.1 x.2.2) else BI.emp : sProp 𝕄) := by
    rw [← bigSep_filter Finset.univ (fun x : DCI => x.2.1.val < 1) fun x => iprop(kit Λv 0 x.1 x.2.1 x.2.2 ∗ kit Λv 1 x.1 x.2.1 x.2.2)]
    exact bigSep_mono_frame (R := shared Λv) fun x h => kit_intro Λv x h
  rw [show (bigSep Finset.univ fun d : Dev nD => (iprop(emp) : sProp 𝕄)) = BI.emp from bigSep_emp_const _,
    show (bigSep Finset.univ fun dc : Dev nD × Fin τ.nSC => (iprop(emp) : sProp 𝕄)) = BI.emp from bigSep_emp_const _]
  iintro H
  isplitr; · iempintro
  isplitr; · iempintro
  iapply hk $$ H

/-- What the TensorCore is handed: both pipelines' cells and tokens. -/
def G (d : Dev nD) : sProp 𝕄 :=
  iprop((Pipeline.cellsGhost (Pipeline.pin (pcfgs (F := F)) adm) EP 0 d ∗ Pipeline.cellsGhost (Pipeline.pin (pcfgs (F := F)) adm) EP 1 d)
    ∗ Pipeline.toksInit (Pipeline.pin (pcfgs (F := F)) adm) EP 0 d ∗ Pipeline.toksInit (Pipeline.pin (pcfgs (F := F)) adm) EP 1 d)

/-- The launch hands over the handshakes' rounds, the pipelines' cells and every tile's kits. -/
theorem hu₀ : iprop(ownU (u₀ (F := F)) ∗ (P Λv).oxCred ∗ (K (F := F)).freeOn (· ∈ bCells))
    ⊢ |={Set.univ}=> iprop(BI.own (EH (initOf (K (F := F)).hsCells (K (F := F)).hsToks)) ∗ (bigSep Finset.univ fun d : Dev nD => G d)
        ∗ (bigSep Finset.univ fun thr : Thread nD τ => bigSep Finset.univ fun q : Fin 2 => (P Λv).x q thr) : sProp 𝕄) := by
  unfold u₀
  iintro ⟨Hu, Hcred, Hfree⟩
  ihave H := (ownU_split _ _ _) $$ Hu
  icases H with ⟨HH, HB, HP⟩
  imod (Rounds.fund EB (bRd Λv) bCells bToks) $$ HB with ⟨Hst, #Hr, Hat, Htok⟩
  imod (Pipeline.fund_ghost (Pipeline.pin (pcfgs (F := F)) adm) EP cellOf_inj) $$ HP with ⟨Hg, Ht⟩
  ihave Hsems := (sems_b (F := F)) $$ Hfree
  imod (invs_b Λv) $$ [Hsems Hst] with ⟨%κ, #Hinv⟩
  · isplitl [Hsems] <;> iassumption
  ihave Hcred' := (creds_b Λv) $$ Hcred
  ihave #Hinv' := (Entails.of_eq (bCells_eq (F := F) fun g => cellInv EB (bRd Λv) (κ g) g)) $$ Hinv
  ihave #Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [Hg Ht]
  · unfold G
    rw [bigSep_sep', bigSep_sep', bigSep_sep']
    simp only [bigSep_two, bigSep_sep']
    isplitl [Hg]; · iexact Hg
    iexact Ht
  iapply (kits_deal Λv)
  isplitr
  · isplitl; · iexists κ; iexact Hinv'
    iexact Hr'
  rw [mine_eq]
  isplitl [Hat']; · iexact Hat'
  isplitl [Htok']; · iexact Htok'
  iexact Hcred'

end Cert.Proof.SegSum

end
-- ==== Proof.Main.lean ====
/-
  The main program on the TensorCore: reshape the weights; the two pipelines, each with its result reshaped and summed
  by a SparseCore call. Its run: every argument unchanged, every semaphore at zero, the result as `OUTk` says.
-/
module

public import proofs.«01_k».proof.Proof.Launch

@[expose] public section

noncomputable section

namespace Cert.Proof.SegSum

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (ρ : Dev nD → PrngReg)

/-! ## The values -/

/-- What the pipelines read at launch memory `m`: the rows, the weights as a row, the bias. -/
def I0 : PIn F where
  x d := m (xLoc d)
  w d := shapeCast S1x128 (m (wLoc d)) shapeCasts_S128x1_S1x128
  b d := m (cLoc d)
  y d := m ((SparseCore.T d).loc main_v1)
def I1 : PIn F where
  x d := m (xLoc d)
  w d := shapeCast S1x128 (m (wLoc d)) shapeCasts_S128x1_S1x128
  b d := m (cLoc d)
  y d := m ((SparseCore.T d).loc main_v4)

/-- What the SparseCore calls compute on: the segment numbers, and a pipeline's result reshaped to a vector. -/
def Λm : Vals F where
  bt d := m (bLoc d)
  yOK q d y := match q with
    | 0 => ∃ G, yRes0 (I0 m) d G ∧ y = shapeCast S50176 G shapeCasts_S4x1x12544_S50176
    | _ => ∃ G, yRes2 (I1 m) d G ∧ y = shapeCast S50176 G shapeCasts_S4x1x12544_S50176

/-! ## A reshape -/

omit [FloatOps F] in
/-- The two buffers of a reshape, held at a valuation. -/
theorem bufs_two (d : Dev nD) {x y : Ref sig .tc} (hne : (Proc.devRef .tc x : DevRef τ sig) ≠ Proc.devRef .tc y) (W : Valuation τ sig (Elt F)) :
    (bigSep ({Proc.devRef .tc x, Proc.devRef .tc y} : Finset (DevRef τ sig)) (fun b => ((d, b) : Loc nD τ sig) ↦{fullShare} W b) : sProp 𝕄)
      = iprop(((SparseCore.T d).loc x ↦{fullShare} W (Proc.devRef .tc x)) ∗ ((SparseCore.T d).loc y ↦{fullShare} W (Proc.devRef .tc y))) := by
  rw [SparseCore.bigSep_insert' (by simpa using hne), bigSep_singleton]

include m in
/-- A reshape of `x` into `y`: `x` kept, `y` at its elements in order. -/
theorem wp_reshape (d : Dev nD) (x y : Ref sig .tc) (he : x.ty.elt = y.ty.elt) (hn : x.ty.shape.ShapeCasts y.ty.shape)
    (hx : x.space ≠ .host ∧ (x : DevRef τ sig).isScoped = false) (hy : y.space ≠ .host ∧ (y : DevRef τ sig).isScoped = false)
    (hne : (Proc.devRef .tc x : DevRef τ sig) ≠ Proc.devRef .tc y)
    (f : Buf (Elt F) ((SparseCore.T d).loc x)) (g : Buf (Elt F) ((SparseCore.T d).loc y)) (Q : PUnit → sProp 𝕄) :
    iprop((boundary (SparseCore.T d) ∗ ((SparseCore.T d).loc x ↦{fullShare} f) ∗ ((SparseCore.T d).loc y ↦{fullShare} g))
        ∗ (iprop(boundary (SparseCore.T d) ∗ ((SparseCore.T d).loc x ↦{fullShare} f)
            ∗ ((SparseCore.T d).loc y ↦{fullShare} ((fun i => he ▸ shapeCast y.ty.shape f hn i) : Buf (Elt F) ((SparseCore.T d).loc y)))) -∗ Q ⟨⟩))
      ⊢ wp frame (wpE ((K (F := F)).defs (D (F := F))) 𝒱 (SparseCore.T d) none) Set.univ
          (hlo rfl (StableHlo.reshape x y he hn hx hy) (fun _ => .ret ⟨⟩)) Q := by
  let W : Valuation τ sig (Elt F) := Function.update (Function.update (fun b => m (d, b)) (Proc.devRef .tc x) f) (Proc.devRef .tc y) g
  have hWx : W (Proc.devRef .tc x) = f := (Function.update_of_ne hne _ _).trans (Function.update_self _ _ _)
  have hWy : W (Proc.devRef .tc y) = g := Function.update_self _ _ _
  have hRx : (StableHlo.reshape x y he hn hx hy : HloOp τ sig (Elt F)).result W (Proc.devRef .tc x) = f :=
    ((StableHlo.reshape x y he hn hx hy : HloOp τ sig (Elt F)).result_of_not_mem W (b := Proc.devRef .tc x)
      (fun h => hne (Finset.mem_singleton.mp h))).trans hWx
  have hRy : (StableHlo.reshape x y he hn hx hy : HloOp τ sig (Elt F)).result W (Proc.devRef .tc y) = fun i => he ▸ shapeCast y.ty.shape f hn i :=
    (StableHlo.reshape_result x y he hn hx hy W).trans (by rw [hWx])
  have e1 : (bigSep (StableHlo.reshape x y he hn hx hy : HloOp τ sig (Elt F)).bufs (fun b => ((d, b) : Loc nD τ sig) ↦{fullShare} W b) : sProp 𝕄)
      = iprop(((SparseCore.T d).loc x ↦{fullShare} f) ∗ ((SparseCore.T d).loc y ↦{fullShare} g)) :=
    (bufs_two d hne W).trans (by rw [hWx, hWy])
  have e2 : (bigSep (StableHlo.reshape x y he hn hx hy : HloOp τ sig (Elt F)).bufs
        (fun b => ((d, b) : Loc nD τ sig) ↦{fullShare} (StableHlo.reshape x y he hn hx hy : HloOp τ sig (Elt F)).result W b) : sProp 𝕄)
      = iprop(((SparseCore.T d).loc x ↦{fullShare} f)
        ∗ ((SparseCore.T d).loc y ↦{fullShare} ((fun i => he ▸ shapeCast y.ty.shape f hn i) : Buf (Elt F) ((SparseCore.T d).loc y)))) :=
    (bufs_two d hne _).trans (by rw [hRx, hRy])
  iintro ⟨⟨Hb, Hx, Hy⟩, Hk⟩
  iapply (wp_hlo 𝒱 (SparseCore.T d) none Set.univ (op := (StableHlo.reshape x y he hn hx hy : HloOp τ sig (Elt F))) (q := fun _ => fullShare) (F := W)
    (fun _ _ => rfl) rfl) $$ [Hb Hx Hy]
  · isplitl [Hb]; · iexact Hb
    rw [e1]
    isplitl [Hx] <;> iassumption
  rw [e2]
  iintro ⟨Hb, Hx, Hy⟩
  rw [wp_ret]; imodintro
  iapply Hk
  isplitl [Hb]; · iexact Hb
  isplitl [Hx] <;> iassumption

/-! ## @main -/

omit [FloatOps F] in
/-- The TensorCore's unscoped buffers: the arguments and @main's values. -/
theorem unscopedBufs_eq (d : Dev nD) (W : (b : Ref sig .tc) → Buf (Elt F) ((d.tc : Thread nD τ).loc b)) :
    (unscopedBufs d W : sProp 𝕄)
      = iprop((xLoc d ↦{fullShare} W main_arg0) ∗ (bLoc d ↦{fullShare} W main_arg1) ∗ (wLoc d ↦{fullShare} W main_arg2) ∗ (cLoc d ↦{fullShare} W main_arg3)
        ∗ ((SparseCore.T d).loc main_v0 ↦{fullShare} W main_v0) ∗ ((SparseCore.T d).loc main_v1 ↦{fullShare} W main_v1)
        ∗ (yLoc0 d ↦{fullShare} W main_v2) ∗ (oLoc0 d ↦{fullShare} W main_v3) ∗ ((SparseCore.T d).loc main_v4 ↦{fullShare} W main_v4)
        ∗ (yLoc1 d ↦{fullShare} W main_v5) ∗ (oLoc1 d ↦{fullShare} W main_v6)) := by
  unfold unscopedBufs
  rw [show (Finset.univ.filter fun b : Ref sig .tc => ¬ b.isScoped)
      = {main_arg0, main_arg1, main_arg2, main_arg3, main_v0, main_v1, main_v2, main_v3, main_v4, main_v5, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- SparseCore 0. -/
abbrev c0 : Fin τ.nSC := ⟨0, by decide⟩
theorem stS0 (Λv : Vals F) (d : Dev nD) : (bigSep Finset.univ fun c : Fin ((K (F := F)).nCore 0) => (P Λv).st 0 d c) = st0 Λv d :=
  bigSep_univ_of_subsingleton (0 : Fin 1)
theorem dnS0 (Λv : Vals F) (d : Dev nD) : (bigSep Finset.univ fun c : Fin ((K (F := F)).nCore 0) => (P Λv).dn 0 d c) = dn0 Λv d c0 :=
  bigSep_univ_of_subsingleton (0 : Fin 1)
theorem stS1 (Λv : Vals F) (d : Dev nD) : (bigSep Finset.univ fun c : Fin ((K (F := F)).nCore 1) => (P Λv).st 1 d c) = st1 Λv d c0 :=
  bigSep_univ_of_subsingleton (0 : Fin 1)
theorem dnS1 (Λv : Vals F) (d : Dev nD) : (bigSep Finset.univ fun c : Fin ((K (F := F)).nCore 1) => (P Λv).dn 1 d c) = dn1 Λv d c0 :=
  bigSep_univ_of_subsingleton (0 : Fin 1)

/-- What the TensorCore owes, out of its state before call `n`, and what gives the state back. -/
theorem tcSt_owes (d : Dev nD) (n : ℕ) :
    (K (F := F)).tcSt EH d n ⊢ (iprop(tcOwes n d ∗ (tcOwes n d -∗ (K (F := F)).tcSt EH d n)) : sProp 𝕄) := by
  unfold SparseCore.Cfg.tcSt tcOwes
  iintro ⟨HO, Hr⟩
  isplitl [HO]; · iexact HO
  iintro HO
  isplitl [HO] <;> iassumption

/-- What @main leaves: the arguments as launched, the result, the barrier's cells at zero. -/
def FIN (d : Dev nD) : sProp 𝕄 :=
  iprop((xLoc d ↦{fullShare} m (xLoc d)) ∗ (bLoc d ↦{fullShare} m (bLoc d)) ∗ (wLoc d ↦{fullShare} m (wLoc d)) ∗ (cLoc d ↦{fullShare} m (cLoc d))
    ∗ (∃ f : S4096.Idx → Elt F .f32, ⌜∀ k, OUTk (Λm m) d k (f k)⌝ ∗ (oLoc1 d ↦{fullShare} f)) ∗ bars d c0)

theorem hmain (κ : GSem nD τ sig → ℕ) (d : Dev nD) :
    iprop((K (F := F)).ctx EH (P (Λm m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd G
  rw [unscopedBufs_eq]
  simp only [main, wp_bind, wp_pure]
  iintro ⟨#Hctx, Hst, ⟨Hb, ⟨Hx, Hbt, Hw, Hc, Hv0, Hv1, Hv2, Hv3, Hv4, Hv5, Hv6⟩, Hts, -⟩, ⟨Hg0, Hg1⟩, Ht0, Ht1⟩
  ihave #Hlev := (SparseCore.Cfg.ctx_levAts κ) $$ Hctx
  iapply (wp_reshape m d main_arg2 main_v0 rfl shapeCasts_S128x1_S1x128 _ _ (by decide) (m (wLoc d)) (m ((SparseCore.T d).loc main_v0)) _)
  isplitl [Hb Hw Hv0]
  · isplitl [Hb]; · iexact Hb
    isplitl [Hw] <;> iassumption
  iintro ⟨Hb, Hw, Hv0⟩
  -- the first pipeline
  ihave HO := (tcSt_owes d 0) $$ Hst
  icases HO with ⟨HO, Hst⟩
  iapply (wp_reg0 (I0 m) (I1 m) d _)
  isplitr [Hb Hx Hv0 Hc Hv1 HO Hg0 Ht0]
  rotate_left
  · isplitl [Hb]; · iexact Hb
    isplitl [Hx Hv0 Hc Hv1 HO]
    · iapply (show iprop(ins (I0 m) d ∗ ((SparseCore.T d).loc main_v1 ↦{fullShare} ((I0 m).y d : S4x1x12544.Idx → Elt F .f32)) ∗ tcOwes 0 d) ⊢ (reg0 (I0 m) (I1 m)).pre d from .rfl)
      unfold ins
      isplitl [Hx Hv0 Hc]
      · isplitl [Hx]; · iexact Hx
        isplitl [Hv0]; · iexact Hv0
        iexact Hc
      isplitl [Hv1]; · iexact Hv1
      iexact HO
    isplitr; · iexact Hlev
    isplitl [Hg0] <;> iassumption
  iintro ⟨Hb, Hpost⟩
  ihave Hpost' := (show (reg0 (I0 m) (I1 m)).post d ⊢ iprop(ins (I0 m) d ∗ (∃ G : S4x1x12544.Idx → Elt F .f32, ⌜yRes0 (I0 m) d G⌝ ∗ ((SparseCore.T d).loc main_v1 ↦{fullShare} G)) ∗ tcOwes 0 d) from .rfl) $$ Hpost
  unfold ins
  icases Hpost' with ⟨⟨Hx, Hv0, Hc⟩, ⟨%G0, %hG0, Hv1⟩, HO⟩
  ihave Hst := Hst $$ HO
  -- its result as a vector
  iapply (wp_reshape m d main_v1 main_v2 rfl shapeCasts_S4x1x12544_S50176 _ _ (by decide) G0 (m (yLoc0 d)) _)
  isplitl [Hb Hv1 Hv2]
  · isplitl [Hb]; · iexact Hb
    isplitl [Hv1] <;> iassumption
  iintro ⟨Hb, Hv1, Hv2⟩
  -- the first call
  iapply ((K (F := F)).wp_run (D (F := F)) 𝒱 (EH := EH) (P := P (Λm m)) κ d 0)
  isplitr; · iexact Hctx
  isplitl [Hst]; · iexact Hst
  isplitl [Hv2 Hbt Hv3]
  · rw [stS0]; unfold st0
    isplitl [Hv2]
    · iexists (shapeCast S50176 G0 shapeCasts_S4x1x12544_S50176)
      isplitr; · (ipureintro; exact ⟨G0, hG0, rfl⟩)
      iexact Hv2
    isplitl [Hbt]; · iexact Hbt
    iexists (m (oLoc0 d)); iexact Hv3
  iintro ⟨Hst, Hdn⟩
  ihave Hdn' := (Entails.of_eq (dnS0 (Λm m) d)) $$ Hdn
  unfold dn0
  icases Hdn' with ⟨Hbt, Hv3, Hbar⟩
  -- the second pipeline
  ihave HO := (show (K (F := F)).tcSt EH d ((0 : Fin 2).val + 1) ⊢ _ from tcSt_owes d 1) $$ Hst
  icases HO with ⟨HO, Hst⟩
  iapply (wp_reg2 (I0 m) (I1 m) d _)
  isplitr [Hb Hx Hv0 Hc Hv4 HO Hg1 Ht1]
  rotate_left
  · isplitl [Hb]; · iexact Hb
    isplitl [Hx Hv0 Hc Hv4 HO]
    · iapply (show iprop(ins (I1 m) d ∗ ((SparseCore.T d).loc main_v4 ↦{fullShare} ((I1 m).y d : S4x1x12544.Idx → Elt F .f32)) ∗ tcOwes 1 d) ⊢ (reg2 (I0 m) (I1 m)).pre d from .rfl)
      unfold ins
      isplitl [Hx Hv0 Hc]
      · isplitl [Hx]; · iexact Hx
        isplitl [Hv0]; · iexact Hv0
        iexact Hc
      isplitl [Hv4]; · iexact Hv4
      iexact HO
    isplitr; · iexact Hlev
    isplitl [Hg1] <;> iassumption
  iintro ⟨Hb, Hpost⟩
  ihave Hpost' := (show (reg2 (I0 m) (I1 m)).post d ⊢ iprop(ins (I1 m) d ∗ (∃ G : S4x1x12544.Idx → Elt F .f32, ⌜yRes2 (I1 m) d G⌝ ∗ ((SparseCore.T d).loc main_v4 ↦{fullShare} G)) ∗ tcOwes 1 d) from .rfl) $$ Hpost
  unfold ins
  icases Hpost' with ⟨⟨Hx, Hv0, Hc⟩, ⟨%G1, %hG1, Hv4⟩, HO⟩
  ihave Hst := Hst $$ HO
  iapply (wp_reshape m d main_v4 main_v5 rfl shapeCasts_S4x1x12544_S50176 _ _ (by decide) G1 (m (yLoc1 d)) _)
  isplitl [Hb Hv4 Hv5]
  · isplitl [Hb]; · iexact Hb
    isplitl [Hv4] <;> iassumption
  iintro ⟨Hb, Hv4, Hv5⟩
  -- the second call
  iapply ((K (F := F)).wp_run (D (F := F)) 𝒱 (EH := EH) (P := P (Λm m)) κ d 1)
  isplitr; · iexact Hctx
  isplitl [Hst]; · iexact Hst
  isplitl [Hv5 Hbt Hv3 Hv6 Hbar]
  · rw [stS1]; unfold st1
    isplitl [Hv5]
    · iexists (shapeCast S50176 G1 shapeCasts_S4x1x12544_S50176)
      isplitr; · (ipureintro; exact ⟨G1, hG1, rfl⟩)
      iexact Hv5
    isplitl [Hbt]; · iexact Hbt
    isplitl [Hv3]; · iexact Hv3
    isplitl [Hv6]; · iexists (m (oLoc1 d)); iexact Hv6
    iexact Hbar
  iintro ⟨Hst, Hdn⟩
  ihave Hdn' := (Entails.of_eq (dnS1 (Λm m) d)) $$ Hdn
  unfold dn1
  icases Hdn' with ⟨Hbt, Hv6, Hbars⟩
  imodintro
  isplitl [Hst]; · iexact Hst
  isplitr [Hb Hts]
  · unfold FIN
    isplitl [Hx]; · iexact Hx
    isplitl [Hbt]; · iexact Hbt
    isplitl [Hw]; · iexact Hw
    isplitl [Hc]; · iexact Hc
    isplitl [Hv6]; · iexact Hv6
    iexact Hbars
  isplitl [Hb] <;> iassumption

/-! ## The final state -/

/-- What the claim reads of a device's final state. -/
def fq (d : Dev nD) (s' : Phys nD τ sig (Elt F)) : Prop :=
  (s'.mem.mem (xLoc d) = m (xLoc d) ∧ s'.mem.mem (bLoc d) = m (bLoc d) ∧ s'.mem.mem (wLoc d) = m (wLoc d) ∧ s'.mem.mem (cLoc d) = m (cLoc d))
    ∧ (∀ k, OUTk (Λm m) d k (s'.mem.mem (oLoc1 d) k)) ∧ ∀ i : Fin 16, s'.mem.sem (bcell d c0 (i.castLE h16)) = 0

/-- An array held whole reads what is held. -/
theorem read_whole (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  have hx : iprop(FIN m d ∗ SI s') ⊢ (⌜s'.mem.mem (xLoc d) = m (xLoc d)⌝ : sProp 𝕄) := by
    unfold FIN; iintro ⟨⟨H, -⟩, HS⟩; iapply (read_whole s' _ _); isplitl [H] <;> iassumption
  have hb : iprop(FIN m d ∗ SI s') ⊢ (⌜s'.mem.mem (bLoc d) = m (bLoc d)⌝ : sProp 𝕄) := by
    unfold FIN; iintro ⟨⟨-, H, -⟩, HS⟩; iapply (read_whole s' _ _); isplitl [H] <;> iassumption
  have hw : iprop(FIN m d ∗ SI s') ⊢ (⌜s'.mem.mem (wLoc d) = m (wLoc d)⌝ : sProp 𝕄) := by
    unfold FIN; iintro ⟨⟨-, -, H, -⟩, HS⟩; iapply (read_whole s' _ _); isplitl [H] <;> iassumption
  have hc : iprop(FIN m d ∗ SI s') ⊢ (⌜s'.mem.mem (cLoc d) = m (cLoc d)⌝ : sProp 𝕄) := by
    unfold FIN; iintro ⟨⟨-, -, -, H, -⟩, HS⟩; iapply (read_whole s' _ _); isplitl [H] <;> iassumption
  have ho : iprop(FIN m d ∗ SI s') ⊢ (⌜∀ k, OUTk (Λm m) d k (s'.mem.mem (oLoc1 d) k)⌝ : sProp 𝕄) := by
    unfold FIN; iintro ⟨⟨-, -, -, -, ⟨%f, %hf, H⟩, -⟩, HS⟩
    ihave H := (read_whole s' _ _) $$ [H HS]
    · isplitl [H] <;> iassumption
    icases H with %h
    ipureintro; rw [h]; exact hf
  have hs : ∀ i : Fin 16, iprop(FIN m d ∗ SI s') ⊢ (⌜s'.mem.sem (bcell d c0 (i.castLE h16)) = 0⌝ : sProp 𝕄) := by
    intro i
    have h1 : (bars d c0 : sProp 𝕄) ⊢ semVal (bcell d c0 (i.castLE h16)) 0 :=
      (show (bigSep Finset.univ fun j : Fin 16 => (semVal (bcell d c0 (j.castLE h16)) 0 : sProp 𝕄)) ⊢ _ from bigSep_elim (Finset.mem_univ i))
    unfold FIN; iintro ⟨⟨-, -, -, -, -, H⟩, HS⟩
    iapply (SparseCore.Cfg.semVal_zero_read _ s')
    isplitl [H]; · iapply h1 $$ H
    iexact HS
  exact fun x h => ⟨⟨hx x h, hb x h, hw x h, hc x h⟩, ho x h, fun i => hs i x h⟩

/-- The barrier's cells end at zero. -/
theorem hA (s' : Phys nD τ sig (Elt F)) (h : ∀ d, fq m d s') (g : GSem nD τ sig) (hg : g ∈ bCells) : s'.mem.sem g = 0 := by
  obtain ⟨⟨d, c, i⟩, hx, rfl⟩ := Finset.mem_image.mp hg
  obtain rfl : c = c0 := Fin.ext (Nat.lt_one_iff.mp (Finset.mem_filter.mp hx).2)
  exact (h d).2.2 ⟨i.val, i.isLt⟩

/-! ## The run -/

/-- What every run ends with: the arguments unchanged, the result, every semaphore at zero. -/
def QC : PUnit × MemSt nD τ sig (Elt F) → Prop := fun r =>
  (∀ d : Dev nD, (r.2.mem (xLoc d) = m (xLoc d) ∧ r.2.mem (bLoc d) = m (bLoc d) ∧ r.2.mem (wLoc d) = m (wLoc d) ∧ r.2.mem (cLoc d) = m (cLoc d))
    ∧ ∀ k, OUTk (Λm m) d k (r.2.mem (oLoc1 d) k)) ∧ r.2.sem = fun _ => 0

/-- From any memory whose segment numbers are in range, every run of the program ends so. -/
theorem run_main [∀ e, Nonempty (Elt F e)] (hb : ∀ d i, (m (bLoc d) i).toNat < 4096) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Λm m)) (hA := hA m) launchFacts v₀
    (fun q hq => match q with | 0 => nomatch hq | 1 => nomatch hq)
    (fun q _ => match q with | 0 => tileObl0 (Λm m) hb | 1 => tileObl1 (Λm m) hb)
    (fun q _ => match q with | 0 => vecSplit0 (Λm m) | 1 => vecSplit1 (Λm m))
    m ρ main (fun d => G d) (FIN m) (u₀ (F := F)) (hu₀ (Λm m)) (hmain m ρ) (fq m) (hfin m) (QC m) (fun _ h hz => ⟨fun d => ⟨(h d).1, (h d).2.1⟩, hz⟩)

end Cert.Proof.SegSum

end
-- ==== Proof.Same.lean ====
/-
  The kernel and its idealization are one program text: at any float values their body tables and threads are equal, so
  a run of one is a run of the other.
-/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Proof.Same

open Idealize.ShloMosaic Idealize.SL.Sem

variable {F : FTy → Type} [FloatOps F]

universe v in
/-- Two runs of one step after another are equal when their first steps are and what follows is. -/
theorem bind_eq {E : Type → Type v} {a a' : Prog E PUnit} {f f' : PUnit → Prog E PUnit} (h : a = a') (h' : ∀ x, f x = f' x) :
    (a >>= f) = (a' >>= f') := by rw [h, funext h']

/-- The two programs' kernel bodies are equal, label by label. -/
theorem bodies_eq : @Cert.Kernel.defs₀ F _ Cert.Kernel.Gen.facts = @Cert.KernelIdeal.defs₀ F _ Cert.KernelIdeal.Gen.facts := by
  funext p l
  unfold Kernel.defs₀ KernelIdeal.defs₀
  match p, l with
  | .tc, 0 => exact rfl
  | .tc, 1 => exact rfl
  | .tc, 2 => exact rfl
  | .tc, 3 => exact rfl
  | .scVector _ _, 0 => exact rfl
  | .scVector _ _, 1 => exact rfl
  | .scVector _ _, 2 => exact rfl
  | .scVector _ _, 3 => exact rfl
  | .scScalar _, 0 => exact rfl
  | .scScalar _, 1 => exact rfl
  | .scScalar _, 2 => exact rfl
  | .scScalar _, 3 => exact rfl

/-- The two body tables are equal. -/
theorem defs_eq : Cert.Kernel.defs (F := F) = Cert.KernelIdeal.defs (F := F) :=
  congrArg (fun D => (Cert.KernelIdeal.sc (F := F)).defs (Pipeline.defs Cert.KernelIdeal.pcfgs D)) (bodies_eq (F := F))

set_option maxHeartbeats 2000000 in
/-- The two main programs are equal, step by step. -/
theorem main_eq : Cert.Kernel.main (F := F) = Cert.KernelIdeal.main (F := F) := by
  funext d
  unfold Cert.Kernel.main Cert.KernelIdeal.main
  refine bind_eq ?_ fun _ => ?_
  · exact rfl
  refine bind_eq ?_ fun _ => ?_
  · exact rfl
  refine bind_eq ?_ fun _ => ?_
  · exact rfl
  refine bind_eq ?_ fun _ => ?_
  · exact rfl
  refine bind_eq ?_ fun _ => ?_
  · exact rfl
  refine bind_eq ?_ fun _ => ?_
  · exact rfl
  refine bind_eq ?_ fun _ => ?_
  · exact rfl
  exact rfl

/-- The two programs' threads are equal. -/
theorem threads_eq : Cert.Kernel.threads (F := F) = Cert.KernelIdeal.threads (F := F) :=
  congrArg (fun f => (Cert.KernelIdeal.sc (F := F)).threads f) (main_eq (F := F))

/-- What every run of the idealization satisfies, every run of the kernel does. -/
theorem run_of (st : MemSt Cert.Kernel.nD Cert.Kernel.τ Cert.Kernel.sig (Elt F)) (Q)
    (h : θ_run (Cert.KernelIdeal.defs (F := F)) (Cert.KernelIdeal.threads (F := F)) st Q) :
    θ_run (Cert.Kernel.defs (F := F)) (Cert.Kernel.threads (F := F)) st Q := by
  rw [defs_eq, threads_eq]; exact h

end Cert.Proof.Same

end
-- ==== Proof.Frames.lean ====
/-
  The precondition read as a bound on every segment number, and the frames: each program runs, leaves its arguments as
  they were, and ends with every semaphore at zero.
-/
module

public import proofs.«01_k».proof.Defs
public import proofs.«01_k».proof.Proof.Main
public import proofs.«01_k».proof.Proof.Same
public import proofs.«01_k».proof.Proof.Gen.Kernel
public import proofs.«01_k».proof.Proof.Gen.ReferenceIdeal
public import proofs.«01_k».proof.Proof.Gen.ReferenceIdeal.Run
public import proofs.«01_k».proof.Proof.Gen.Pre_in_range
public import Idealize.ShloMosaic.Lib.ReduceAll
public import Idealize.ShloMosaic.Lib.Affine

@[expose] public section

noncomputable section

namespace Cert.Proof

open Idealize.ShloMosaic Idealize.SL.Sem

instance : Subsingleton Cert.Pre_in_range.S_.Idx := ⟨fun a b => funext fun i => i.elim0⟩

/-- Where `in_range` holds, every segment number read as a natural number is below 4096. -/
theorem in_range_lt {F : FTy → Type} [FloatOps F] (x : FVec F Cert.Pre_in_range.S100000x128 .f32) (bt : IVec Cert.Pre_in_range.S100000 32)
    (w : FVec F Cert.Pre_in_range.S128x1 .f32) (b : FVec F Cert.Pre_in_range.S1 .f32)
    (h : Cert.Pre_in_range.fn (F := F) x bt w b = fun _ => 1#1) (i : Cert.Pre_in_range.S100000.Idx) : (bt i).toNat < 4096 := by
  have h0 := Host.reduce_andi_all _ _ _ _ (fun a => a.elim0) (congrFun h fun a => a.elim0) i
  obtain ⟨h1, h2⟩ : IntOp.cmpi .sge (bt i) 0#32 = 1#1 ∧ IntOp.cmpi .slt (bt i) 4096#32 = 1#1 := IntOp.andi_eq_one.1 h0
  have h1 := IntOp.cmpi_sge.1 h1
  have h2 := IntOp.cmpi_slt.1 h2
  have e0 : (0#32).toInt = 0 := by decide
  have e1 : (4096#32).toInt = 4096 := by decide
  rw [e0] at h1; rw [e1] at h2
  have := (bt i).isLt
  rw [BitVec.toInt_eq_toNat_cond] at h1 h2
  split at h1 <;> omega

/-- The kernel's frame at the machine's own floats. -/
theorem frame_kernel : Cert.quiescent_Kernel := fun m ρ hp =>
  Same.run_of _ _ <| (θ_run Cert.KernelIdeal.defs _ _).mono (fun _ h => ⟨fun c => (h.1 c).1, h.2⟩)
    (SegSum.run_main (F := Bits) m ρ fun d i => in_range_lt _ _ _ _ (hp d) i)

/-- The kernel's frame at the ideal values. -/
theorem frame_ideal : Cert.quiescent_KernelIdeal := fun m ρ hp =>
  (θ_run Cert.KernelIdeal.defs _ _).mono (fun _ h => ⟨fun c => (h.1 c).1, h.2⟩)
    (SegSum.run_main (F := Ideal) m ρ fun d i => in_range_lt _ _ _ _ (hp d) i)

/-- The reference's frame: its run changes no argument, and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Sums.lean ====
/-
  The segment sums at the ideal values: what a tile's accumulator, the sixteen tiles' sum and the result hold, as sums
  over the rows.
-/
module

public import proofs.«01_k».proof.Proof.Barrier
public import Idealize.ShloMosaic.PureOps.Ideal.Laws

@[expose] public section

noncomputable section

namespace Cert.Proof.SegSum

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-! ## Sums over blocks -/

/-- A sum over `a` blocks of `b`. -/
theorem sum_blocks (g : ℕ → EReal) (a b : ℕ) :
    ∑ n ∈ Finset.range (b * a), g n = ∑ i ∈ Finset.range a, ∑ j ∈ Finset.range b, g (b * i + j) := by
  induction a with
  | zero => simp
  | succ a ih => rw [Nat.mul_succ, Finset.sum_range_add, ih, Finset.sum_range_succ]

/-- Additions made one after another, each of one term at place `k`, add up. -/
theorem foldl_sum {ι α : Type} (step : (α → EReal) → ι → α → EReal) (k : α) (t : ι → EReal) (hs : ∀ g i, step g i k = g k + t i) (l : List ι) :
    ∀ f : α → EReal, l.foldl step f k = f k + (l.map t).sum := by
  induction l with
  | nil => intro f; simp
  | cons i l ih => intro f; rw [List.foldl_cons, ih, hs, List.map_cons, List.sum_cons, add_assoc]

/-! ## A tile's accumulator -/

/-- An indexed store with `add` of sixteen lanes: each segment gains the lanes that name it. -/
theorem storeIdx_add (f : Vec Ideal S4096 .f32) (ix : Fin 1 → IVec S16 32) (v : Vec Ideal S16 .f32) (h) (k : S4096.Idx) :
    (storeIdx (s := S4096) f ix v (fun _ => 1#1) true h k : EReal)
      = f k + ∑ x : Fin 16, if (ix 0 (Shape.ofLane (d := ![16]) x)).toNat = (k 0).val then (v (Shape.ofLane (d := ![16]) x) : EReal) else 0 := by
  rw [Fin.sum_univ_def]
  refine foldl_sum _ k (fun x : Fin 16 => if (ix 0 (Shape.ofLane (d := ![16]) x)).toNat = (k 0).val then (v (Shape.ofLane (d := ![16]) x) : EReal) else 0) (fun g x => ?_) _ f
  have hk : (∀ a : Fin S4096.rank, (k a).val = (idxAt (s := S4096) ix h (Shape.ofLane (d := ![16]) x) a).val) ↔ (ix 0 (Shape.ofLane (d := ![16]) x)).toNat = (k 0).val :=
    ⟨fun e => (e 0).symm, fun e a => by fin_cases a; exact e.symm⟩
  by_cases e : (ix 0 (Shape.ofLane (d := ![16]) x)).toNat = (k 0).val
  · rw [if_pos e]
    refine (if_pos (hk.2 e)).trans ?_
    show (g _ : EReal) + v _ = g k + v _
    have : idxAt (s := S4096) ix h (Shape.ofLane (d := ![16]) x) = k := funext fun a => Fin.ext ((hk.2 e a).symm)
    exact congrArg (fun j => (g j : EReal) + v (Shape.ofLane (d := ![16]) x)) this
  · rw [if_neg e]
    exact (if_neg fun q => e (hk.1 q)).trans (add_zero _).symm

/-- What row `n` of a chunk adds to segment `k`. -/
def term (y : S3136.Idx → EReal) (ic : S3136.Idx → BitVec 32) (k : S4096.Idx) (n : ℕ) : EReal :=
  let i : S3136.Idx := fun a => ⟨n % 3136, by fin_cases a; exact Nat.mod_lt _ (by decide)⟩
  if (ic i).toNat = (k 0).val then y i else 0

/-- Group `n` adds its sixteen rows' terms. -/
theorem accStep_eq (y : S3136.Idx → Elt Ideal .f32) (ic : S3136.Idx → BitVec 32) (hic : ∀ i, (ic i).toNat < 4096) (n : ℕ)
    (f : Vec Ideal S4096 .f32) (k : S4096.Idx) :
    (accStep (F := Ideal) y ic n f k : EReal) = f k + ∑ x ∈ Finset.range 16, term y ic k (16 * n + x) := by
  unfold accStep
  rw [dif_pos fun a x => by fin_cases a; exact hic _]
  rw [storeIdx_add, Finset.sum_range]
  rfl

/-- The accumulator after `n` groups holds the sum of their rows' terms. -/
theorem accN_eq (y : S3136.Idx → Elt Ideal .f32) (ic : S3136.Idx → BitVec 32) (hic : ∀ i, (ic i).toNat < 4096) (k : S4096.Idx) (n : ℕ) :
    (accN (F := Ideal) y ic n k : EReal) = ∑ i ∈ Finset.range (16 * n), term y ic k i := by
  rw [sum_blocks]
  induction n with
  | zero =>
    rw [accN_zero]
    show Ideal.ofBits .f32 0x00000000#32 = _
    rw [Ideal.ofBits_zero_f32]; rfl
  | succ n ih => rw [accN_succ, accStep_eq y ic hic, ih, Finset.sum_range_succ (fun i => ∑ j ∈ Finset.range 16, term y ic k (16 * i + j))]

/-! ## The tiles' sum and the result -/

/-- The rows of a column added up. -/
theorem colSum_eq (r : ℕ → EReal) : (colSum (F := Ideal) (fun i : Fin 16 => r i.val) : EReal) = ∑ s ∈ Finset.range 16, r s := by
  simp only [Finset.sum_range_succ, Finset.sum_range_zero, zero_add]
  rfl

/-- What row `n` of all adds to segment `k`, with `g` the rows' values and `bt` their segments: nothing past the last row. -/
def part (g : ℕ → EReal) (bt : S100000.Idx → BitVec 32) (k : S4096.Idx) (n : ℕ) : EReal :=
  if h : n < 100000 then if (bt fun a => ⟨n, by fin_cases a; exact h⟩).toNat = (k 0).val then g n else 0 else 0

/-- The rows `y` of call `q` are the rows' values `g`, and zero past the last row. -/
def Good (g : ℕ → EReal) (q : ℕ) (y : S50176.Idx → Elt Ideal .f32) : Prop :=
  ∀ j : S50176.Idx, (y j : EReal) = if 50176 * q + (j 0).val < 100000 then g (50176 * q + (j 0).val) else 0

/-- A row of a tile's chunk adds what that row of all adds. -/
theorem term_eq (g : ℕ → EReal) (bt : S100000.Idx → BitVec 32) (q s : ℕ) (hs : s < 16) (y : S50176.Idx → Elt Ideal .f32) (hy : Good g q y)
    (k : S4096.Idx) (i : ℕ) (hi : i < 3136) : term (yChunk s y) (iChunk bt q s) k i = part g bt k (50176 * q + (3136 * s + i)) := by
  have ei : i % 3136 = i := Nat.mod_eq_of_lt hi
  have ej : (3136 * s + i) % 50176 = 3136 * s + i := Nat.mod_eq_of_lt (by omega)
  have ey : ∀ I : S3136.Idx, (I 0).val = i → (yChunk s y I : EReal) = if 50176 * q + (3136 * s + i) < 100000 then g (50176 * q + (3136 * s + i)) else 0 := by
    intro I hI
    unfold yChunk
    rw [hy]
    show (if 50176 * q + (3136 * s + (I 0).val) % 50176 < 100000 then g (50176 * q + (3136 * s + (I 0).val) % 50176) else 0) = _
    rw [hI, ej]
  have ec : ∀ I : S3136.Idx, (I 0).val = i → ∀ h : 50176 * q + (3136 * s + i) < 100000,
      iChunk bt q s I = bt fun a => ⟨50176 * q + (3136 * s + i), by fin_cases a; exact h⟩ := by
    intro I hI h
    unfold iChunk
    rw [dif_pos (by omega)]
    exact congrArg bt (funext fun a => Fin.ext (by show 50176 * q + 3136 * s + (I 0).val = 50176 * q + (3136 * s + i); omega))
  unfold term part
  dsimp only
  by_cases h : 50176 * q + (3136 * s + i) < 100000
  · rw [dif_pos h, ey _ ei, ec _ ei h, if_pos h]
  · rw [dif_neg h, ey _ ei, if_neg h, ite_self]

/-- Call `q`'s sum at segment `k` is the sum of its rows' parts. -/
theorem SUMk_eq (Λv : Vals Ideal) (d : Dev nD) (g : ℕ → EReal) (hb : ∀ i, (Λv.bt d i).toNat < 4096) (q : ℕ)
    (hy : ∀ y, Λv.yOK q d y → Good g q y) (k : S4096.Idx) (v : Elt Ideal .f32) (h : SUMk Λv d q k v) :
    (v : EReal) = ∑ n ∈ Finset.range 50176, part g (Λv.bt d) k (50176 * q + n) := by
  obtain ⟨rows, hr, rfl⟩ := h
  rw [colSum_eq (fun s => rows s k), sum_blocks (fun n => part g (Λv.bt d) k (50176 * q + n)) 16 3136]
  refine Finset.sum_congr rfl fun s hs => ?_
  have hs := Finset.mem_range.1 hs
  obtain ⟨y, hok, e⟩ := hr ⟨s, hs⟩
  rw [show rows s = _ from e, accN_eq _ _ (iChunk_lt _ hb _ _)]
  exact Finset.sum_congr rfl fun i hi => term_eq g _ q s hs y (hy y hok) k i (Finset.mem_range.1 hi)

/-- The result at segment `k` is the sum of the values of the rows of that segment. -/
theorem OUTk_eq (Λv : Vals Ideal) (d : Dev nD) (g : ℕ → EReal) (hb : ∀ i, (Λv.bt d i).toNat < 4096)
    (hy : ∀ q, q < 2 → ∀ y, Λv.yOK q d y → Good g q y) (k : S4096.Idx) (v : Elt Ideal .f32) (h : OUTk Λv d k v) :
    (v : EReal) = ∑ n : Fin 100000, if (Λv.bt d fun a => ⟨n.val, by fin_cases a; exact n.isLt⟩).toNat = (k 0).val then g n.val else 0 := by
  obtain ⟨u, p, hu, hp, rfl⟩ := h
  show (u : EReal) + p = _
  rw [SUMk_eq Λv d g hb 1 (hy 1 (by decide)) k u hu, SUMk_eq Λv d g hb 0 (hy 0 (by decide)) k p hp, add_comm]
  have e : ∑ n ∈ Finset.range (100000 + 352), part g (Λv.bt d) k n
      = ∑ n ∈ Finset.range 50176, part g (Λv.bt d) k (50176 * 0 + n) + ∑ n ∈ Finset.range 50176, part g (Λv.bt d) k (50176 * 1 + n) := by
    rw [show (100000 + 352 : ℕ) = 50176 + 50176 from rfl, Finset.sum_range_add]
    simp only [Nat.mul_zero, Nat.zero_add, Nat.mul_one]
  rw [← e, Finset.sum_range_add, Finset.sum_eq_zero (s := Finset.range 352), add_zero, Finset.sum_range]
  · exact Finset.sum_congr rfl fun n _ => dif_pos n.isLt
  · intro n _
    exact dif_neg (by omega)

end Cert.Proof.SegSum

end
-- ==== Proof.Rows.lean ====
/-
  The pipelines' rows at the ideal values: row `n` of all holds the product of row `n` of the array by the weights, plus
  the bias, and every row past the last holds zero.
-/
module

public import proofs.«01_k».proof.Proof.Pipe2
public import proofs.«01_k».proof.Proof.Sums
public import Idealize.ShloMosaic.Lib.StackMember
public import Idealize.ShloMosaic.Lib.Affine
public import Idealize.ShloMosaic.Lib.WordArith

@[expose] public section

noncomputable section

namespace Cert.Proof.SegSum

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

/-! ## A block's row -/

/-- What a pipeline's body stores, at block number `n` counted from the `o`-th. -/
def payOf (o : BitVec 32) (n : ℕ) (v0 : Vec Ideal S1x128 .f32) (v2 : Vec Ideal S12544x128 .f32) (v4 : Elt Ideal .f32) : FVec Ideal S1x12544 .f32 :=
  select (cmpi .slt (addi (broadcast S1x12544 (Scalar.muli (Scalar.addi (BitVec.ofNat 32 n) o) 12544#32))
      (iota .tc S1x12544 32 [1] iota_S1x12544_d1_w32)) (broadcast S1x12544 100000#32))
    (addf (matmul (F := Ideal) (φ₁ := .f32) (φ₂ := .f32) dot_S1x128_S12544x128_S1x12544_1_1_0_0_n_n none
      (shapeCast S1x128 (α := Ideal .f32) v0 shapeCasts_S1x128_S1x128) v2
      (constant S1x12544 .f32 0x00000000#32)) (broadcast S1x12544 v4))
    (broadcast S1x12544 (Scalar.ofBits .f32 0x00000000#32))

theorem pay0_eq (i : grid0.Coords) (v0 : Vec Ideal S1x128 .f32) (v2 : Vec Ideal S12544x128 .f32) (v4 : Elt Ideal .f32) :
    k0_pay1 i v0 v2 v4 = shapeCast S1x1x12544 (payOf 0#32 (i 0).val v0 v2 v4) shapeCasts_S1x12544_S1x1x12544 := rfl
theorem pay2_eq (i : grid2.Coords) (v0 : Vec Ideal S1x128 .f32) (v2 : Vec Ideal S12544x128 .f32) (v4 : Elt Ideal .f32) :
    k2_pay1 i v0 v2 v4 = shapeCast S1x1x12544 (payOf 4#32 (i 0).val v0 v2 v4) shapeCasts_S1x12544_S1x1x12544 := rfl

/-- A place of the block's vector, in the block. -/
theorem cast_at (f : S1x12544.Idx → EReal) (j : S1x1x12544.Idx) :
    shapeCast S1x1x12544 f shapeCasts_S1x12544_S1x1x12544 j = f (ix2 0 (j 2)) := by
  refine congrArg f (Shape.reshapeEquiv_eq_of_rowMajor _ ?_)
  rw [Shape.rowMajor_val_two, Shape.rowMajor_val_three]
  have h0 := (j 0).isLt
  have h1 := (j 1).isLt
  show 0 * 12544 + (j 2).val = ((j 0).val * 1 + (j 1).val) * 12544 + (j 2).val
  have e0 : (j 0).val = 0 := Nat.lt_one_iff.1 h0
  have e1 : (j 1).val = 0 := Nat.lt_one_iff.1 h1
  rw [e0, e1]

/-- The product of the weights by a block, at column `c`: the sum over the contracted coordinate. -/
theorem dot_at (v0 : Vec Ideal S1x128 .f32) (v2 : Vec Ideal S12544x128 .f32) (c : Fin 12544) :
    (matmul (F := Ideal) (φ₁ := .f32) (φ₂ := .f32) dot_S1x128_S12544x128_S1x12544_1_1_0_0_n_n none v0 v2 (constant S1x12544 .f32 0x00000000#32) (ix2 0 c) : EReal)
      = ∑ k : Fin 128, (v0 (ix2 0 k) : EReal) * v2 (ix2 c k) := by
  refine (Idealize.ShloMosaic.Ideal.matmul_constant_zero_apply _ _ _ _ _).trans ?_
  rw [← Equiv.sum_comp (contrEquiv1 dot_S1x128_S12544x128_S1x12544_1_1_0_0_n_n 128 rfl rfl).symm]
  refine Finset.sum_congr rfl fun k _ => ?_
  have ck := contrEquiv1_symm_val dot_S1x128_S12544x128_S1x12544_1_1_0_0_n_n 128 rfl rfl k
  have l : dot_S1x128_S12544x128_S1x12544_1_1_0_0_n_n.lhsIdx (ix2 0 c) ((contrEquiv1 _ 128 rfl rfl).symm k) = ix2 0 k := by
    funext ax; apply Fin.ext
    match ax with
    | ⟨0, _⟩ => rfl
    | ⟨1, _⟩ => exact ck
  have r : dot_S1x128_S12544x128_S1x12544_1_1_0_0_n_n.rhsIdx (ix2 0 c) ((contrEquiv1 _ 128 rfl rfl).symm k) = ix2 c k := by
    funext ax; apply Fin.ext
    match ax with
    | ⟨0, _⟩ => rfl
    | ⟨1, _⟩ => exact ck
  rw [l, r]

/-- The column test, in numbers. -/
theorem col_lt (p n c : ℕ) (h : (n + p) * 12544 + c < 2 ^ 31) :
    IntOp.cmpi .slt (IntOp.addi (IntOp.muli (IntOp.addi (BitVec.ofNat 32 n) (BitVec.ofNat 32 p)) 12544#32) (BitVec.ofNat 32 c)) 100000#32 = 1#1
      ↔ (n + p) * 12544 + c < 100000 := by
  rw [IntOp.cmpi_slt]
  have e : IntOp.addi (IntOp.muli (IntOp.addi (BitVec.ofNat 32 n) (BitVec.ofNat 32 p)) 12544#32) (BitVec.ofNat 32 c)
      = BitVec.ofNat 32 ((n + p) * 12544 + c) := by
    rw [BitVec.ofNat_add, BitVec.ofNat_mul, BitVec.ofNat_add]; rfl
  rw [e, WordArith.toInt_ofNat_small _ h]
  have : (100000#32).toInt = 100000 := by decide
  rw [this]; omega

/-- What a body stores at column `c`. -/
theorem payOf_at (p n : ℕ) (hp : p ≤ 4) (hn : n < 4) (v0 : Vec Ideal S1x128 .f32) (v2 : Vec Ideal S12544x128 .f32) (v4 : Elt Ideal .f32) (c : Fin 12544) :
    (payOf (BitVec.ofNat 32 p) n v0 v2 v4 (ix2 0 c) : EReal)
      = if (n + p) * 12544 + c.val < 100000 then (∑ k : Fin 128, (v0 (ix2 0 k) : EReal) * v2 (ix2 c k)) + v4 else 0 := by
  have hc := c.isLt
  have hw := col_lt p n c.val (by omega)
  have hi : iota .tc S1x12544 32 [1] iota_S1x12544_d1_w32 (ix2 0 c) = BitVec.ofNat 32 c.val := by
    show BitVec.ofNat 32 (0 * 12544 + c.val) = _
    rw [Nat.zero_mul, Nat.zero_add]
  have hs : shapeCast S1x128 (α := Ideal .f32) v0 shapeCasts_S1x128_S1x128 = v0 := by
    funext j; exact congrArg v0 (Shape.reshapeEquiv_self _ j)
  unfold payOf
  rw [hs]
  show Scalar.select (IntOp.cmpi .slt (IntOp.addi (IntOp.muli (IntOp.addi (BitVec.ofNat 32 n) (BitVec.ofNat 32 p)) 12544#32)
    (iota .tc S1x12544 32 [1] iota_S1x12544_d1_w32 (ix2 0 c))) 100000#32)
    ((matmul (F := Ideal) (φ₁ := .f32) (φ₂ := .f32) dot_S1x128_S12544x128_S1x12544_1_1_0_0_n_n none v0 v2 (constant S1x12544 .f32 0x00000000#32) (ix2 0 c) : EReal) + v4)
    (Idealize.ShloMosaic.Ideal.ofBits .f32 0x00000000#32) = _
  rw [hi, dot_at, Idealize.ShloMosaic.Ideal.ofBits_zero_f32]
  unfold Scalar.select
  by_cases h : (n + p) * 12544 + c.val < 100000
  · rw [if_pos h]; exact if_pos (hw.2 h)
  · rw [if_neg h]; exact if_neg fun q => h (hw.1 q)

/-! ## The blocks found -/

variable (I : PIn Ideal)

theorem tr0_at (t : Fin cfg0.N) : cc0_transform_0 (grid0.coords t) = ![t.val, 0] := by
  revert t; decide
theorem tr2_at (t : Fin cfg2.N) : cc2_transform_0 (grid2.coords t) = ![t.val + 4, 0] := by
  revert t; decide
theorem co0 (t : Fin cfg0.N) : (grid0.coords t 0).val = t.val := by revert t; decide
theorem co2 (t : Fin cfg2.N) : (grid2.coords t 0).val = t.val := by revert t; decide

/-- The first pipeline's block at point `t`, inside the array. -/
theorem xBlk0_at (d : Dev nD) (t : Fin cfg0.N) (e : S12544x128.Idx → Elt Ideal .f32) (c : Fin 12544) (k : Fin 128) (h : (t.val + 0) * 12544 + c.val < 100000) :
    xBlk0 I d t e (ix2 c k) = I.x d (ix2 ⟨(t.val + 0) * 12544 + c.val, h⟩ k) := by
  have hx : ∀ a, ((ix2 c k : S12544x128.Idx) a).val < (cfg0.win 0).xsize (cfg0.grid.coords t) a := by
    intro a
    show ((ix2 c k : S12544x128.Idx) a).val < (Pipeline.Clip.of (cc0_transform_0 (grid0.coords t) a) (S12544x128.size a) (S100000x128.size a)).extent (S12544x128.size a)
    rw [tr0_at]
    unfold Pipeline.Clip.of
    split
    · exact (ix2 c k a).isLt
    · next hn =>
      match a with
      | ⟨0, _⟩ => show c.val < 100000 - (t.val + 0) * 12544; omega
      | ⟨1, _⟩ => exact absurd (show (0 + 1) * 128 ≤ 128 from le_refl _) hn
  unfold xBlk0 Pipeline.Window.fill
  rw [dif_pos (((cfg0.win 0).moved_iff _ _).mpr hx)]
  refine congrArg (I.x d) (funext fun a => Fin.ext ?_)
  refine (Pipeline.Window.rect_emb_val (cfg0.win 0) t _ a).trans ?_
  show cc0_transform_0 (grid0.coords t) a * S12544x128.size a + ((ix2 c k : S12544x128.Idx) a).val = _
  rw [tr0_at]
  match a with
  | ⟨0, _⟩ => rfl
  | ⟨1, _⟩ => show 0 * 128 + k.val = k.val; omega

/-- The second pipeline's block at point `t`, inside the array. -/
theorem xBlk2_at (d : Dev nD) (t : Fin cfg2.N) (e : S12544x128.Idx → Elt Ideal .f32) (c : Fin 12544) (k : Fin 128) (h : (t.val + 4) * 12544 + c.val < 100000) :
    xBlk2 I d t e (ix2 c k) = I.x d (ix2 ⟨(t.val + 4) * 12544 + c.val, h⟩ k) := by
  have hx : ∀ a, ((ix2 c k : S12544x128.Idx) a).val < (cfg2.win 0).xsize (cfg2.grid.coords t) a := by
    intro a
    show ((ix2 c k : S12544x128.Idx) a).val < (Pipeline.Clip.of (cc2_transform_0 (grid2.coords t) a) (S12544x128.size a) (S100000x128.size a)).extent (S12544x128.size a)
    rw [tr2_at]
    unfold Pipeline.Clip.of
    split
    · exact (ix2 c k a).isLt
    · next hn =>
      match a with
      | ⟨0, _⟩ => show c.val < 100000 - (t.val + 4) * 12544; omega
      | ⟨1, _⟩ => exact absurd (show (0 + 1) * 128 ≤ 128 from le_refl _) hn
  unfold xBlk2 Pipeline.Window.fill
  rw [dif_pos (((cfg2.win 0).moved_iff _ _).mpr hx)]
  refine congrArg (I.x d) (funext fun a => Fin.ext ?_)
  refine (Pipeline.Window.rect_emb_val (cfg2.win 0) t _ a).trans ?_
  show cc2_transform_0 (grid2.coords t) a * S12544x128.size a + ((ix2 c k : S12544x128.Idx) a).val = _
  rw [tr2_at]
  match a with
  | ⟨0, _⟩ => rfl
  | ⟨1, _⟩ => show 0 * 128 + k.val = k.val; omega

/-! ## The rows -/

/-- The value of row `n`: its product by the weights plus the bias, for a row of the array. -/
def rowVal (x : S100000x128.Idx → EReal) (w : S1x128.Idx → EReal) (b : EReal) (n : ℕ) : EReal :=
  if h : n < 100000 then (∑ k : Fin 128, w (ix2 0 k) * x (ix2 ⟨n, h⟩ k)) + b else 0

theorem div_blk {N : ℕ} (h : N < 50176) : N / 12544 < 4 := Nat.div_lt_of_lt_mul h
theorem split_blk (N : ℕ) : (N / 12544 * 1 + 0) * 12544 + N % 12544 = N := by
  rw [Nat.mul_one, Nat.add_zero, Nat.div_add_mod']
theorem split_row (N p q : ℕ) (h : p * 12544 = 50176 * q) : (N / 12544 + p) * 12544 + N % 12544 = 50176 * q + N := by
  rw [Nat.add_mul, h, Nat.add_right_comm, Nat.div_add_mod', Nat.add_comm]

/-- A pipeline's result reshaped to a vector holds the rows' values: `p` is the block the pipeline starts at. -/
theorem good_of (p q : ℕ) (hpq : p * 12544 = 50176 * q) (x : S100000x128.Idx → EReal) (w : S1x128.Idx → EReal) (b : EReal)
    (G : S4x1x12544.Idx → Elt Ideal .f32)
    (hG : ∀ i : S4x1x12544.Idx, (G i : EReal) = if ((i 0).val + p) * 12544 + (i 2).val < 100000 then rowVal x w b (((i 0).val + p) * 12544 + (i 2).val) else 0) :
    Good (rowVal x w b) q (shapeCast S50176 G shapeCasts_S4x1x12544_S50176) := by
  intro j
  have hj : (j 0).val < 50176 := (j 0).isLt
  have e : Shape.reshapeEquiv shapeCasts_S4x1x12544_S50176 j
      = (fun a => match a with | 0 => ⟨(j 0).val / 12544, div_blk hj⟩ | 1 => ⟨0, by decide⟩ | 2 => ⟨(j 0).val % 12544, Nat.mod_lt _ (by decide)⟩ : S4x1x12544.Idx) := by
    refine Shape.reshapeEquiv_eq_of_rowMajor _ ?_
    rw [Shape.rowMajor_val_three, Shape.rowMajor_val_one]
    exact split_blk (j 0).val
  show (G (Shape.reshapeEquiv shapeCasts_S4x1x12544_S50176 j) : EReal) = _
  rw [e, hG]
  have en : ((j 0).val / 12544 + p) * 12544 + (j 0).val % 12544 = 50176 * q + (j 0).val := split_row _ p q hpq
  show (if ((j 0).val / 12544 + p) * 12544 + (j 0).val % 12544 < 100000 then rowVal x w b (((j 0).val / 12544 + p) * 12544 + (j 0).val % 12544) else 0) = _
  rw [en]

/-- The first pipeline's result reshaped to a vector. -/
theorem good0 (d : Dev nD) (G : S4x1x12544.Idx → Elt Ideal .f32) (h : yRes0 I d G) :
    Good (rowVal (I.x d) (I.w d) (I.b d b0)) 0 (shapeCast S50176 G shapeCasts_S4x1x12544_S50176) := by
  refine good_of 0 0 rfl _ _ _ G fun i => ?_
  obtain ⟨t, X, ht, ⟨e, rfl⟩, hi⟩ := h i
  have hn : t.val < 4 := by rw [ht]; exact (i 0).isLt
  rw [hi, pay0_eq, cast_at]
  refine (payOf_at 0 _ (by decide) (by rw [co0]; exact hn) _ _ _ (i 2)).trans ?_
  rw [co0, ← ht]
  by_cases hc : (t.val + 0) * 12544 + (i 2).val < 100000
  · rw [if_pos hc, if_pos hc]
    unfold rowVal
    rw [dif_pos hc]
    refine congrArg (· + I.b d b0) (Finset.sum_congr rfl fun k _ => ?_)
    exact congrArg (I.w d (ix2 0 k) * ·) (xBlk0_at I d t e (i 2) k hc)
  · rw [if_neg hc, if_neg hc]

/-- The second pipeline's result reshaped to a vector. -/
theorem good2 (d : Dev nD) (G : S4x1x12544.Idx → Elt Ideal .f32) (h : yRes2 I d G) :
    Good (rowVal (I.x d) (I.w d) (I.b d b0)) 1 (shapeCast S50176 G shapeCasts_S4x1x12544_S50176) := by
  refine good_of 4 1 rfl _ _ _ G fun i => ?_
  obtain ⟨t, X, ht, ⟨e, rfl⟩, hi⟩ := h i
  have hn : t.val < 4 := by rw [ht]; exact (i 0).isLt
  rw [hi, pay2_eq, cast_at]
  refine (payOf_at 4 _ (by decide) (by rw [co2]; exact hn) _ _ _ (i 2)).trans ?_
  rw [co2, ← ht]
  by_cases hc : (t.val + 4) * 12544 + (i 2).val < 100000
  · rw [if_pos hc, if_pos hc]
    unfold rowVal
    rw [dif_pos hc]
    refine congrArg (· + I.b d b0) (Finset.sum_congr rfl fun k _ => ?_)
    exact congrArg (I.w d (ix2 0 k) * ·) (xBlk2_at I d t e (i 2) k hc)
  · rw [if_neg hc, if_neg hc]

end Cert.Proof.SegSum

end
-- ==== Proof.Reference.lean ====
/-
  The reference's result, read at a segment: the sum of the values of the rows of that segment.
-/
module

public import proofs.«01_k».proof.Proof.Gen.ReferenceIdeal
public import Idealize.ShloMosaic.Lib.StackMember
public import Idealize.ShloMosaic.Lib.Routing.OpsPair
public import Idealize.ShloMosaic.PureOps.Ideal.Laws

@[expose] public section

noncomputable section

namespace Cert.Proof.Ref

open Cert.ReferenceIdeal Cert.ReferenceIdeal.Gen
open Idealize.ShloMosaic Idealize.ShloMosaic.ValueIdx

/-- Row `n` goes to the segment its number names, and to no other. -/
theorem lands (n : Fin 100000) (idx : IVec S100000x1 32) (r : Fin 4096) :
    scatter_S4096x1_S100000x1_S100000x1_1_0_0_1.resultIdx? (ix2 n 0) idx = some (ix2 r 0) ↔ (idx (ix2 n 0)).toInt = (r.val : Int) := by
  have hs : scatter_S4096x1_S100000x1_S100000x1_1_0_0_1.start (ix2 n 0) idx 0 = (idx (ix2 n 0)).toInt := by
    unfold ScatterDims.start
    refine (dif_pos (show (0 : Fin 2) ∈ [(0 : Fin 2)] from List.mem_singleton.2 rfl)).trans ?_
    refine congrArg (fun j => (idx j).toInt) (funext fun a => Fin.ext ?_)
    match a with
    | ⟨0, _⟩ => rfl
    | ⟨1, _⟩ => rfl
  have hs1 : scatter_S4096x1_S100000x1_S100000x1_1_0_0_1.start (ix2 n 0) idx 1 = 0 := by
    unfold ScatterDims.start
    exact dif_neg (show ¬(1 : Fin 2) ∈ [(0 : Fin 2)] by decide)
  have hw0 : scatter_S4096x1_S100000x1_S100000x1_1_0_0_1.window (ix2 n 0) 0 = 0 := rfl
  have hw1 : scatter_S4096x1_S100000x1_S100000x1_1_0_0_1.window (ix2 n 0) 1 = 0 := rfl
  rw [Routing.resultIdx?_eq_some]
  constructor
  · intro h
    have h0 := h 0
    rw [hs, hw0] at h0
    have : (idx (ix2 n 0)).toInt + ((0 : ℕ) : Int) = (r.val : Int) := h0
    omega
  · intro h a
    match a with
    | ⟨0, _⟩ =>
      have : (idx (ix2 n 0)).toInt + ((0 : ℕ) : Int) = (r.val : Int) := by omega
      exact (congrArg₂ (fun (p : Int) (q : ℕ) => p + (q : Int)) hs hw0).trans this
    | ⟨1, _⟩ => exact (congrArg₂ (fun (p : Int) (q : ℕ) => p + (q : Int)) hs1 hw1)

/-- The rows' values at row `n`: its product by the weights, plus the bias. -/
theorem row_at (x : FVec Ideal S100000x128 .f32) (w : FVec Ideal S128x1 .f32) (b : FVec Ideal S1 .f32) (n : Fin 100000) :
    (addf (Host.dotGeneral dot_S100000x128_S128x1_S100000x1_1_0_0_1_n_n none x w)
      (broadcastInDim S100000x1 ![0, 1] bcast_S1x1_S100000x1_0_1 (broadcastInDim S1x1 ![1] bcast_S1_S1x1_1 b)) (ix2 n 0) : EReal)
      = (∑ k : Fin 128, (x (ix2 n k) : EReal) * w (ix2 k 0)) + b (ix1 0) := by
  refine congrArg₂ (fun p q : EReal => p + q) ?_ ?_
  · exact StackMember.dotGeneral_plain_apply none x w n 0
  · refine congrArg b (funext fun a => Fin.ext ?_)
    match a with
    | ⟨0, _⟩ => rfl

/-- The reference's result at a segment. -/
theorem result_at (x : FVec Ideal S100000x128 .f32) (bt : IVec S100000 32) (w : FVec Ideal S128x1 .f32) (b : FVec Ideal S1 .f32)
    (hb : ∀ i, (bt i).toNat < 4096) (k : S4096.Idx) :
    (shapeCast S4096 (Host.scatterAdd scatter_S4096x1_S100000x1_S100000x1_1_0_0_1
        (broadcastInDim S4096x1 ![] bcast_S_S4096x1 (constant (F := Ideal) S_ .f32 0x00000000#32))
        (broadcastInDim S100000x1 ![0] bcast_S100000_S100000x1_0 bt)
        (addf (Host.dotGeneral dot_S100000x128_S128x1_S100000x1_1_0_0_1_n_n none x w)
          (broadcastInDim S100000x1 ![0, 1] bcast_S1x1_S100000x1_0_1 (broadcastInDim S1x1 ![1] bcast_S1_S1x1_1 b)))) shapeCasts_S4096x1_S4096 k : EReal)
      = ∑ n : Fin 100000, if (bt (ix1 n)).toNat = (k 0).val then (∑ c : Fin 128, (x (ix2 n c) : EReal) * w (ix2 c 0)) + b (ix1 0) else 0 := by
  have hk : Shape.reshapeEquiv shapeCasts_S4096x1_S4096 k = (ix2 (k 0 : Fin 4096) 0 : S4096x1.Idx) := by
    refine Shape.reshapeEquiv_eq_of_rowMajor _ ?_
    refine (Shape.rowMajor_val_two (d := ![4096, 1]) _).trans (Eq.trans ?_ (Shape.rowMajor_val_one (d := ![4096]) k).symm)
    exact Nat.mul_one (k 0).val
  have hi : ∀ n : Fin 100000, broadcastInDim S100000x1 ![0] bcast_S100000_S100000x1_0 bt (ix2 n 0) = bt (ix1 n) := fun n => by
    refine congrArg bt (funext fun a => Fin.ext ?_)
    match a with
    | ⟨0, _⟩ => rfl
  have hz : (broadcastInDim S4096x1 ![] bcast_S_S4096x1 (constant (F := Ideal) S_ .f32 0x00000000#32) (ix2 (k 0) 0) : EReal) = 0 :=
    Ideal.ofBits_zero_f32
  unfold shapeCast
  rw [hk]
  unfold Host.scatterAdd
  show (broadcastInDim S4096x1 ![] bcast_S_S4096x1 (constant (F := Ideal) S_ .f32 0x00000000#32) (ix2 (k 0) 0) : EReal) + Finset.sum _ _ = _
  rw [hz, zero_add, Finset.sum_filter, sum_idx2]
  refine Finset.sum_congr rfl fun n _ => ?_
  rw [Fin.sum_univ_one]
  have hl := lands n (broadcastInDim S100000x1 ![0] bcast_S100000_S100000x1_0 bt) (k 0)
  rw [hi] at hl
  have hbn := hb (ix1 n)
  have hn : (bt (ix1 n)).toInt = ((bt (ix1 n)).toNat : Int) := BitVec.toInt_eq_toNat_of_lt (by omega)
  rw [hn] at hl
  refine if_congr (hl.trans Nat.cast_inj) (row_at x w b n) rfl

end Cert.Proof.Ref

end
-- ==== Proof.Algebra.lean ====
/-
  The value claim: at the ideal values, the program and the reference end with one and the same array of segment sums.
-/
module

public import proofs.«01_k».proof.Defs
public import proofs.«01_k».proof.Proof.Frames
public import proofs.«01_k».proof.Proof.Rows
public import proofs.«01_k».proof.Proof.Reference

@[expose] public section

noncomputable section

namespace Cert.Proof

open Idealize.ShloMosaic Idealize.ShloMosaic.TcCoe Idealize.ShloMosaic.ValueIdx Idealize.SL.Sem

/-- The reference's frame where its segment numbers are in range. -/
theorem frame_reference_in_range : Cert.quiescent_ReferenceIdeal_pre_in_range := fun m ρ _ => frame_reference m ρ trivial

namespace SegSum

open Cert.KernelIdeal Cert.KernelIdeal.Gen

variable (m : (ℓ : Loc nD τ sig) → Buf (Elt Ideal) ℓ)

/-- The weights as one row: the column's entries in order. -/
theorem w_row (w : S128x1.Idx → EReal) (k : Fin 128) : shapeCast S1x128 w shapeCasts_S128x1_S1x128 (ix2 0 k) = w (ix2 k 0) := by
  refine congrArg w (Shape.reshapeEquiv_eq_of_rowMajor _ ?_)
  refine (Shape.rowMajor_val_two (d := ![128, 1]) _).trans (Eq.trans ?_ (Shape.rowMajor_val_two (d := ![1, 128]) _).symm)
  show k.val * 1 + 0 = 0 * 128 + k.val
  omega

/-- The value of row `n`: its product by the weights, plus the bias. -/
def rowOf (x : S100000x128.Idx → EReal) (w : S128x1.Idx → EReal) (b : S1.Idx → EReal) (n : Fin 100000) : EReal :=
  (∑ c : Fin 128, x (ix2 n c) * w (ix2 c 0)) + b (ix1 0)

/-- The segment sums: at segment `k`, the sum of the values of the rows numbered `k`. -/
def segSums (x : S100000x128.Idx → EReal) (bt : S100000.Idx → BitVec 32) (w : S128x1.Idx → EReal) (b : S1.Idx → EReal) (k : S4096.Idx) : EReal :=
  ∑ n : Fin 100000, if (bt (ix1 n)).toNat = (k 0).val then rowOf x w b n else 0

/-- The rows the pipelines compute. -/
def rows (d : Dev nD) : ℕ → EReal :=
  rowVal (m (xLoc d)) (shapeCast S1x128 (m (wLoc d)) shapeCasts_S128x1_S1x128) (m (cLoc d) b0)

/-- Row `n` of these, in the arguments. -/
theorem rows_at (d : Dev nD) (n : Fin 100000) :
    rows m d n.val = rowOf (m (xLoc d)) (m (wLoc d)) (m (cLoc d)) n := by
  unfold rows rowVal rowOf
  rw [dif_pos n.isLt]
  refine congrArg₂ (fun p q : EReal => p + q) (Finset.sum_congr rfl fun k _ => ?_) ?_
  · rw [w_row, mul_comm]
  · refine congrArg (m (cLoc d)) (funext fun a => ?_)
    match a with
    | ⟨0, _⟩ => rfl

/-- Whatever array the SparseCore calls are launched on holds the rows' values. -/
theorem good_all (d : Dev nD) (q : ℕ) (hq : q < 2) (y : S50176.Idx → Elt Ideal .f32) (h : (Λm m).yOK q d y) : Good (rows m d) q y := by
  match q, hq with
  | 0, _ =>
    obtain ⟨G, hG, rfl⟩ := h
    exact good0 (I0 m) d G hG
  | 1, _ =>
    obtain ⟨G, hG, rfl⟩ := h
    exact good2 (I1 m) d G hG

/-- The result at segment `k`, in the arguments: the sum of its rows' values. -/
theorem out_at (hb : ∀ d i, (m (bLoc d) i).toNat < 4096) (d : Dev nD) (k : S4096.Idx) (v : Elt Ideal .f32) (h : OUTk (Λm m) d k v) :
    (v : EReal) = segSums (m (xLoc d)) (m (bLoc d)) (m (wLoc d)) (m (cLoc d)) k := by
  refine (OUTk_eq (Λm m) d (rows m d) (hb d) (good_all m d) k v h).trans ?_
  refine Finset.sum_congr rfl fun n _ => ?_
  rw [rows_at]
  have e : (fun a => ⟨n.val, by fin_cases a; exact n.isLt⟩ : S100000.Idx) = ix1 n := by
    funext a
    match a with
    | ⟨0, _⟩ => rfl
  rw [e]
  rfl

end SegSum

/-- From the same arguments, their segment numbers in range, the program and the reference end with equal results. -/
theorem algebraic : Cert.algebraic_KernelIdeal_ReferenceIdeal := by
  intro m g m' g' hp hm
  have hb : ∀ d i, (m (SegSum.bLoc d) i).toNat < 4096 := fun d i => in_range_lt _ _ _ _ (hp d) i
  refine ⟨fun d => SegSum.segSums (m (SegSum.xLoc d)) (m (SegSum.bLoc d)) (m (SegSum.wLoc d)) (m (SegSum.cLoc d)), ?_, ?_⟩
  · refine (θ_run Cert.KernelIdeal.defs _ _).mono (fun r h c => ⟨?_, (h.1 c).1⟩) (SegSum.run_main (F := Ideal) m g hb)
    funext k
    exact SegSum.out_at m hb c k _ ((h.1 c).2 k)
  · refine (θ_run Cert.ReferenceIdeal.defs _ _).mono (fun r h c => ⟨(h c).1.trans ?_, (h c).2⟩) (Cert.ReferenceIdeal.Value.run (F := Ideal) m' g')
    obtain ⟨h0, h1, h2, h3⟩ := hm c
    rw [h0, h1, h2, h3]
    funext k
    exact Ref.result_at _ _ _ _ (hb c) k

end Cert.Proof

end
-- ==== Proof.lean ====
/-
  The proof of `Cert.Claim`: the frames (Proof/Frames.lean); that the idealization rewrites nothing; and that the program
  and the reference compute the same segment sums (Proof/Algebra.lean).
-/
module

public import proofs.«01_k».proof.Defs
public import proofs.«01_k».proof.Proof.Frames
public import proofs.«01_k».proof.Proof.Algebra

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Pre_in_range.Gen.facts,
    frame_kernel, frame_ideal, frame_reference, frame_reference_in_range, trivial, algebraic⟩

end Cert.Proof

end
